-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S16x4095 : Shape := ⟨2, ![16, 4095]⟩
abbrev S16x8191 : Shape := ⟨2, ![16, 8191]⟩
abbrev S16x4096 : Shape := ⟨2, ![16, 4096]⟩
abbrev S_ : Shape := ⟨0, ![]⟩

class Facts : Prop where
  slices_S16x8191_S16x4095_0_0 : S16x8191.Slices ![0, 0] S16x4095
  slices_S16x8191_S16x4096_0_4095 : S16x8191.Slices ![0, 4095] S16x4096
  bcast_S_S16x4095 : S_.BroadcastsInDim S16x4095 (![] : Fin 0 → Fin S16x4095.rank)
  reducesTo_S16x4095_S_d0_1 : S16x4095.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg2 : FVec F S16x8191 .f32) (main_v13 : IVec S_ 1) (main_v15 : IVec S16x4096 1) (main_c_5 : IVec S_ 1) : IVec S_ 1 :=
  let main_v16 : IVec S_ 1 := (fun x v => Host.reduce IntOp.andi x v reducesTo_S16x4096_S_d0_1 h_S_) main_v15 main_c_5
  let main_v17 : IVec S_ 1 := andi main_v13 main_v16
  let main_v18 : FVec F S16x4095 .f32 := (extractStridedSlice S16x4095 ![0, 0] · slices_S16x8191_S16x4095_0_0) main_arg2
  let main_cst_6 : FVec F S_ .f32 := constant S_ .f32 0x3F800000#32
  let main_v19 : FVec F S16x4095 .f32 := broadcastInDim S16x4095 ![] bcast_S_S16x4095 main_cst_6
  let main_v20 : IVec S16x4095 1 := cmpf .oeq main_v18 main_v19
  let main_c_7 : IVec S_ 1 := constantI S_ 1 1#1
  let main_v21 : IVec S_ 1 := (fun x v => Host.reduce IntOp.andi x v reducesTo_S16x4095_S_d0_1 h_S_) main_v20 main_c_7
  let main_v22 : IVec S_ 1 := andi main_v17 main_v21
  let main_v23 : FVec F S16x4096 .f32 := (extractStridedSlice S16x4096 ![0, 4095] · slices_S16x8191_S16x4096_0_4095) main_arg2
  let main_cst_8 : FVec F S_ .f32 := constant S_ .f32 0xBF800000#32
  let main_v24 : FVec F S16x4096 .f32 := broadcastInDim S16x4096 ![] bcast_S_S16x4096 main_cst_8
  let main_v25 : IVec S16x4096 1 := cmpf .oeq main_v23 main_v24
  let main_c_9 : IVec S_ 1 := constantI S_ 1 1#1
  let main_v26 : IVec S_ 1 := (fun x v => Host.reduce IntOp.andi x v reducesTo_S16x4096_S_d0_1 h_S_) main_v25 main_c_9
  let main_v27 : IVec S_ 1 := andi main_v22 main_v26
  main_v27

def fn {F : FTy → Type} [FloatOps F] (main_arg0 : FVec F S16x4095 .f32) (main_arg1 : IVec S16x8191 32) (main_arg2 : FVec F S16x8191 .f32) : IVec S_ 1 :=
  let main_v0 : IVec S16x4095 32 := (extractStridedSlice S16x4095 ![0, 0] · slices_S16x8191_S16x4095_0_0) main_arg1
  let main_v1 : IVec S16x4096 32 := (extractStridedSlice S16x4096 ![0, 4095] · slices_S16x8191_S16x4096_0_4095) main_arg1
  let main_v2 : FVec F S16x4095 .f32 := Host.absf main_arg0
  let main_cst : FVec F S_ .f32 := constant S_ .f32 0x7F800000#32
  let main_v3 : FVec F S16x4095 .f32 := broadcastInDim S16x4095 ![] bcast_S_S16x4095 main_cst
  let main_v4 : IVec S16x4095 1 := cmpf .olt main_v2 main_v3
  let main_c : IVec S_ 1 := constantI S_ 1 1#1
  let main_v5 : IVec S_ 1 := (fun x v => Host.reduce IntOp.andi x v reducesTo_S16x4095_S_d0_1 h_S_) main_v4 main_c
  let main_c_0 : IVec S_ 32 := constantI S_ 32 1031798784#32
  let main_v6 : IVec S16x4095 32 := broadcastInDim S16x4095 ![] bcast_S_S16x4095 main_c_0
  let main_v7 : IVec S16x4095 1 := cmpi .sge main_v0 main_v6
  let main_c_1 : IVec S_ 1 := constantI S_ 1 1#1
  let main_v8 : IVec S_ 1 := (fun x v => Host.reduce IntOp.andi x v reducesTo_S16x4095_S_d0_1 h_S_) main_v7 main_c_1
  let main_v9 : IVec S_ 1 := andi main_v5 main_v8
  let main_c_2 : IVec S_ 32 := constantI S_ 32 1166016512#32
  let main_v10 : IVec S16x4095 32 := broadcastInDim S16x4095 ![] bcast_S_S16x4095 main_c_2
  let main_v11 : IVec S16x4095 1 := cmpi .slt main_v0 main_v10
  let main_c_3 : IVec S_ 1 := constantI S_ 1 1#1
  let main_v12 : IVec S_ 1 := (fun x v => Host.reduce IntOp.andi x v reducesTo_S16x4095_S_d0_1 h_S_) main_v11 main_c_3
  let main_v13 : IVec S_ 1 := andi main_v9 main_v12
  let main_c_4 : IVec S_ 32 := constantI S_ 32 0#32
  let main_v14 : IVec S16x4096 32 := broadcastInDim S16x4096 ![] bcast_S_S16x4096 main_c_4
  let main_v15 : IVec S16x4096 1 := cmpi .eq main_v1 main_v14
  let main_c_5 : IVec S_ 1 := constantI S_ 1 1#1
  fn_part1 (F := F) main_arg2 main_v13 main_v15 main_c_5
-- ==== Kernel.lean ====
abbrev S16x4095 : Shape := ⟨2, ![16, 4095]⟩
abbrev S16x8191 : Shape := ⟨2, ![16, 8191]⟩
abbrev S_ : Shape := ⟨0, ![]⟩
abbrev S16x1 : Shape := ⟨2, ![16, 1]⟩
abbrev S16x4096 : Shape := ⟨2, ![16, 4096]⟩
abbrev S16 : Shape := ⟨1, ![16]⟩
abbrev S4096 : Shape := ⟨1, ![4096]⟩
abbrev S4112 : Shape := ⟨1, ![4112]⟩
abbrev S512 : Shape := ⟨1, ![512]⟩
abbrev S8x16 : Shape := ⟨2, ![8, 16]⟩
abbrev S1x4096 : Shape := ⟨2, ![1, 4096]⟩
abbrev S1 : Shape := ⟨1, ![1]⟩
abbrev S1x16 : Shape := ⟨2, ![1, 16]⟩
abbrev S8 : Shape := ⟨1, ![8]⟩

abbrev nBuf : Table → Nat
  | .hbm => 8
  | .shared => 1
  | .local .scVector .vmem => 10
  | _ => 0

abbrev bufTy : (tb : Table) → Fin (nBuf tb) → BufTy
  | .hbm, ⟨0, _⟩ => ⟨S16x4095, .f32⟩
  | .hbm, ⟨1, _⟩ => ⟨S16x8191, .i32⟩
  | .hbm, ⟨2, _⟩ => ⟨S16x8191, .f32⟩
  | .hbm, ⟨3, _⟩ => ⟨S_, .f32⟩
  | .hbm, ⟨4, _⟩ => ⟨S16x1, .f32⟩
  | .hbm, ⟨5, _⟩ => ⟨S16x4096, .f32⟩
  | .hbm, ⟨6, _⟩ => ⟨S16x4096, .i32⟩
  | .hbm, ⟨7, _⟩ => ⟨S16, .f32⟩
  | .shared, ⟨0, _⟩ => ⟨S8x16, .f32⟩
  | .local .scVector .vmem, ⟨0, _⟩ => ⟨S4096, .i32⟩
  | .local .scVector .vmem, ⟨1, _⟩ => ⟨S4096, .i32⟩
  | .local .scVector .vmem, ⟨2, _⟩ => ⟨S4096, .i32⟩
  | .local .scVector .vmem, ⟨3, _⟩ => ⟨S4112, .f32⟩
  | .local .scVector .vmem, ⟨4, _⟩ => ⟨S4112, .f32⟩
  | .local .scVector .vmem, ⟨5, _⟩ => ⟨S512, .i32⟩
  | .local .scVector .vmem, ⟨6, _⟩ => ⟨S512, .i32⟩
  | .local .scVector .vmem, ⟨7, _⟩ => ⟨S512, .i32⟩
  | .local .scVector .vmem, ⟨8, _⟩ => ⟨S16, .f32⟩
  | .local .scVector .vmem, ⟨9, _⟩ => ⟨S8x16, .f32⟩
  | _, _ => ⟨S16x4095, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 5 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v2_scv : Ref sig .scVector := ⟨.hbm, 6, rfl⟩
abbrev main_v1_scv : Ref sig .scVector := ⟨.hbm, 5, rfl⟩
abbrev main_v3_scv : Ref sig .scVector := ⟨.hbm, 7, rfl⟩
abbrev cc0_scratch9 : Ref sig .scVector := ⟨.shared, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch10 : Ref sig .scVector := ⟨.vmem, 9, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c8_i32_0 : BitVec 32 := 8#32
  let v3 : BitVec 1 := Scalar.cmpi .slt arg1 c8_i32_0
  let v4 : BitVec 32 := Scalar.extui v3
  let c0_i32 : BitVec 32 := 0#32
  let v5 : BitVec 1 := Scalar.cmpi .ne v4 c0_i32
  v5

def k0_off1 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32_4 : BitVec 32 := 0#32
  ![v1.toNat, 0]
@[reducible] def k0_t1_loop : Scf.Loop 32 :=
  let c0_i32_12 : BitVec 32 := 0#32
  let c32_i32 : BitVec 32 := 32#32
  let v24 : BitVec 32 := Scalar.addi c0_i32_12 c32_i32
  let c1_i32_13 : BitVec 32 := 1#32
  ⟨c0_i32_12, v24, c1_i32_13⟩
def k0_off2 (k0_t1 : Fin k0_t1_loop.trips) : Fin 1 → Nat :=
  let c0_i32_12 : BitVec 32 := 0#32
  let c1_i32_13 : BitVec 32 := 1#32
  let arg18 : BitVec 32 := Scf.iv c0_i32_12 c1_i32_13 k0_t1
  let c16_i32 : BitVec 32 := 16#32
  let v231 : BitVec 32 := Scalar.muli arg18 c16_i32
  let v232 : Index := Scalar.indexCast v231
  ![v232.toNat]
@[reducible] def k0_t2_loop : Scf.Loop 32 :=
  let c0_i32_22 : BitVec 32 := 0#32
  let c256_i32 : BitVec 32 := 256#32
  let v36 : BitVec 32 := Scalar.addi c0_i32_22 c256_i32
  let c1_i32_23 : BitVec 32 := 1#32
  ⟨c0_i32_22, v36, c1_i32_23⟩
def k0_off3 (k0_t2 : Fin k0_t2_loop.trips) : Fin 1 → Nat :=
  let c0_i32_22 : BitVec 32 := 0#32
  let c1_i32_23 : BitVec 32 := 1#32
  let arg18 : BitVec 32 := Scf.iv c0_i32_22 c1_i32_23 k0_t2
  let c16_i32 : BitVec 32 := 16#32
  let v231 : BitVec 32 := Scalar.muli arg18 c16_i32
  let v232 : Index := Scalar.indexCast v231
  ![v232.toNat]

def k0_chk1 (i : grid0.Coords) (v244 : IVec S16 32) : Prop :=
  (∀ (k0_h1 : k0_cond1 i = 1#1), ∀ a x, ((![v244] : Fin 1 → IVec S16 32) a x).toNat < S512.size a)
theorem k0_idx1_inb : ∀ (i : grid0.Coords) (v244 : IVec S16 32) (k0_hw1 : k0_chk1 i v244), ∀ (k0_h1 : k0_cond1 i = 1#1), ∀ a x, ((![v244] : Fin 1 → IVec S16 32) a x).toNat < S512.size a := fun i v244 k0_hw1 k0_h1 => k0_hw1 k0_h1
@[reducible] def k0_t3_loop : Scf.Loop 32 :=
  let c0_i32_26 : BitVec 32 := 0#32
  let c32_i32_27 : BitVec 32 := 32#32
  let v38 : BitVec 32 := Scalar.addi c0_i32_26 c32_i32_27
  let c1_i32_28 : BitVec 32 := 1#32
  ⟨c0_i32_26, v38, c1_i32_28⟩
def k0_off4 (k0_t3 : Fin k0_t3_loop.trips) : Fin 1 → Nat :=
  let c0_i32_26 : BitVec 32 := 0#32
  let c1_i32_28 : BitVec 32 := 1#32
  let arg18 : BitVec 32 := Scf.iv c0_i32_26 c1_i32_28 k0_t3
  let c16_i32 : BitVec 32 := 16#32
  let v231 : BitVec 32 := Scalar.muli arg18 c16_i32
  let v232 : Index := Scalar.indexCast v231
  ![v232.toNat]
@[reducible] def k0_t4_loop : Scf.Loop 32 :=
  let c0_i32_31 : BitVec 32 := 0#32
  let c32_i32_32 : BitVec 32 := 32#32
  let v40 : BitVec 32 := Scalar.addi c0_i32_31 c32_i32_32
  let c1_i32_33 : BitVec 32 := 1#32
  ⟨c0_i32_31, v40, c1_i32_33⟩
def k0_off5 (k0_t4 : Fin k0_t4_loop.trips) : Fin 1 → Nat :=
  let c0_i32_31 : BitVec 32 := 0#32
  let c1_i32_33 : BitVec 32 := 1#32
  let arg18 : BitVec 32 := Scf.iv c0_i32_31 c1_i32_33 k0_t4
  let c16_i32 : BitVec 32 := 16#32
  let v231 : BitVec 32 := Scalar.muli arg18 c16_i32
  let v232 : Index := Scalar.indexCast v231
  ![v232.toNat]
@[reducible] def k0_t5_loop : Scf.Loop 32 :=
  let c0_i32_36 : BitVec 32 := 0#32
  let c256_i32_37 : BitVec 32 := 256#32
  let v42 : BitVec 32 := Scalar.addi c0_i32_36 c256_i32_37
  let c1_i32_38 : BitVec 32 := 1#32
  ⟨c0_i32_36, v42, c1_i32_38⟩
def k0_off6 (k0_t5 : Fin k0_t5_loop.trips) : Fin 1 → Nat :=
  let c0_i32_36 : BitVec 32 := 0#32
  let c1_i32_38 : BitVec 32 := 1#32
  let arg18 : BitVec 32 := Scf.iv c0_i32_36 c1_i32_38 k0_t5
  let c16_i32 : BitVec 32 := 16#32
  let v231 : BitVec 32 := Scalar.muli arg18 c16_i32
  let v232 : Index := Scalar.indexCast v231
  ![v232.toNat]

def k0_chk3 (i : grid0.Coords) (v240 : IVec S16 32) : Prop :=
  (∀ (k0_h1 : k0_cond1 i = 1#1), ∀ a x, ((![v240] : Fin 1 → IVec S16 32) a x).toNat < S4096.size a)
theorem k0_idx3_inb : ∀ (i : grid0.Coords) (v240 : IVec S16 32) (k0_hw3 : k0_chk3 i v240), ∀ (k0_h1 : k0_cond1 i = 1#1), ∀ a x, ((![v240] : Fin 1 → IVec S16 32) a x).toNat < S4096.size a := fun i v240 k0_hw3 k0_h1 => k0_hw3 k0_h1

def k0_chk2 (i : grid0.Coords) (v235 : IVec S16 32) : Prop :=
  (∀ (k0_h1 : k0_cond1 i = 1#1), ∀ a x, ((![v235] : Fin 1 → IVec S16 32) a x).toNat < S512.size a) ∧
  (∀ (k0_h1 : k0_cond1 i = 1#1), ∀ a x, ((![v235] : Fin 1 → IVec S16 32) a x).toNat < S512.size a)
theorem k0_idx2_inb : ∀ (i : grid0.Coords) (v235 : IVec S16 32) (k0_hw2 : k0_chk2 i v235), ∀ (k0_h1 : k0_cond1 i = 1#1), ∀ a x, ((![v235] : Fin 1 → IVec S16 32) a x).toNat < S512.size a := fun i v235 k0_hw2 k0_h1 => k0_hw2.1 k0_h1
theorem k0_idx4_inb : ∀ (i : grid0.Coords) (v235 : IVec S16 32) (k0_hw2 : k0_chk2 i v235), ∀ (k0_h1 : k0_cond1 i = 1#1), ∀ a x, ((![v235] : Fin 1 → IVec S16 32) a x).toNat < S512.size a := fun i v235 k0_hw2 k0_h1 => k0_hw2.2 k0_h1

def k0_chk4 (i : grid0.Coords) (v246 : IVec S16 32) : Prop :=
  (∀ (k0_h1 : k0_cond1 i = 1#1), ∀ a x, ((![v246] : Fin 1 → IVec S16 32) a x).toNat < S512.size a)
theorem k0_idx5_inb : ∀ (i : grid0.Coords) (v246 : IVec S16 32) (k0_hw4 : k0_chk4 i v246), ∀ (k0_h1 : k0_cond1 i = 1#1), ∀ a x, ((![v246] : Fin 1 → IVec S16 32) a x).toNat < S512.size a := fun i v246 k0_hw4 k0_h1 => k0_hw4 k0_h1
@[reducible] def k0_t6_loop : Scf.Loop 32 :=
  let c0_i32_41 : BitVec 32 := 0#32
  let c32_i32_42 : BitVec 32 := 32#32
  let v44 : BitVec 32 := Scalar.addi c0_i32_41 c32_i32_42
  let c1_i32_43 : BitVec 32 := 1#32
  ⟨c0_i32_41, v44, c1_i32_43⟩
def k0_off7 (k0_t6 : Fin k0_t6_loop.trips) : Fin 1 → Nat :=
  let c0_i32_41 : BitVec 32 := 0#32
  let c1_i32_43 : BitVec 32 := 1#32
  let arg18 : BitVec 32 := Scf.iv c0_i32_41 c1_i32_43 k0_t6
  let c16_i32 : BitVec 32 := 16#32
  let v231 : BitVec 32 := Scalar.muli arg18 c16_i32
  let v232 : Index := Scalar.indexCast v231
  ![v232.toNat]
@[reducible] def k0_t7_loop : Scf.Loop 32 :=
  let c0_i32_46 : BitVec 32 := 0#32
  let c32_i32_47 : BitVec 32 := 32#32
  let v46 : BitVec 32 := Scalar.addi c0_i32_46 c32_i32_47
  let c1_i32_48 : BitVec 32 := 1#32
  ⟨c0_i32_46, v46, c1_i32_48⟩
def k0_off8 (k0_t7 : Fin k0_t7_loop.trips) : Fin 1 → Nat :=
  let c0_i32_46 : BitVec 32 := 0#32
  let c1_i32_48 : BitVec 32 := 1#32
  let arg18 : BitVec 32 := Scf.iv c0_i32_46 c1_i32_48 k0_t7
  let c16_i32 : BitVec 32 := 16#32
  let v231 : BitVec 32 := Scalar.muli arg18 c16_i32
  let v232 : Index := Scalar.indexCast v231
  ![v232.toNat]
@[reducible] def k0_t8_loop : Scf.Loop 32 :=
  let c0_i32_51 : BitVec 32 := 0#32
  let c256_i32_52 : BitVec 32 := 256#32
  let v48 : BitVec 32 := Scalar.addi c0_i32_51 c256_i32_52
  let c1_i32_53 : BitVec 32 := 1#32
  ⟨c0_i32_51, v48, c1_i32_53⟩
def k0_off9 (k0_t8 : Fin k0_t8_loop.trips) : Fin 1 → Nat :=
  let c0_i32_51 : BitVec 32 := 0#32
  let c1_i32_53 : BitVec 32 := 1#32
  let arg18 : BitVec 32 := Scf.iv c0_i32_51 c1_i32_53 k0_t8
  let c16_i32 : BitVec 32 := 16#32
  let v231 : BitVec 32 := Scalar.muli arg18 c16_i32
  let v232 : Index := Scalar.indexCast v231
  ![v232.toNat]

def k0_chk6 (i : grid0.Coords) (v242 : IVec S16 32) : Prop :=
  (∀ (k0_h1 : k0_cond1 i = 1#1), ∀ a x, ((![v242] : Fin 1 → IVec S16 32) a x).toNat < S4096.size a)
theorem k0_idx7_inb : ∀ (i : grid0.Coords) (v242 : IVec S16 32) (k0_hw6 : k0_chk6 i v242), ∀ (k0_h1 : k0_cond1 i = 1#1), ∀ a x, ((![v242] : Fin 1 → IVec S16 32) a x).toNat < S4096.size a := fun i v242 k0_hw6 k0_h1 => k0_hw6 k0_h1

def k0_chk5 (i : grid0.Coords) (v237 : IVec S16 32) : Prop :=
  (∀ (k0_h1 : k0_cond1 i = 1#1), ∀ a x, ((![v237] : Fin 1 → IVec S16 32) a x).toNat < S512.size a) ∧
  (∀ (k0_h1 : k0_cond1 i = 1#1), ∀ a x, ((![v237] : Fin 1 → IVec S16 32) a x).toNat < S512.size a)
theorem k0_idx6_inb : ∀ (i : grid0.Coords) (v237 : IVec S16 32) (k0_hw5 : k0_chk5 i v237), ∀ (k0_h1 : k0_cond1 i = 1#1), ∀ a x, ((![v237] : Fin 1 → IVec S16 32) a x).toNat < S512.size a := fun i v237 k0_hw5 k0_h1 => k0_hw5.1 k0_h1
theorem k0_idx8_inb : ∀ (i : grid0.Coords) (v237 : IVec S16 32) (k0_hw5 : k0_chk5 i v237), ∀ (k0_h1 : k0_cond1 i = 1#1), ∀ a x, ((![v237] : Fin 1 → IVec S16 32) a x).toNat < S512.size a := fun i v237 k0_hw5 k0_h1 => k0_hw5.2 k0_h1

def k0_chk7 (i : grid0.Coords) (v246 : IVec S16 32) : Prop :=
  (∀ (k0_h1 : k0_cond1 i = 1#1), ∀ a x, ((![v246] : Fin 1 → IVec S16 32) a x).toNat < S512.size a)
theorem k0_idx9_inb : ∀ (i : grid0.Coords) (v246 : IVec S16 32) (k0_hw7 : k0_chk7 i v246), ∀ (k0_h1 : k0_cond1 i = 1#1), ∀ a x, ((![v246] : Fin 1 → IVec S16 32) a x).toNat < S512.size a := fun i v246 k0_hw7 k0_h1 => k0_hw7 k0_h1
@[reducible] def k0_t9_loop : Scf.Loop 32 :=
  let c0_i32_56 : BitVec 32 := 0#32
  let c32_i32_57 : BitVec 32 := 32#32
  let v50 : BitVec 32 := Scalar.addi c0_i32_56 c32_i32_57
  let c1_i32_58 : BitVec 32 := 1#32
  ⟨c0_i32_56, v50, c1_i32_58⟩
def k0_off10 (k0_t9 : Fin k0_t9_loop.trips) : Fin 1 → Nat :=
  let c0_i32_56 : BitVec 32 := 0#32
  let c1_i32_58 : BitVec 32 := 1#32
  let arg18 : BitVec 32 := Scf.iv c0_i32_56 c1_i32_58 k0_t9
  let c16_i32 : BitVec 32 := 16#32
  let v231 : BitVec 32 := Scalar.muli arg18 c16_i32
  let v232 : Index := Scalar.indexCast v231
  ![v232.toNat]
@[reducible] def k0_t10_loop : Scf.Loop 32 :=
  let c0_i32_61 : BitVec 32 := 0#32
  let c256_i32_62 : BitVec 32 := 256#32
  let v52 : BitVec 32 := Scalar.addi c0_i32_61 c256_i32_62
  let c1_i32_63 : BitVec 32 := 1#32
  ⟨c0_i32_61, v52, c1_i32_63⟩
def k0_off11 (k0_t10 : Fin k0_t10_loop.trips) : Fin 1 → Nat :=
  let c0_i32_61 : BitVec 32 := 0#32
  let c1_i32_63 : BitVec 32 := 1#32
  let arg18 : BitVec 32 := Scf.iv c0_i32_61 c1_i32_63 k0_t10
  let c16_i32 : BitVec 32 := 16#32
  let v231 : BitVec 32 := Scalar.muli arg18 c16_i32
  let v232 : Index := Scalar.indexCast v231
  ![v232.toNat]

def k0_chk9 (i : grid0.Coords) (v242 : IVec S16 32) : Prop :=
  (∀ (k0_h1 : k0_cond1 i = 1#1), ∀ a x, ((![v242] : Fin 1 → IVec S16 32) a x).toNat < S4112.size a)
theorem k0_idx11_inb : ∀ (i : grid0.Coords) (v242 : IVec S16 32) (k0_hw9 : k0_chk9 i v242), ∀ (k0_h1 : k0_cond1 i = 1#1), ∀ a x, ((![v242] : Fin 1 → IVec S16 32) a x).toNat < S4112.size a := fun i v242 k0_hw9 k0_h1 => k0_hw9 k0_h1

def k0_chk8 (i : grid0.Coords) (v235 : IVec S16 32) : Prop :=
  (∀ (k0_h1 : k0_cond1 i = 1#1), ∀ a x, ((![v235] : Fin 1 → IVec S16 32) a x).toNat < S512.size a) ∧
  (∀ (k0_h1 : k0_cond1 i = 1#1), ∀ a x, ((![v235] : Fin 1 → IVec S16 32) a x).toNat < S512.size a)
theorem k0_idx10_inb : ∀ (i : grid0.Coords) (v235 : IVec S16 32) (k0_hw8 : k0_chk8 i v235), ∀ (k0_h1 : k0_cond1 i = 1#1), ∀ a x, ((![v235] : Fin 1 → IVec S16 32) a x).toNat < S512.size a := fun i v235 k0_hw8 k0_h1 => k0_hw8.1 k0_h1
theorem k0_idx12_inb : ∀ (i : grid0.Coords) (v235 : IVec S16 32) (k0_hw8 : k0_chk8 i v235), ∀ (k0_h1 : k0_cond1 i = 1#1), ∀ a x, ((![v235] : Fin 1 → IVec S16 32) a x).toNat < S512.size a := fun i v235 k0_hw8 k0_h1 => k0_hw8.2 k0_h1

def k0_chk10 (i : grid0.Coords) (v57 : IVec S16 32) : Prop :=
  (∀ (k0_h1 : k0_cond1 i = 1#1), ∀ a x, ((![v57] : Fin 1 → IVec S16 32) a x).toNat < S4112.size a)
theorem k0_idx13_inb : ∀ (i : grid0.Coords) (v57 : IVec S16 32) (k0_hw10 : k0_chk10 i v57), ∀ (k0_h1 : k0_cond1 i = 1#1), ∀ a x, ((![v57] : Fin 1 → IVec S16 32) a x).toNat < S4112.size a := fun i v57 k0_hw10 k0_h1 => k0_hw10 k0_h1
@[reducible] def k0_t11_loop : Scf.Loop 32 :=
  let c0_i32_68 : BitVec 32 := 0#32
  let c256_i32_69 : BitVec 32 := 256#32
  let v60 : BitVec 32 := Scalar.addi c0_i32_68 c256_i32_69
  let c1_i32_70 : BitVec 32 := 1#32
  ⟨c0_i32_68, v60, c1_i32_70⟩

def k0_chk11 (i : grid0.Coords) (v234 : IVec S16 32) : Prop :=
  (∀ (k0_h1 : k0_cond1 i = 1#1), ∀ a x, ((![v234] : Fin 1 → IVec S16 32) a x).toNat < S4112.size a)
theorem k0_idx14_inb : ∀ (i : grid0.Coords) (v234 : IVec S16 32) (k0_hw11 : k0_chk11 i v234), ∀ (k0_h1 : k0_cond1 i = 1#1), ∀ a x, ((![v234] : Fin 1 → IVec S16 32) a x).toNat < S4112.size a := fun i v234 k0_hw11 k0_h1 => k0_hw11 k0_h1

def k0_chk12 (i : grid0.Coords) (v239 : IVec S16 32) : Prop :=
  (∀ (k0_h1 : k0_cond1 i = 1#1), ∀ a x, ((![v239] : Fin 1 → IVec S16 32) a x).toNat < S4112.size a)
theorem k0_idx15_inb : ∀ (i : grid0.Coords) (v239 : IVec S16 32) (k0_hw12 : k0_chk12 i v239), ∀ (k0_h1 : k0_cond1 i = 1#1), ∀ a x, ((![v239] : Fin 1 → IVec S16 32) a x).toNat < S4112.size a := fun i v239 k0_hw12 k0_h1 => k0_hw12 k0_h1
def k0_off12 (k0_t11 : Fin k0_t11_loop.trips) : Fin 1 → Nat :=
  let c0_i32_68 : BitVec 32 := 0#32
  let c1_i32_70 : BitVec 32 := 1#32
  let arg18 : BitVec 32 := Scf.iv c0_i32_68 c1_i32_70 k0_t11
  let c16_i32_85 : BitVec 32 := 16#32
  let v245 : BitVec 32 := Scalar.muli arg18 c16_i32_85
  let v246 : Index := Scalar.indexCast v245
  ![v246.toNat]
def k0_off13 (k0_t11 : Fin k0_t11_loop.trips) : Fin 1 → Nat :=
  let c0_i32_68 : BitVec 32 := 0#32
  let c1_i32_70 : BitVec 32 := 1#32
  let arg18 : BitVec 32 := Scf.iv c0_i32_68 c1_i32_70 k0_t11
  let c16_i32_86 : BitVec 32 := 16#32
  let v248 : BitVec 32 := Scalar.muli arg18 c16_i32_86
  let c1_i32_87 : BitVec 32 := 1#32
  let v249 : BitVec 32 := Scalar.addi v248 c1_i32_87
  let v250 : Index := Scalar.indexCast v249
  ![v250.toNat]
def k0_off14 (i : grid0.Coords) : Fin 2 → Nat :=
  let arg1 : BitVec 32 := BitVec.ofNat 32 (i 1).val
  let c0_i32_83_r0 : BitVec 32 := 0#32
  ![arg1.toNat, 0]
def k0_cond2 (i : grid0.Coords) : BitVec 1 :=
  let arg1 : BitVec 32 := BitVec.ofNat 32 (i 1).val
  let c0_i32_1 : BitVec 32 := 0#32
  let v6 : BitVec 1 := Scalar.cmpi .eq arg1 c0_i32_1
  let v7 : BitVec 32 := Scalar.extui v6
  let c0_i32_2 : BitVec 32 := 0#32
  let v8 : BitVec 1 := Scalar.cmpi .ne v7 c0_i32_2
  v8

def k0_chk13 (i : grid0.Coords) (v10 : IVec S16 32) (v12 : IVec S16 32) : Prop :=
  (∀ (k0_h2 : k0_cond2 i = 1#1), ∀ a x, ((![v10, v12] : Fin 2 → IVec S16 32) a x).toNat < S8x16.size a)
theorem k0_idx16_inb : ∀ (i : grid0.Coords) (v10 : IVec S16 32) (v12 : IVec S16 32) (k0_hw13 : k0_chk13 i v10 v12), ∀ (k0_h2 : k0_cond2 i = 1#1), ∀ a x, ((![v10, v12] : Fin 2 → IVec S16 32) a x).toNat < S8x16.size a := fun i v10 v12 k0_hw13 k0_h2 => k0_hw13 k0_h2
def k0_off15 (i : grid0.Coords) : Fin 1 → Nat :=
  let arg0 : BitVec 32 := BitVec.ofNat 32 (i 0).val
  let c8_i32_5 : BitVec 32 := 8#32
  let v15 : BitVec 32 := Scalar.muli arg0 c8_i32_5
  ![v15.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4095 : Shape := ⟨2, ![16, 4095]⟩
abbrev S16x8191 : Shape := ⟨2, ![16, 8191]⟩
abbrev S_ : Shape := ⟨0, ![]⟩
abbrev S16x8191x1 : Shape := ⟨3, ![16, 8191, 1]⟩
abbrev S1 : Shape := ⟨1, ![1]⟩
abbrev S1x1x1 : Shape := ⟨3, ![1, 1, 1]⟩
abbrev S16x8190 : Shape := ⟨2, ![16, 8190]⟩
abbrev S16x8190x1 : Shape := ⟨3, ![16, 8190, 1]⟩
abbrev S16 : Shape := ⟨1, ![16]⟩
abbrev S16x4094 : Shape := ⟨2, ![16, 4094]⟩

abbrev nBuf : Space → Nat
  | .hbm => 135
  | .vmem => 0
  | .smem => 0
  | _ => 0

abbrev hbmTy0_0 (i : Nat) : BufTy := match i % 128 with
  | 0 => ⟨S16x4095, .f32⟩
  | 1 => ⟨S16x8191, .i32⟩
  | 2 => ⟨S16x8191, .f32⟩
  | 3 => ⟨S16x8191, .f32⟩
  | 4 => ⟨S16x8191, .f32⟩
  | 5 => ⟨S16x8191, .i32⟩
  | 6 => ⟨S16x8191, .f32⟩
  | 7 => ⟨S16x8191, .i32⟩
  | 8 => ⟨S_, .i32⟩
  | 9 => ⟨S16x8191, .i32⟩
  | 10 => ⟨S16x8191, .i1⟩
  | 11 => ⟨S_, .i32⟩
  | 12 => ⟨S16x8191, .i32⟩
  | 13 => ⟨S16x8191, .i32⟩
  | 14 => ⟨S16x8191, .i32⟩
  | 15 => ⟨S16x8191x1, .i32⟩
  | 16 => ⟨S1, .i32⟩
  | 17 => ⟨S_, .i32⟩
  | 18 => ⟨S16x8191x1, .i32⟩
  | 19 => ⟨S16x8191x1, .i1⟩
  | 20 => ⟨S1x1x1, .i32⟩
  | 21 => ⟨S16x8191x1, .i32⟩
  | 22 => ⟨S16x8191x1, .i1⟩
  | 23 => ⟨S16x8191x1, .i1⟩
  | 24 => ⟨S_, .i1⟩
  | 25 => ⟨S16x8191, .i1⟩
  | 26 => ⟨S16x8191, .f32⟩
  | 27 => ⟨S_, .f32⟩
  | 28 => ⟨S16x8191, .f32⟩
  | 29 => ⟨S16x8191, .f32⟩
  | 30 => ⟨S_, .i32⟩
  | 31 => ⟨S16x8191, .i32⟩
  | 32 => ⟨S16x8191, .i1⟩
  | 33 => ⟨S_, .i32⟩
  | 34 => ⟨S16x8191, .i32⟩
  | 35 => ⟨S16x8191, .i32⟩
  | 36 => ⟨S16x8191, .i32⟩
  | 37 => ⟨S16x8191x1, .i32⟩
  | 38 => ⟨S1, .i32⟩
  | 39 => ⟨S_, .i32⟩
  | 40 => ⟨S16x8191x1, .i32⟩
  | 41 => ⟨S16x8191x1, .i1⟩
  | 42 => ⟨S1x1x1, .i32⟩
  | 43 => ⟨S16x8191x1, .i32⟩
  | 44 => ⟨S16x8191x1, .i1⟩
  | 45 => ⟨S16x8191x1, .i1⟩
  | 46 => ⟨S_, .i1⟩
  | 47 => ⟨S16x8191, .i1⟩
  | 48 => ⟨S16x8191, .f32⟩
  | 49 => ⟨S_, .f32⟩
  | 50 => ⟨S16x8191, .f32⟩
  | 51 => ⟨S16x8191, .f32⟩
  | 52 => ⟨S16x8190, .f32⟩
  | 53 => ⟨S_, .f32⟩
  | 54 => ⟨S_, .f32⟩
  | 55 => ⟨S16x8190, .f32⟩
  | 56 => ⟨S_, .f32⟩
  | 57 => ⟨S16x8190, .f32⟩
  | 58 => ⟨S16x8190, .f32⟩
  | 59 => ⟨S16x8190, .f32⟩
  | 60 => ⟨S16x8190, .f32⟩
  | 61 => ⟨S16x8190, .f32⟩
  | 62 => ⟨S_, .f32⟩
  | 63 => ⟨S16x8190, .f32⟩
  | 64 => ⟨S16x8190, .f32⟩
  | 65 => ⟨S16x8190, .f32⟩
  | 66 => ⟨S_, .f32⟩
  | 67 => ⟨S16x8190, .f32⟩
  | 68 => ⟨S16x8190, .f32⟩
  | 69 => ⟨S_, .f32⟩
  | 70 => ⟨S16x8190, .f32⟩
  | 71 => ⟨S16x8190, .i1⟩
  | 72 => ⟨S16x8190, .i32⟩
  | 73 => ⟨S_, .i32⟩
  | 74 => ⟨S_, .i32⟩
  | 75 => ⟨S16x8190, .i32⟩
  | 76 => ⟨S_, .i32⟩
  | 77 => ⟨S16x8190, .i32⟩
  | 78 => ⟨S16x8190, .i32⟩
  | 79 => ⟨S_, .i32⟩
  | 80 => ⟨S16x8190, .i32⟩
  | 81 => ⟨S16x8190, .i1⟩
  | 82 => ⟨S_, .i32⟩
  | 83 => ⟨S16x8190, .i32⟩
  | 84 => ⟨S16x8190, .i32⟩
  | 85 => ⟨S16x8190, .i32⟩
  | 86 => ⟨S16x8190x1, .i32⟩
  | 87 => ⟨S1, .i32⟩
  | 88 => ⟨S_, .i32⟩
  | 89 => ⟨S16x8190x1, .i32⟩
  | 90 => ⟨S16x8190x1, .i1⟩
  | 91 => ⟨S1x1x1, .i32⟩
  | 92 => ⟨S16x8190x1, .i32⟩
  | 93 => ⟨S16x8190x1, .i1⟩
  | 94 => ⟨S16x8190x1, .i1⟩
  | 95 => ⟨S_, .i1⟩
  | 96 => ⟨S16x8190, .i1⟩
  | 97 => ⟨S16x8190, .f32⟩
  | 98 => ⟨S_, .f32⟩
  | 99 => ⟨S16x8190, .f32⟩
  | 100 => ⟨S16x8190, .f32⟩
  | 101 => ⟨S16x8190, .f32⟩
  | 102 => ⟨S16x8190, .f32⟩
  | 103 => ⟨S16x8190, .f32⟩
  | 104 => ⟨S_, .f32⟩
  | 105 => ⟨S_, .f32⟩
  | 106 => ⟨S16x8190, .f32⟩
  | 107 => ⟨S16x8190, .f32⟩
  | 108 => ⟨S_, .f32⟩
  | 109 => ⟨S16, .f32⟩
  | 110 => ⟨S16x8190, .f32⟩
  | 111 => ⟨S16x8190, .f32⟩
  | 112 => ⟨S_, .f32⟩
  | 113 => ⟨S16, .f32⟩
  | 114 => ⟨S16, .f32⟩
  | 115 => ⟨S16x4094, .f32⟩
  | 116 => ⟨S16x4094, .f32⟩
  | 117 => ⟨S16x4094, .f32⟩
  | 118 => ⟨S16x4094, .f32⟩
  | 119 => ⟨S_, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S16, .f32⟩
  | _ => ⟨S16x4095, .f32⟩

abbrev hbmTy0_1 (i : Nat) : BufTy := match i % 128 with
  | 0 => ⟨S_, .f32⟩
  | 1 => ⟨S16, .f32⟩
  | 2 => ⟨S16, .f32⟩
  | 3 => ⟨S_, .f32⟩
  | 4 => ⟨S16, .f32⟩
  | 5 => ⟨S16, .f32⟩
  | 6 => ⟨S16, .f32⟩
  | _ => ⟨S16x4095, .f32⟩

abbrev hbmTy (i : Nat) : BufTy := match i / 128 with
  | 0 => hbmTy0_0 i
  | 1 => hbmTy0_1 i
  | _ => ⟨S16x4095, .f32⟩

abbrev bufTy : (tb : Table) → Fin (tcTables nBuf tb) → BufTy
  | .hbm, ⟨i, _⟩ => hbmTy i
  | _, _ => ⟨S16x4095, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1_0 : Ref sig .tc := ⟨.hbm, 6, rfl⟩
abbrev main_v2 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_c_1 : Ref sig .tc := ⟨.hbm, 16, rfl⟩
abbrev main_call1_c_2 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_3 : Ref sig .tc := ⟨.hbm, 24, rfl⟩
abbrev main_call1_v12 : Ref sig .tc := ⟨.hbm, 25, rfl⟩
abbrev main_call1_v13 : Ref sig .tc := ⟨.hbm, 26, rfl⟩
abbrev main_call1_cst : Ref sig .tc := ⟨.hbm, 27, rfl⟩
abbrev main_call1_v14 : Ref sig .tc := ⟨.hbm, 28, rfl⟩
abbrev main_v3 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_cst : Ref sig .tc := ⟨.hbm, 49, rfl⟩
abbrev main_call2_v14 : Ref sig .tc := ⟨.hbm, 50, rfl⟩
abbrev main_v4 : Ref sig .tc := ⟨.hbm, 51, rfl⟩
abbrev main_v5 : Ref sig .tc := ⟨.hbm, 52, rfl⟩
abbrev main_call3_call0_cst : Ref sig .tc := ⟨.hbm, 53, rfl⟩
abbrev main_call3_call0_v0 : Ref sig .tc := ⟨.hbm, 54, rfl⟩
abbrev main_v6 : Ref sig .tc := ⟨.hbm, 55, rfl⟩
abbrev main_cst : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_cst_0 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_cst_1 : Ref sig .tc := ⟨.hbm, 66, rfl⟩
abbrev main_v15 : Ref sig .tc := ⟨.hbm, 67, rfl⟩
abbrev main_v16 : Ref sig .tc := ⟨.hbm, 68, rfl⟩
abbrev main_cst_2 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_call4_call0_c : Ref sig .tc := ⟨.hbm, 73, rfl⟩
abbrev main_call4_call0_v0 : Ref sig .tc := ⟨.hbm, 74, rfl⟩
abbrev main_v20 : Ref sig .tc := ⟨.hbm, 75, rfl⟩
abbrev main_c : Ref sig .tc := ⟨.hbm, 76, rfl⟩
abbrev main_v21 : Ref sig .tc := ⟨.hbm, 77, rfl⟩
abbrev main_v22 : Ref sig .tc := ⟨.hbm, 78, rfl⟩
abbrev main_call5_c : Ref sig .tc := ⟨.hbm, 79, rfl⟩
abbrev main_call5_v0 : Ref sig .tc := ⟨.hbm, 80, rfl⟩
abbrev main_call5_v1 : Ref sig .tc := ⟨.hbm, 81, rfl⟩
abbrev main_call5_c_0 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_call5_v5 : Ref sig .tc := ⟨.hbm, 86, rfl⟩
abbrev main_call5_c_1 : Ref sig .tc := ⟨.hbm, 87, rfl⟩
abbrev main_call5_c_2 : Ref sig .tc := ⟨.hbm, 88, rfl⟩
abbrev main_call5_v6 : Ref sig .tc := ⟨.hbm, 89, rfl⟩
abbrev main_call5_v7 : Ref sig .tc := ⟨.hbm, 90, rfl⟩
abbrev main_call5_v8 : Ref sig .tc := ⟨.hbm, 91, rfl⟩
abbrev main_call5_v9 : Ref sig .tc := ⟨.hbm, 92, rfl⟩
abbrev main_call5_v10 : Ref sig .tc := ⟨.hbm, 93, rfl⟩
abbrev main_call5_v11 : Ref sig .tc := ⟨.hbm, 94, rfl⟩
abbrev main_call5_c_3 : Ref sig .tc := ⟨.hbm, 95, rfl⟩
abbrev main_call5_v12 : Ref sig .tc := ⟨.hbm, 96, rfl⟩
abbrev main_call5_v13 : Ref sig .tc := ⟨.hbm, 97, rfl⟩
abbrev main_call5_cst : Ref sig .tc := ⟨.hbm, 98, rfl⟩
abbrev main_call5_v14 : Ref sig .tc := ⟨.hbm, 99, rfl⟩
abbrev main_v23 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_cst_3 : Ref sig .tc := ⟨.hbm, 104, rfl⟩
abbrev main_call6_v0 : Ref sig .tc := ⟨.hbm, 105, rfl⟩
abbrev main_call6_v1 : Ref sig .tc := ⟨.hbm, 106, rfl⟩
abbrev main_v27 : Ref sig .tc := ⟨.hbm, 107, rfl⟩
abbrev main_cst_4 : Ref sig .tc := ⟨.hbm, 108, rfl⟩
abbrev main_v28 : Ref sig .tc := ⟨.hbm, 109, rfl⟩
abbrev main_v29 : Ref sig .tc := ⟨.hbm, 110, rfl⟩
abbrev main_v30 : Ref sig .tc := ⟨.hbm, 111, rfl⟩
abbrev main_cst_5 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_cst_6 : Ref sig .tc := ⟨.hbm, 119, rfl⟩
abbrev main_v37 : Ref sig .tc := ⟨.hbm, 120, rfl⟩
abbrev main_cst_7 : Ref sig .tc := ⟨.hbm, 121, rfl⟩
abbrev main_v38 : Ref sig .tc := ⟨.hbm, 122, rfl⟩
abbrev main_v39 : Ref sig .tc := ⟨.hbm, 123, rfl⟩
abbrev main_cst_8 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_cst_9 : Ref sig .tc := ⟨.hbm, 128, rfl⟩
abbrev main_v43 : Ref sig .tc := ⟨.hbm, 129, rfl⟩
abbrev main_v44 : Ref sig .tc := ⟨.hbm, 130, rfl⟩
abbrev main_cst_10 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩

abbrev nD : Nat := 1
abbrev τ : Topo := Topo.v7x

variable {F : FTy → Type} [FloatOps F]
-- ==== Proof.CountSort.lean ====
/- The mathematics of one pass of a counting sort over 4096 words taken 16 at a time, with no program in it: where each
   word goes (`place`), what the counters and the histogram hold after a number of words (`CtrAt`, `HistAt`), what the
   destination holds (`Placed`), how one step of 16 lanes carries each of them on, and that a pass by a digit of the
   words carries an order on the lower digits to an order on one digit more (`SortedBy.pass`). -/
module

public import proofs.«01_k».proof.KernelIdeal
public import Mathlib.Data.BitVec
public import Mathlib.Tactic.Ring
public import Mathlib.Tactic.Linarith

@[expose] public section

noncomputable section

namespace Cert.Proof.CountSort

open Idealize.ShloMosaic Cert.KernelIdeal

variable {F : FTy → Type} [FloatOps F]

/-! ## Stores at computed indices, the running count, the running sum -/

section Store

variable {N : ℕ} {e : EltTy}

theorem idx_ext {x y : (⟨1, ![N]⟩ : Shape).Idx} (h : (x 0).val = (y 0).val) : x = y := by
  funext a; obtain rfl := Fin.eq_zero a; exact Fin.ext h

/-- Lane `k`, as an index. -/
def lane (k : Fin 16) : S16.Idx := Shape.ofLane (d := ![16]) k

theorem lane_val (k : Fin 16) : (lane k 0).val = k.val := rfl

theorem lane_eq (x : S16.Idx) : lane (x 0) = x := by
  funext a; obtain rfl := Fin.eq_zero a; rfl

/-- One lane's store, as `storeIdx` folds it. -/
def step1 (idxs : Fin 1 → IVec S16 32) (v : Vec F S16 e) (mask : IVec S16 1) (add : Bool)
    (h : ∀ a x, (idxs a x).toNat < (⟨1, ![N]⟩ : Shape).size a) (g : Vec F (⟨1, ![N]⟩ : Shape) e) (k : Fin 16) : Vec F (⟨1, ![N]⟩ : Shape) e :=
  let x : S16.Idx := lane k
  if mask x = 1 then
    let i := idxAt (s := (⟨1, ![N]⟩ : Shape)) (t := S16) idxs h x
    let y := if add then Elt.idxAdd e (g i) (v x) else v x
    fun j => if (∀ a, (j a).val = (i a).val) then y else g j
  else g

theorem storeIdx_fold (f : Vec F (⟨1, ![N]⟩ : Shape) e) (idxs : Fin 1 → IVec S16 32) (v : Vec F S16 e) (mask : IVec S16 1) (add : Bool)
    (h : ∀ a x, (idxs a x).toNat < (⟨1, ![N]⟩ : Shape).size a) :
    storeIdx (s := (⟨1, ![N]⟩ : Shape)) (d := ![16]) f idxs v mask add h = (List.finRange 16).foldl (step1 idxs v mask add h) f := by
  unfold storeIdx step1 lane
  congr 1; funext g k; dsimp only
  split
  · funext j; congr
  · rfl

theorem step1_miss {idxs : Fin 1 → IVec S16 32} {v : Vec F S16 e} {mask : IVec S16 1} {add : Bool}
    {h : ∀ a x, (idxs a x).toNat < (⟨1, ![N]⟩ : Shape).size a} {g : Vec F (⟨1, ![N]⟩ : Shape) e} {k : Fin 16} {j : (⟨1, ![N]⟩ : Shape).Idx}
    (hm : mask (lane k) = 1 → (idxs 0 (lane k)).toNat ≠ (j 0).val) :
    step1 idxs v mask add h g k j = g j := by
  unfold step1; dsimp only
  by_cases hk : mask (lane k) = 1
  · rw [if_pos hk]
    exact if_neg fun ha => hm hk (ha 0).symm
  · rw [if_neg hk]

theorem step1_hit {idxs : Fin 1 → IVec S16 32} {v : Vec F S16 e} {mask : IVec S16 1} {add : Bool}
    {h : ∀ a x, (idxs a x).toNat < (⟨1, ![N]⟩ : Shape).size a} {g : Vec F (⟨1, ![N]⟩ : Shape) e} {k : Fin 16} {j : (⟨1, ![N]⟩ : Shape).Idx}
    (hm : mask (lane k) = 1) (hi : (idxs 0 (lane k)).toNat = (j 0).val) :
    step1 idxs v mask add h g k j
      = if add then Elt.idxAdd e (g j) (v (lane k)) else v (lane k) := by
  have hj : idxAt (s := (⟨1, ![N]⟩ : Shape)) (t := S16) idxs h (lane k) = j := idx_ext hi
  unfold step1; dsimp only
  rw [if_pos hm, hj]
  exact if_pos fun _ => rfl

theorem fold_miss {idxs : Fin 1 → IVec S16 32} {v : Vec F S16 e} {mask : IVec S16 1} {add : Bool}
    {h : ∀ a x, (idxs a x).toNat < (⟨1, ![N]⟩ : Shape).size a} {j : (⟨1, ![N]⟩ : Shape).Idx} (l : List (Fin 16)) (g : Vec F (⟨1, ![N]⟩ : Shape) e)
    (hm : ∀ k ∈ l, mask (lane k) = 1 → (idxs 0 (lane k)).toNat ≠ (j 0).val) :
    l.foldl (step1 idxs v mask add h) g j = g j := by
  induction l generalizing g with
  | nil => rfl
  | cons k l ih =>
    rw [List.foldl_cons, ih _ fun k' hk' => hm k' (List.mem_cons_of_mem _ hk'), step1_miss (hm k List.mem_cons_self)]

/-- An element that no set lane names keeps its value. -/
theorem storeIdx_miss {f : Vec F (⟨1, ![N]⟩ : Shape) e} {idxs : Fin 1 → IVec S16 32} {v : Vec F S16 e} {mask : IVec S16 1} {add : Bool}
    {h : ∀ a x, (idxs a x).toNat < (⟨1, ![N]⟩ : Shape).size a} {j : (⟨1, ![N]⟩ : Shape).Idx}
    (hm : ∀ k : S16.Idx, mask k = 1 → (idxs 0 k).toNat ≠ (j 0).val) :
    storeIdx (s := (⟨1, ![N]⟩ : Shape)) (d := ![16]) f idxs v mask add h j = f j := by
  rw [storeIdx_fold]; exact fold_miss _ _ fun k _ => hm _

/-- An element whose last naming lane is `k` holds what lane `k` stored. -/
theorem storeIdx_hit {f : Vec F (⟨1, ![N]⟩ : Shape) e} {idxs : Fin 1 → IVec S16 32} {v : Vec F S16 e} {mask : IVec S16 1}
    {h : ∀ a x, (idxs a x).toNat < (⟨1, ![N]⟩ : Shape).size a} {j : (⟨1, ![N]⟩ : Shape).Idx} (k : S16.Idx)
    (hk : mask k = 1) (hi : (idxs 0 k).toNat = (j 0).val)
    (hl : ∀ k' : S16.Idx, (k 0).val < (k' 0).val → mask k' = 1 → (idxs 0 k').toNat ≠ (j 0).val) :
    storeIdx (s := (⟨1, ![N]⟩ : Shape)) (d := ![16]) f idxs v mask false h j = v k := by
  rw [storeIdx_fold]
  obtain ⟨c, rfl⟩ : ∃ c : Fin 16, k = lane c := ⟨k 0, (lane_eq k).symm⟩
  obtain ⟨l1, l2, hl12⟩ := List.append_of_mem (List.mem_finRange (n := 16) c)
  have hs : (l1 ++ c :: l2).Pairwise (· < ·) := hl12 ▸ List.pairwise_lt_finRange 16
  rw [hl12, List.foldl_append, List.foldl_cons, fold_miss l2]
  · rw [step1_hit hk hi]; rfl
  · intro k' hk'
    have : c < k' := by
      have := (List.pairwise_append.mp hs).2.1
      exact (List.pairwise_cons.mp this).1 k' hk'
    exact hl _ this

end Store

theorem fold_add {N : ℕ} {idxs : Fin 1 → IVec S16 32} {h : ∀ a x, (idxs a x).toNat < (⟨1, ![N]⟩ : Shape).size a} {j : (⟨1, ![N]⟩ : Shape).Idx}
    (l : List (Fin 16)) (g : Vec F (⟨1, ![N]⟩ : Shape) .i32) :
    l.foldl (step1 (F := F) (e := .i32) idxs (fun _ => (1#32 : BitVec 32)) (fun _ => 1#1) true h) g j
      = g j + (l.map fun k => if (idxs 0 (lane k)).toNat = (j 0).val then (1 : BitVec 32) else 0).sum := by
  induction l generalizing g with
  | nil => simp
  | cons k l ih =>
    rw [List.foldl_cons, ih, List.map_cons, List.sum_cons]
    by_cases hk : (idxs 0 (lane k)).toNat = (j 0).val
    · rw [step1_hit rfl hk, if_pos hk]
      show (g j + 1#32) + _ = _
      rw [add_assoc]; rfl
    · rw [step1_miss fun _ => hk, if_neg hk, zero_add]

theorem sum_lanes {M : Type} [AddCommMonoid M] (g : S16.Idx → M) :
    ∑ k : Fin 16, g (lane k) = ∑ k : S16.Idx, g k := by
  refine Fintype.sum_equiv ⟨fun k => lane k, fun x => x 0, fun k => rfl, fun x => lane_eq x⟩ _ _ fun k => rfl

/-- A histogram step: each element grows by the number of lanes that name it. -/
theorem storeIdx_add {N : ℕ} {f : Vec F (⟨1, ![N]⟩ : Shape) .i32} {idxs : Fin 1 → IVec S16 32} {h : ∀ a x, (idxs a x).toNat < (⟨1, ![N]⟩ : Shape).size a}
    (j : (⟨1, ![N]⟩ : Shape).Idx) :
    storeIdx (F := F) (s := (⟨1, ![N]⟩ : Shape)) (e := .i32) (d := ![16]) f idxs (fun _ => (1#32 : BitVec 32)) (fun _ => 1#1) true h j
      = f j + BitVec.ofNat 32 (Finset.univ.filter fun k : S16.Idx => (idxs 0 k).toNat = (j 0).val).card := by
  rw [storeIdx_fold, fold_add, ← Fin.sum_univ_def,
    sum_lanes fun k => if (idxs 0 k).toNat = (j 0).val then (1 : BitVec 32) else 0, Finset.sum_boole]
  rfl

theorem sum_filter_list {α M : Type} [AddCommMonoid M] (p : α → Bool) (g : α → M) (l : List α) :
    ((l.filter p).map g).sum = (l.map fun k => if p k then g k else 0).sum := by
  induction l with
  | nil => rfl
  | cons k l ih => by_cases h : p k <;> simp [h, ih]

theorem foldl_addi {α : Type} (l : List α) (g : α → BitVec 32) (a : BitVec 32) :
    l.foldl (fun r k => ScanKind.sum.step r (g k)) a = a + (l.map g).sum := by
  induction l generalizing a with
  | nil => simp
  | cons k l ih => rw [List.foldl_cons, ih, List.map_cons, List.sum_cons, ← add_assoc]; rfl

theorem scan_def {d : Fin 1 → Nat} (v : IVec ⟨1, d⟩ 32) (x : (⟨1, d⟩ : Shape).Idx) (h0 : 0 < d 0) :
    (scan .sum v : IVec ⟨1, d⟩ 32) x
      = v (Shape.ofLane ⟨0, h0⟩) + ∑ k : Fin (d 0), if 0 < k.val ∧ k.val ≤ (x 0).val then v (Shape.ofLane k) else 0 := by
  unfold scan
  rw [foldl_addi _ fun k => v (Shape.ofLane k), sum_filter_list, ← Fin.sum_univ_def]
  simp only [decide_eq_true_eq]

theorem sum_first (g : Fin 16 → BitVec 32) (x : Fin 16) :
    (g 0 + ∑ k : Fin 16, if 0 < k.val ∧ k.val ≤ x.val then g k else 0) = ∑ k : Fin 16, if k.val ≤ x.val then g k else 0 := by
  have h : ∀ k : Fin 16, (if k.val ≤ x.val then g k else 0) = (if k = 0 then g k else 0) + if 0 < k.val ∧ k.val ≤ x.val then g k else 0 := by
    intro k
    by_cases hk : k = 0
    · subst hk; simp
    · have : 0 < k.val := Nat.pos_of_ne_zero fun e => hk (Fin.ext e)
      simp [hk, this]
  rw [Finset.sum_congr rfl fun k _ => h k, Finset.sum_add_distrib, Finset.sum_ite_eq' Finset.univ (0 : Fin 16), if_pos (Finset.mem_univ _)]

/-- The running sum, at a lane. -/
theorem scan_sum (v : IVec S16 32) (x : S16.Idx) :
    (scan (d := ![16]) .sum v : IVec S16 32) x = ∑ k : S16.Idx, if (k 0).val ≤ (x 0).val then v k else 0 :=
  (scan_def (d := ![16]) v x (show 0 < 16 by decide)).trans
    ((sum_first (fun k => v (lane k)) (x 0)).trans (sum_lanes fun k => if (k 0).val ≤ (x 0).val then v k else 0))

theorem scanCount_count (v : IVec S16 32) (x : S16.Idx) :
    (scanCount (fun _ => 1#1) v).2 x = BitVec.ofNat 32 (Finset.univ.filter fun k : S16.Idx => (k 0).val ≤ (x 0).val ∧ v k = v x).card := by
  unfold scanCount; dsimp only
  rw [show (if (1#1 : BitVec 1) = 1 then _ else (1 : BitVec 32)) = _ from if_pos rfl]; congr 2; ext k
  have hp : ∀ y : S16.Idx, (S16.rowMajor y).val = (y 0).val := fun y => Shape.rowMajor_val_one y
  simp [hp]

theorem scanCount_last (v : IVec S16 32) (x : S16.Idx) :
    (scanCount (fun _ => 1#1) v).1 x = 1 ↔ ∀ k : S16.Idx, (x 0).val < (k 0).val → v k ≠ v x := by
  unfold scanCount; dsimp only
  have hp : ∀ y : S16.Idx, (S16.rowMajor y).val = (y 0).val := fun y => Shape.rowMajor_val_one y
  simp only [hp]
  constructor
  · intro h
    split at h
    · rename_i h'; intro k hk e; exact h'.2 k hk ⟨rfl, e⟩
    · exact absurd h (by decide)
  · intro h
    rw [if_pos ⟨rfl, fun k hk e => h k hk e.2⟩]

/-! ## Where a pass puts each word -/

abbrev I := S4096.Idx

variable (dig : I → ℕ)

/-- How many words have a digit below `b`. -/
def below (b : ℕ) : ℕ := (Finset.univ.filter fun y : I => dig y < b).card
/-- How many of the first `n` words have digit `b`. -/
def upTo (n b : ℕ) : ℕ := (Finset.univ.filter fun y : I => (y 0).val < n ∧ dig y = b).card
/-- Where word `x` goes: after every word of a lower digit and every earlier word of the same digit. -/
def place (x : I) : ℕ := below dig (dig x) + upTo dig (x 0).val (dig x)

/-- Position `n`, as an index. -/
def ix (n : ℕ) (h : n < 4096) : I := Shape.ofLane (d := ![4096]) ⟨n, h⟩

theorem ix_val (n : ℕ) (h : n < 4096) : (ix n h 0).val = n := rfl

theorem card_I : Fintype.card I = 4096 := by
  exact (Fintype.card_congr (⟨fun x => x 0, fun k => ix k.val k.isLt, fun x => idx_ext (N := 4096) rfl, fun k => rfl⟩ : I ≃ Fin 4096)).trans (Fintype.card_fin 4096)

theorem place_eq (x : I) :
    place dig x = (Finset.univ.filter fun y : I => dig y < dig x ∨ (dig y = dig x ∧ (y 0).val < (x 0).val)).card := by
  unfold place below upTo
  rw [← Finset.card_union_of_disjoint]
  · congr 1; ext y
    simp only [Finset.mem_union, Finset.mem_filter, Finset.mem_univ, true_and]
    tauto
  · rw [Finset.disjoint_left]
    intro y hy hy'
    have h1 := (Finset.mem_filter.mp hy).2
    have h2 := (Finset.mem_filter.mp hy').2
    omega

theorem place_lt (x : I) : place dig x < 4096 := by
  rw [place_eq, ← card_I]
  refine Finset.card_lt_univ_of_notMem (x := x) fun h => ?_
  have := (Finset.mem_filter.mp h).2
  omega

theorem place_mono {x y : I} (h : dig x < dig y ∨ (dig x = dig y ∧ (x 0).val < (y 0).val)) : place dig x < place dig y := by
  rw [place_eq, place_eq]
  refine Finset.card_lt_card ((Finset.ssubset_iff_of_subset fun z hz => ?_).mpr ⟨x, ?_, ?_⟩)
  · have := (Finset.mem_filter.mp hz).2
    exact Finset.mem_filter.mpr ⟨Finset.mem_univ _, by omega⟩
  · exact Finset.mem_filter.mpr ⟨Finset.mem_univ _, h⟩
  · intro hx
    have := (Finset.mem_filter.mp hx).2
    omega

theorem place_inj {x y : I} (h : place dig x = place dig y) : x = y := by
  by_contra hne
  have h0 : (x 0).val ≠ (y 0).val := fun e => hne (idx_ext e)
  have hcase : (dig x < dig y ∨ (dig x = dig y ∧ (x 0).val < (y 0).val)) ∨ (dig y < dig x ∨ (dig y = dig x ∧ (y 0).val < (x 0).val)) := by omega
  rcases hcase with hc | hc
  · exact absurd h (place_mono dig hc).ne
  · exact absurd h (place_mono dig hc).ne'

theorem lt_of_place_lt {x y : I} (h : place dig x < place dig y) : dig x < dig y ∨ (dig x = dig y ∧ (x 0).val < (y 0).val) := by
  by_contra hc
  have : (dig y < dig x ∨ (dig y = dig x ∧ (y 0).val < (x 0).val)) ∨ (x 0).val = (y 0).val := by omega
  rcases this with h' | h'
  · exact absurd (place_mono dig h') (by omega)
  · rw [idx_ext h'] at h; exact absurd h (lt_irrefl _)

/-- `place` as a permutation of the positions. -/
def placeE : Equiv.Perm I :=
  Equiv.ofBijective (fun x => ix (place dig x) (place_lt dig x))
    (Finite.injective_iff_bijective.mp fun x y h => place_inj dig (congrArg (fun z : I => (z 0).val) h))

theorem placeE_val (x : I) : (placeE dig x 0).val = place dig x := rfl

/-! ## Sixteen words at a time -/

/-- The word that lane `k` of step `t` takes. -/
def word (t : ℕ) (ht : t < 256) (k : S16.Idx) : I :=
  ix (16 * t + (k 0).val) (by have : (k 0).val < 16 := (k 0).isLt; omega)

theorem word_val {t : ℕ} (ht : t < 256) (k : S16.Idx) : (word t ht k 0).val = 16 * t + (k 0).val := rfl

theorem word_inj {t : ℕ} (ht : t < 256) {k k' : S16.Idx} (h : word t ht k = word t ht k') : k = k' := by
  have : 16 * t + (k 0).val = 16 * t + (k' 0).val := congrArg (fun z : I => (z 0).val) h
  exact idx_ext (N := 16) (by omega)

theorem word_surj {t : ℕ} (ht : t < 256) {y : I} (h1 : 16 * t ≤ (y 0).val) (h2 : (y 0).val < 16 * t + 16) : ∃ k, word t ht k = y :=
  ⟨lane ⟨(y 0).val - 16 * t, by omega⟩, idx_ext (N := 4096) (by rw [word_val, lane_val]; show 16 * t + ((y 0).val - 16 * t) = _; omega)⟩

theorem upTo_lanes {t : ℕ} (ht : t < 256) (m b : ℕ) (hm : m ≤ 16) :
    upTo dig (16 * t + m) b
      = upTo dig (16 * t) b + (Finset.univ.filter fun k : S16.Idx => (k 0).val < m ∧ dig (word t ht k) = b).card := by
  unfold upTo
  rw [← Finset.card_image_of_injective (Finset.univ.filter fun k : S16.Idx => (k 0).val < m ∧ dig (word t ht k) = b)
    (fun k k' h => word_inj ht h : Function.Injective (word t ht)), ← Finset.card_union_of_disjoint]
  · congr 1; ext y
    simp only [Finset.mem_union, Finset.mem_filter, Finset.mem_univ, true_and, Finset.mem_image]
    constructor
    · rintro ⟨h1, h2⟩
      by_cases h : (y 0).val < 16 * t
      · exact .inl ⟨h, h2⟩
      · obtain ⟨k, rfl⟩ := word_surj ht (y := y) (by omega) (by omega)
        rw [word_val] at h1
        exact .inr ⟨k, ⟨by omega, h2⟩, rfl⟩
    · rintro (⟨h1, h2⟩ | ⟨k, ⟨h1, h2⟩, rfl⟩)
      · exact ⟨by omega, h2⟩
      · exact ⟨by rw [word_val]; omega, h2⟩
  · rw [Finset.disjoint_left]
    intro y hy hy'
    have h1 := (Finset.mem_filter.mp hy).2.1
    obtain ⟨k, -, rfl⟩ := Finset.mem_image.mp hy'
    rw [word_val] at h1; omega

theorem upTo_step {t : ℕ} (ht : t < 256) (b : ℕ) :
    upTo dig (16 * (t + 1)) b = upTo dig (16 * t) b + (Finset.univ.filter fun k : S16.Idx => dig (word t ht k) = b).card := by
  rw [show 16 * (t + 1) = 16 * t + 16 by ring, upTo_lanes dig ht 16 b le_rfl]
  congr 2; ext k
  have : (k 0).val < 16 := (k 0).isLt
  simp [this]

theorem upTo_zero (b : ℕ) : upTo dig 0 b = 0 := by
  unfold upTo; simp

theorem below_succ (b : ℕ) : below dig (b + 1) = below dig b + upTo dig 4096 b := by
  unfold below upTo
  rw [← Finset.card_union_of_disjoint]
  · congr 1; ext y
    have : (y 0).val < 4096 := (y 0).isLt
    simp only [Finset.mem_union, Finset.mem_filter, Finset.mem_univ, true_and, this]
    omega
  · rw [Finset.disjoint_left]
    intro y hy hy'
    have h1 := (Finset.mem_filter.mp hy).2
    have h2 := (Finset.mem_filter.mp hy').2
    omega

theorem below_zero : below dig 0 = 0 := by
  unfold below; simp

theorem below_lanes (b m : ℕ) (hm : m ≤ 16) :
    below dig (b + m) = below dig b + ∑ k : S16.Idx, if (k 0).val < m then upTo dig 4096 (b + (k 0).val) else 0 := by
  induction m with
  | zero => simp
  | succ m ih =>
    rw [← add_assoc, below_succ, ih (by omega), add_assoc, Nat.add_left_cancel_iff]
    have h : ∀ k : S16.Idx, (if (k 0).val < m + 1 then upTo dig 4096 (b + (k 0).val) else 0)
        = (if (k 0).val < m then upTo dig 4096 (b + (k 0).val) else 0) + if lane ⟨m, by omega⟩ = k then upTo dig 4096 (b + (k 0).val) else 0 := by
      intro k
      by_cases hk : (k 0).val = m
      · have : lane ⟨m, by omega⟩ = k := idx_ext (N := 16) hk.symm
        simp [this, hk]
      · have : lane ⟨m, by omega⟩ ≠ k := fun e => hk (e ▸ rfl)
        simp only [this, if_false, add_zero]
        congr 1; apply propext; omega
    have e : (∑ k : S16.Idx, if lane ⟨m, by omega⟩ = k then upTo dig 4096 (b + (k 0).val) else 0) = upTo dig 4096 (b + m) :=
      (Finset.sum_ite_eq Finset.univ (lane ⟨m, by omega⟩) fun k => upTo dig 4096 (b + (k 0).val)).trans (if_pos (Finset.mem_univ _))
    rw [Finset.sum_congr rfl fun k _ => h k, Finset.sum_add_distrib, e]

/-! ## What the counters, the histogram and the destination hold -/

/-- The histogram after the first `n` words. -/
def HistAt (n : ℕ) (h : Vec F S512 .i32) : Prop := ∀ i : S512.Idx, h i = BitVec.ofNat 32 (upTo dig n (i 0).val)
/-- The counters after the first `n` words: where the next word of each digit goes. -/
def CtrAt (n : ℕ) (c : Vec F S512 .i32) : Prop := ∀ i : S512.Idx, c i = BitVec.ofNat 32 (below dig (i 0).val + upTo dig n (i 0).val)
/-- The counters' first `n` entries before any word. -/
def BaseAt (n : ℕ) (c : Vec F S512 .i32) : Prop := ∀ i : S512.Idx, (i 0).val < n → c i = BitVec.ofNat 32 (below dig (i 0).val)
/-- The first `n` words stand in the destination, `off` past their places. -/
def Placed {N : ℕ} {e : EltTy} (n off : ℕ) (val : I → Elt F e) (D : Vec F (⟨1, ![N]⟩ : Shape) e) : Prop :=
  ∀ (x : I) (y : (⟨1, ![N]⟩ : Shape).Idx), (x 0).val < n → (y 0).val = place dig x + off → D y = val x

theorem BaseAt.ctr {c : Vec F S512 .i32} (h : BaseAt (F := F) dig 512 c) : CtrAt (F := F) dig 0 c := fun i => by
  rw [h i (i 0).isLt, upTo_zero, add_zero]

variable {dig}

theorem HistAt.step {t : ℕ} (ht : t < 256) {h : Vec F S512 .i32} (H : HistAt (F := F) dig (16 * t) h) {dv : IVec S16 32}
    (hdv : ∀ k, (dv k).toNat = dig (word t ht k)) (hb : ∀ a x, ((![dv] : Fin 1 → IVec S16 32) a x).toNat < S512.size a) :
    HistAt (F := F) dig (16 * (t + 1)) (storeIdx (F := F) (s := S512) (e := .i32) (d := ![16]) h ![dv] (fun _ => (1#32 : BitVec 32)) (fun _ => 1#1) true hb) := by
  intro i
  rw [storeIdx_add (F := F) (N := 512) i, H i, upTo_step dig ht, BitVec.ofNat_add]
  simp only [Matrix.cons_val_zero, hdv]

theorem lane_count {t : ℕ} (ht : t < 256) {dv : IVec S16 32} (hdv : ∀ k, (dv k).toNat = dig (word t ht k)) (k : S16.Idx) :
    (Finset.univ.filter fun k' : S16.Idx => (k' 0).val ≤ (k 0).val ∧ dv k' = dv k).card
      = (Finset.univ.filter fun k' : S16.Idx => (k' 0).val < (k 0).val + 1 ∧ dig (word t ht k') = dig (word t ht k)).card := by
  congr 1; ext k'
  simp only [Finset.mem_filter, Finset.mem_univ, true_and, Nat.lt_succ_iff]
  rw [← hdv, ← hdv, BitVec.toNat_inj]

theorem place_word {t : ℕ} (ht : t < 256) (k : S16.Idx) :
    place dig (word t ht k) + 1 = below dig (dig (word t ht k)) + upTo dig (16 * t) (dig (word t ht k))
      + (Finset.univ.filter fun k' : S16.Idx => (k' 0).val < (k 0).val + 1 ∧ dig (word t ht k') = dig (word t ht k)).card := by
  have hk : (k 0).val < 16 := (k 0).isLt
  have h1 := upTo_lanes dig ht (k 0).val (dig (word t ht k)) hk.le
  have h2 : (Finset.univ.filter fun k' : S16.Idx => (k' 0).val < (k 0).val + 1 ∧ dig (word t ht k') = dig (word t ht k))
      = insert k (Finset.univ.filter fun k' : S16.Idx => (k' 0).val < (k 0).val ∧ dig (word t ht k') = dig (word t ht k)) := by
    ext k'
    simp only [Finset.mem_filter, Finset.mem_univ, true_and, Finset.mem_insert]
    constructor
    · rintro ⟨ha, hb⟩
      by_cases he : (k' 0).val = (k 0).val
      · exact .inl (idx_ext (N := 16) he)
      · exact .inr ⟨by omega, hb⟩
    · rintro (rfl | ⟨ha, hb⟩)
      · exact ⟨Nat.lt_succ_self _, rfl⟩
      · exact ⟨by omega, hb⟩
  rw [h2, Finset.card_insert_of_notMem fun hk' => absurd (Finset.mem_filter.mp hk').2.1 (lt_irrefl _)]
  unfold place
  rw [word_val, h1]; ring

/-- The word a lane computes from the counter it read and its running count is its place. -/
theorem CtrAt.place {t : ℕ} (ht : t < 256) {c : Vec F S512 .i32} (H : CtrAt (F := F) dig (16 * t) c) {dv : IVec S16 32}
    (hdv : ∀ k, (dv k).toNat = dig (word t ht k)) (hb : ∀ a x, ((![dv] : Fin 1 → IVec S16 32) a x).toNat < S512.size a) (k : S16.Idx) :
    (loadIdx (F := F) (s := S512) (e := .i32) (t := S16) c ![dv] hb k : BitVec 32) + (scanCount (fun _ => 1#1) dv).2 k - 1#32
      = BitVec.ofNat 32 (CountSort.place dig (word t ht k)) := by
  rw [scanCount_count, lane_count ht hdv, sub_eq_iff_eq_add]
  have h1 : (loadIdx (F := F) (s := S512) (e := .i32) (t := S16) c ![dv] hb k : BitVec 32)
      = BitVec.ofNat 32 (below dig (dig (word t ht k)) + upTo dig (16 * t) (dig (word t ht k))) := by
    unfold loadIdx; rw [H]
    have : (idxAt (s := S512) (t := S16) ![dv] hb k 0).val = dig (word t ht k) := hdv k
    rw [this]
  rw [h1, ← BitVec.ofNat_add, ← place_word ht k, BitVec.ofNat_add]

theorem exists_last {t : ℕ} (ht : t < 256) {b : ℕ} (h : ∃ k, dig (word t ht k) = b) :
    ∃ k, dig (word t ht k) = b ∧ ∀ k' : S16.Idx, (k 0).val < (k' 0).val → dig (word t ht k') ≠ b := by
  obtain ⟨k0, hk0⟩ := h
  obtain ⟨k, hk, hmax⟩ := Finset.exists_max_image (Finset.univ.filter fun k : S16.Idx => dig (word t ht k) = b) (fun k => (k 0).val)
    ⟨k0, Finset.mem_filter.mpr ⟨Finset.mem_univ _, hk0⟩⟩
  refine ⟨k, (Finset.mem_filter.mp hk).2, fun k' hk' e => ?_⟩
  have := hmax k' (Finset.mem_filter.mpr ⟨Finset.mem_univ _, e⟩)
  omega

/-- The counters' step: the last lane of each digit stores the place after its own. -/
theorem CtrAt.step {t : ℕ} (ht : t < 256) {c : Vec F S512 .i32} (H : CtrAt (F := F) dig (16 * t) c) {dv p : IVec S16 32}
    (hdv : ∀ k, (dv k).toNat = dig (word t ht k)) (hp : ∀ k, p k = BitVec.ofNat 32 (CountSort.place dig (word t ht k) + 1))
    (hb : ∀ a x, ((![dv] : Fin 1 → IVec S16 32) a x).toNat < S512.size a) :
    CtrAt (F := F) dig (16 * (t + 1))
      (storeIdx (F := F) (s := S512) (e := .i32) (d := ![16]) c ![dv] p (scanCount (fun _ => 1#1) dv).1 false hb) := by
  intro i
  by_cases h : ∃ k, dig (word t ht k) = (i 0).val
  · obtain ⟨k, hk, hlast⟩ := exists_last ht h
    rw [storeIdx_hit (F := F) (N := 512) (e := .i32) k ((scanCount_last dv k).mpr fun k' hk' e => hlast k' hk' (by rw [← hdv, e, hdv, hk])) ((hdv k).trans hk)
      fun k' hk' _ e => hlast k' hk' ((hdv k').symm.trans e), hp, place_word ht k, hk, upTo_step dig ht, add_assoc]
    congr 4; ext k'
    simp only [Finset.mem_filter, Finset.mem_univ, true_and, Nat.lt_succ_iff, and_iff_right_iff_imp]
    intro e; by_contra hc
    exact hlast k' (by omega) e
  · push Not at h
    rw [storeIdx_miss (F := F) (N := 512) (e := .i32) fun k _ e => h k ((hdv k).symm.trans e), H i, upTo_step dig ht]
    rw [show (Finset.univ.filter fun k : S16.Idx => dig (word t ht k) = (i 0).val) = ∅ from Finset.filter_false_of_mem fun k _ => h k]
    rfl

/-- The destination's step. -/
theorem Placed.step {N : ℕ} {e : EltTy} {t : ℕ} (ht : t < 256) {off : ℕ} {val : I → Elt F e} {D : Vec F (⟨1, ![N]⟩ : Shape) e}
    (H : Placed (F := F) dig (16 * t) off val D) {p : IVec S16 32} {v : Vec F S16 e}
    (hp : ∀ k, (p k).toNat = CountSort.place dig (word t ht k) + off) (hv : ∀ k, v k = val (word t ht k))
    (hb : ∀ a x, ((![p] : Fin 1 → IVec S16 32) a x).toNat < (⟨1, ![N]⟩ : Shape).size a) :
    Placed (F := F) dig (16 * (t + 1)) off val
      (storeIdx (F := F) (s := (⟨1, ![N]⟩ : Shape)) (e := e) (d := ![16]) D ![p] v (fun _ => 1#1) false hb) := by
  intro x y hx hy
  by_cases h : 16 * t ≤ (x 0).val
  · obtain ⟨k, rfl⟩ := word_surj ht h (by omega)
    rw [storeIdx_hit (F := F) k rfl ((hp k).trans hy.symm), hv]
    intro k' hk' _ e'
    have e1 : place dig (word t ht k') = place dig (word t ht k) := by
      have := (hp k').symm.trans (e'.trans hy); omega
    rw [word_inj ht (place_inj dig e1)] at hk'
    exact lt_irrefl _ hk'
  · rw [storeIdx_miss (F := F) (fun k _ e' => ?_)]
    · exact H x y (by omega) hy
    · have e1 : place dig (word t ht k) = place dig x := by
        have := (hp k).symm.trans (e'.trans hy); omega
      have := word_val ht k
      rw [place_inj dig e1] at this
      omega

theorem Placed.zero {N : ℕ} {e : EltTy} {off : ℕ} {val : I → Elt F e} {D : Vec F (⟨1, ![N]⟩ : Shape) e} : Placed (F := F) dig 0 off val D :=
  fun _ _ h => absurd h (Nat.not_lt_zero _)

/-- The running sum's step: sixteen more entries of the counters, from sixteen of the histogram. -/
theorem base_word {t : ℕ} {h : IVec S16 32} (hh : ∀ k : S16.Idx, h k = BitVec.ofNat 32 (upTo dig 4096 (16 * t + (k 0).val)))
    (k : S16.Idx) :
    BitVec.ofNat 32 (below dig (16 * t)) + (scan (d := ![16]) .sum h : IVec S16 32) k - h k = BitVec.ofNat 32 (below dig (16 * t + (k 0).val))
    ∧ BitVec.ofNat 32 (below dig (16 * t)) + (scan (d := ![16]) .sum h : IVec S16 32) k = BitVec.ofNat 32 (below dig (16 * t + (k 0).val + 1)) := by
  have hk : (k 0).val < 16 := (k 0).isLt
  have e1 : (scan (d := ![16]) .sum h : IVec S16 32) k
      = BitVec.ofNat 32 (∑ k' : S16.Idx, if (k' 0).val < (k 0).val + 1 then upTo dig 4096 (16 * t + (k' 0).val) else 0) := by
    rw [scan_sum]
    have : ∀ n : ℕ, BitVec.ofNat 32 n = ((n : ℕ) : BitVec 32) := fun n => rfl
    rw [this, Nat.cast_sum]
    refine Finset.sum_congr rfl fun k' _ => ?_
    rw [hh, this]
    by_cases h' : (k' 0).val < (k 0).val + 1
    · rw [if_pos h', if_pos (by omega)]
    · rw [if_neg h', if_neg (by omega)]; rfl
  have e2 : BitVec.ofNat 32 (below dig (16 * t)) + (scan (d := ![16]) .sum h : IVec S16 32) k = BitVec.ofNat 32 (below dig (16 * t + (k 0).val + 1)) := by
    rw [e1, ← BitVec.ofNat_add, add_assoc (16 * t), below_lanes dig (16 * t) ((k 0).val + 1) (by omega)]
  refine ⟨?_, e2⟩
  rw [e2, below_succ, hh, sub_eq_iff_eq_add, BitVec.ofNat_add]

/-! ## A pass carries an order on -/

/-- `D` holds the words of `K` in an order in which their remainders by `M` do not fall. -/
def SortedBy (M : ℕ) (K D : I → BitVec 32) : Prop :=
  ∃ τ : Equiv.Perm I, (∀ y, D y = K (τ y)) ∧ ∀ y z : I, (y 0).val < (z 0).val → (D y).toNat % M ≤ (D z).toNat % M

/-- The full histogram does not depend on the order of the words. -/
theorem upTo_perm {dig' dig'' : I → ℕ} (h : ∀ x, dig' (placeE dig x) = dig'' x) (b : ℕ) : upTo dig' 4096 b = upTo dig'' 4096 b := by
  unfold upTo
  refine Finset.card_bij' (fun y _ => (placeE dig).symm y) (fun y _ => placeE dig y) (fun y hy => ?_) (fun y hy => ?_) (fun _ _ => by simp) (fun _ _ => by simp)
  · obtain ⟨x, rfl⟩ := (placeE dig).surjective y
    simp only [Finset.mem_filter, Finset.mem_univ, true_and, Equiv.symm_apply_apply] at hy ⊢
    exact ⟨(x 0).isLt, by rw [← h]; exact hy.2⟩
  · simp only [Finset.mem_filter, Finset.mem_univ, true_and] at hy ⊢
    exact ⟨(placeE dig y 0).isLt, by rw [h]; exact hy.2⟩

theorem SortedBy.refl (K : I → BitVec 32) : SortedBy 1 K K :=
  ⟨Equiv.refl _, fun _ => rfl, fun y z _ => by simp [Nat.mod_one]⟩

theorem SortedBy.pass {M : ℕ} {K S D : I → BitVec 32} (h : SortedBy M K S) (hd : ∀ y, dig y = (S y).toNat / M % 512)
    (hD : ∀ x, D (placeE dig x) = S x) : SortedBy (M * 512) K D := by
  obtain ⟨τ, h1, h2⟩ := h
  refine ⟨(placeE dig).symm.trans τ, fun y => ?_, fun y z hyz => ?_⟩
  · obtain ⟨x, rfl⟩ := (placeE dig).surjective y
    rw [hD, h1]; simp
  · obtain ⟨x, rfl⟩ := (placeE dig).surjective y
    obtain ⟨w, rfl⟩ := (placeE dig).surjective z
    rw [hD, hD, Nat.mod_mul, Nat.mod_mul, ← hd, ← hd]
    rcases lt_of_place_lt dig (x := x) (y := w) hyz with hlt | ⟨heq, hlt⟩
    · have hM : (S x).toNat % M ≤ M := by
        rcases Nat.eq_zero_or_pos M with rfl | hM
        · have := hd x; have := hd w; simp at *; omega
        · exact (Nat.mod_lt _ hM).le
      calc (S x).toNat % M + M * dig x ≤ M + M * dig x := by omega
        _ = M * (dig x + 1) := by ring
        _ ≤ M * dig w := Nat.mul_le_mul_left _ hlt
        _ ≤ _ := by omega
    · rw [heq]; have := h2 x w hlt; omega

theorem SortedBy.mem {M : ℕ} {K D : I → BitVec 32} (h : SortedBy M K D) {p : BitVec 32 → Prop} (hK : ∀ y, p (K y)) (y : I) : p (D y) := by
  obtain ⟨τ, h1, -⟩ := h
  rw [h1]; exact hK _

end Cert.Proof.CountSort

end
-- ==== Proof.Held.lean ====
/-
  A buffer held through a memref by what the memref READS, and the machine's memory operations over it: a load gives the
  entries under its rectangle, a store replaces them, the two indexed operations read and rewrite the whole. What a
  loop's invariant says is then about plain functions from the memref's indices.
-/
module

public import proofs.«01_k».proof.Proof.CountSort
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

noncomputable section

namespace Cert.Proof.Held

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The resource algebra -/

abbrev 𝒱₀ : Variants := Variants.none
abbrev UH : Type := URounds (GSem nD τ sig) ℕ
abbrev UB : Type := URounds (GSem nD τ sig) ℕ
abbrev UU : Type := UH × (UB × Counters)

local notation "𝕄" => MT nD τ sig (HIx 1) (Elt F) ℕ UU ℕ

/-! ## A store's result, as a function -/

/-- `D` with the entries under the rectangle replaced by `w` where the mask names them. -/
def put {s : Shape} {e : EltTy} (r : Rect s) (D : s.Idx → Elt F e) (w : r.shape.Idx → Elt F e) (M : Finset r.shape.Idx) : s.Idx → Elt F e :=
  fun j => match preimage? r.emb j with
    | some x => if x ∈ M then w x else D j
    | none => D j

omit [FloatOps F] in
theorem put_emb {s : Shape} {e : EltTy} (r : Rect s) (D : s.Idx → Elt F e) (w : r.shape.Idx → Elt F e) (M : Finset r.shape.Idx) (x : r.shape.Idx) :
    put r D w M (r.emb x) = if x ∈ M then w x else D (r.emb x) := by
  unfold put; rw [preimage?_emb]

omit [FloatOps F] in
theorem put_miss {s : Shape} {e : EltTy} (r : Rect s) (D : s.Idx → Elt F e) (w : r.shape.Idx → Elt F e) (M : Finset r.shape.Idx) (j : s.Idx)
    (h : ∀ x, r.emb x ≠ j) : put r D w M j = D j := by
  unfold put
  rw [show preimage? r.emb j = none from preimage?_eq_none h]

/-! ## Holding a memref at what it reads -/

/-- Thread `c` holds every element of the memref outright, and through it reads `D`. -/
def has (c : Thread nD τ) {cs : Space} {s : Shape} {e : EltTy} (m : Memref sig c.2.kind cs s e) (D : s.Idx → Elt F e) : sProp 𝕄 :=
  iprop(∃ f, ⌜m.view.read (Elt F) f = D⌝ ∗ (m.view.loc c ↦[m.view.set]{fullShare} f))

section Rules

variable {Λ : Labels} {defs : Defs nD τ sig (Elt F) Λ} (c : Thread nD τ) (bd : Option 𝒱₀.V)
variable {s t : Shape} {e : EltTy} {α : Type} {Q : α → sProp (MT nD τ sig (HIx 1) (Elt F) ℕ UU ℕ)}

theorem has_intro {cs : Space} (m : Memref sig c.2.kind cs s e) (f : Buf (Elt F) (m.view.loc c)) :
    (m.view.loc c ↦[m.view.set]{fullShare} f : sProp 𝕄) ⊢ has c m (m.view.read (Elt F) f) := by
  unfold has; iintro H; iexists f; isplitr; · ipureintro; rfl
  iexact H

theorem wp_ld {cs : CoreSpace} {m : Memref sig c.2.kind cs s e} {r : Rect s} {hl : m.view.LoadsAt r} {k : (r.shape.Idx → Elt F e) → Prog (TpuEff nD τ sig (Elt F) Λ c.2) α}
    {D : s.Idx → Elt F e} :
    has c m D ⊢ iprop((has c m D -∗ wp frame (wpE defs 𝒱₀ c bd) Set.univ (k fun x => D (r.emb x)) Q)
      -∗ wp frame (wpE defs 𝒱₀ c bd) Set.univ (.op (.load m r hl) k) Q) := by
  unfold has
  iintro ⟨%f, %hf, H⟩ Hk
  subst hf
  iapply (wp_load 𝒱₀ c bd Set.univ (m := m) (S := m.view.set) (m.view.setOn_subset_set _)) $$ H
  iintro H
  iapply Hk
  iexists f; isplitr; · ipureintro; rfl
  iexact H

/-- A load whose result is known by its entries. -/
theorem wp_ldv {cs : CoreSpace} {m : Memref sig c.2.kind cs s e} {r : Rect s} {hl : m.view.LoadsAt r} {k : (r.shape.Idx → Elt F e) → Prog (TpuEff nD τ sig (Elt F) Λ c.2) α}
    {D : s.Idx → Elt F e} :
    has c m D ⊢ iprop((∀ V : r.shape.Idx → Elt F e, ⌜∀ x, V x = D (r.emb x)⌝ -∗ has c m D -∗ wp frame (wpE defs 𝒱₀ c bd) Set.univ (k V) Q)
      -∗ wp frame (wpE defs 𝒱₀ c bd) Set.univ (.op (.load m r hl) k) Q) := by
  iintro H Hk
  iapply (wp_ld (defs := defs) c bd) $$ H
  iintro H
  iapply Hk $$ %(fun x => D (r.emb x)) [] H
  ipureintro; intro x; rfl

theorem read_put {cs : Space} {κ : Kind} (m : Memref sig κ cs s e) (r : Rect s) (f : m.view.ty.Contents (Elt F)) (w : r.shape.Idx → Elt F e) (M : Finset r.shape.Idx) :
    m.view.read (Elt F) ((m.access r).write (Elt F) f w M) = put r (m.view.read (Elt F) f) w M := by
  funext j
  by_cases h : ∃ x, r.emb x = j
  · obtain ⟨x, rfl⟩ := h
    rw [put_emb]
    split
    · next hx => exact View.read_slice_write_emb r f w hx
    · next hx => exact View.read_slice_write_of_not_mem r f w M fun hm => hx ((Finset.mem_map' r.emb).mp hm)
  · rw [put_miss _ _ _ _ _ fun x hx => h ⟨x, hx⟩]
    exact View.read_slice_write_of_not_mem r f w M fun hm => by
      obtain ⟨x, -, hx⟩ := Finset.mem_map.mp hm; exact h ⟨x, hx⟩

theorem access_set_subset {cs : Space} {κ : Kind} (m : Memref sig κ cs s e) (r : Rect s) (M : Finset r.shape.Idx) : (m.access r).setOn M ⊆ m.view.set := by
  intro i hi
  obtain ⟨x, -, rfl⟩ := Finset.mem_map.mp hi
  exact Finset.mem_map.mpr ⟨r.emb x, Finset.mem_univ _, rfl⟩

theorem wp_st {cs : CoreSpace} {m : Memref sig c.2.kind cs s e} {r : Rect s} {w : r.shape.Idx → Elt F e} {Mk : Finset r.shape.Idx} {hx : (m.access r).Stores Mk}
    {hm : Mk = Finset.univ ∨ ∀ a, r.stride a = 1} {k : PUnit → Prog (TpuEff nD τ sig (Elt F) Λ c.2) α} {D : s.Idx → Elt F e} :
    has c m D ⊢ iprop((has c m (put r D w Mk) -∗ wp frame (wpE defs 𝒱₀ c bd) Set.univ (k ⟨⟩) Q)
      -∗ wp frame (wpE defs 𝒱₀ c bd) Set.univ (.op (.store m r w Mk hx hm) k) Q) := by
  unfold has
  iintro ⟨%f, %hf, H⟩ Hk
  subst hf
  iapply (wp_store 𝒱₀ c bd Set.univ (m := m) (r := r) (Mk := Mk) (S := m.view.set) (access_set_subset m r Mk)) $$ H
  iintro H
  iapply Hk
  iexists _; isplitr
  swap; · iexact H
  ipureintro; exact read_put m r f w Mk

theorem wp_ldx {base : Memref sig c.2.kind .vmem s e} {idxs : Fin s.rank → IVec t 32}
    {h : ∀ a x, (idxs a x).toNat < s.size a} {hl : base.view.Loads} {k : Vec F t e → Prog (TpuEff nD τ sig (Elt F) Λ c.2) α} {D : s.Idx → Elt F e} :
    has c base D ⊢ iprop((has c base D -∗ wp frame (wpE defs 𝒱₀ c bd) Set.univ (k (loadIdx D idxs h)) Q)
      -∗ wp frame (wpE defs 𝒱₀ c bd) Set.univ (SparseCore.vectorLoadIdx base idxs h hl >>= k) Q) := by
  rw [SparseCore.vectorLoadIdx_bind]
  iintro H Hk
  iapply (wp_ld (defs := defs) c bd (r := Rect.whole s) (k := fun f => k (loadIdx f idxs h))) $$ H
  simp only [Rect.emb_whole_apply]
  iexact Hk

theorem wp_stx {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ c.2) α} {D : s.Idx → Elt F e} :
    has c base D ⊢ iprop((has c base (storeIdx D idxs v mask add h) -∗ wp frame (wpE defs 𝒱₀ c bd) Set.univ (k ⟨⟩) Q)
      -∗ wp frame (wpE defs 𝒱₀ c bd) Set.univ (SparseCore.vectorStoreIdx base idxs v mask add h hs >>= k) Q) := by
  rw [SparseCore.vectorStoreIdx_bind]
  iintro H Hk
  iapply (wp_ld (defs := defs) c bd (r := Rect.whole s) (hl := View.loadsAt_rect hs.loads)
    (k := fun f' => .op (.store base (.whole s) (storeIdx f' idxs v mask add h) Finset.univ hs (.inl rfl)) k)) $$ H
  iintro H
  simp only [Rect.emb_whole_apply]
  iapply (wp_st (defs := defs) c bd (m := base) (r := .whole s) (Mk := Finset.univ) (hx := hs) (hm := .inl rfl) (k := k)) $$ H
  rw [show put (Rect.whole s) D (storeIdx D idxs v mask add h) Finset.univ = storeIdx D idxs v mask add h from funext fun j => by
    have := put_emb (Rect.whole s) D (storeIdx D idxs v mask add h) Finset.univ j
    rw [Rect.emb_whole_apply, if_pos (Finset.mem_univ _)] at this; exact this]
  iexact Hk

end Rules

end Cert.Proof.Held

end
-- ==== Proof.Loops.lean ====
/-
  One trip of each of the kernel's loops, over memrefs held at what they read: the histogram's clearing, the keys and the
  first histogram, the running sum of a histogram, the three placing passes and the last sums.
-/
module

public import proofs.«01_k».proof.Proof.Held

@[expose] public section

noncomputable section

namespace Cert.Proof.Loops

open Cert.KernelIdeal Cert.KernelIdeal.Gen
open Cert.Proof.CountSort Cert.Proof.Held

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The tile's thread. -/
abbrev th (d : Dev nD) (L : grid0.Coords) : Thread nD τ := V d ((L 0).castLE hcore0) ((L 1).castLE hsub0)

/-! ## Sixteen entries of a vector at an offset -/

section Sixteen

variable {N : ℕ} {e : EltTy} {off : Fin 1 → ℕ} (h : ∀ a, off a + S16.size a ≤ (⟨1, ![N]⟩ : Shape).size a)

theorem emb16 (x : S16.Idx) : ((Rect.unit (s := ⟨1, ![N]⟩) off S16.size h).emb x 0).val = off 0 + (x 0).val := by
  show off 0 + 1 * (x 0).val = _; omega

theorem put16_in (D : (⟨1, ![N]⟩ : Shape).Idx → Elt F e) (w : S16.Idx → Elt F e) (x : S16.Idx) (j : (⟨1, ![N]⟩ : Shape).Idx)
    (hj : (j 0).val = off 0 + (x 0).val) : put (Rect.unit (s := ⟨1, ![N]⟩) off S16.size h) D w Finset.univ j = w x := by
  have : (Rect.unit (s := ⟨1, ![N]⟩) off S16.size h).emb x = j := idx_ext (by rw [emb16, hj])
  rw [← this, put_emb, if_pos (Finset.mem_univ _)]

theorem put16_out (D : (⟨1, ![N]⟩ : Shape).Idx → Elt F e) (w : S16.Idx → Elt F e) (M : Finset S16.Idx) (j : (⟨1, ![N]⟩ : Shape).Idx)
    (hj : (j 0).val < off 0 ∨ off 0 + 16 ≤ (j 0).val) : put (Rect.unit (s := ⟨1, ![N]⟩) off S16.size h) D w M j = D j := by
  refine put_miss _ _ _ _ _ fun x hx => ?_
  have h1 := emb16 h x
  have h2 : (x 0).val < 16 := (x 0).isLt
  rw [hx] at h1; omega

/-- The entry of the sixteen that an index names. -/
theorem in16 (j : (⟨1, ![N]⟩ : Shape).Idx) (h1 : off 0 ≤ (j 0).val) (h2 : (j 0).val < off 0 + 16) : ∃ x : S16.Idx, (j 0).val = off 0 + (x 0).val :=
  ⟨lane ⟨(j 0).val - off 0, by omega⟩, by show (j 0).val = off 0 + ((j 0).val - off 0); omega⟩

end Sixteen

/-- The sixteen words that a trip reads. -/
theorem emb_word {off : Fin 1 → ℕ} (h : ∀ a, off a + S16.size a ≤ S4096.size a) {t : ℕ} (ht : t < 256) (e0 : off 0 = 16 * t) (x : S16.Idx) :
    (Rect.unit (s := S4096) off S16.size h).emb x = word t ht x :=
  idx_ext (N := 4096) (by rw [emb16 (N := 4096), e0, word_val])

theorem fits {N : ℕ} {v : IVec S16 32} (h : ∀ x, (v x).toNat < N) (a : Fin 1) (x : S16.Idx) : ((![v] : Fin 1 → IVec S16 32) a x).toNat < (⟨1, ![N]⟩ : Shape).size a := by
  obtain rfl := Fin.eq_zero a; exact h x

/-! ## The keys and their three digits -/

/-- A height's word to its key: counted from the smallest height's word, clamped. -/
def key (w : BitVec 32) : BitVec 32 := IntOp.maxsi (IntOp.minsi (w - 1031798784#32) 134217727#32) 0#32

theorem key_lt (w : BitVec 32) : (key w).toNat < 2 ^ 27 := by
  unfold key IntOp.maxsi IntOp.minsi
  generalize w - 1031798784#32 = z
  simp only [BitVec.slt, decide_eq_true_eq]
  have h0 : (0#32 : BitVec 32).toInt = 0 := by decide
  have h1 : (134217727#32 : BitVec 32).toInt = 134217727 := by decide
  have hz := BitVec.toInt_eq_toNat_cond z
  have hlt := z.isLt
  split <;> split <;> split at * <;> simp_all <;> omega

def dg1 (S : I → BitVec 32) (y : I) : ℕ := (S y).toNat % 512
def dg2 (S : I → BitVec 32) (y : I) : ℕ := (S y).toNat / 512 % 512
def dg3 (S : I → BitVec 32) (y : I) : ℕ := (S y).toNat / 262144 % 512

theorem low9 (v : BitVec 32) : (IntOp.andi v 511#32).toNat = v.toNat % 512 := by
  show (v &&& 511#32).toNat = _
  rw [BitVec.toNat_and]; exact Nat.and_two_pow_sub_one_eq_mod v.toNat 9
theorem shr9 (v : BitVec 32) : (IntOp.shrui .vector v 9#32).toNat = v.toNat / 512 := by
  unfold IntOp.shrui; rw [if_pos (by decide), BitVec.ushiftRight_eq', BitVec.toNat_ushiftRight, Nat.shiftRight_eq_div_pow]; rfl
theorem shr18 (v : BitVec 32) : (IntOp.shrui .vector v 18#32).toNat = v.toNat / 262144 := by
  unfold IntOp.shrui; rw [if_pos (by decide), BitVec.ushiftRight_eq', BitVec.toNat_ushiftRight, Nat.shiftRight_eq_div_pow]; rfl

theorem pay19_dig (v : Vec F S16 .i32) (x : S16.Idx) : (k0_pay19 (F := F) v x).toNat = (v x : BitVec 32).toNat % 512 := low9 _
theorem pay24_dig (v : Vec F S16 .i32) (x : S16.Idx) : (k0_pay24 (F := F) v x).toNat = (v x : BitVec 32).toNat / 512 % 512 := by
  show (IntOp.andi (IntOp.shrui .vector (v x) 9#32) 511#32).toNat = _; rw [low9, shr9]
theorem pay32_dig (v : Vec F S16 .i32) (x : S16.Idx) (h : (v x : BitVec 32).toNat < 2 ^ 27) : (k0_pay32 (F := F) v x).toNat = (v x : BitVec 32).toNat / 262144 % 512 := by
  show (IntOp.shrui .vector (v x) 18#32).toNat = _; rw [shr18]; omega

section Bodies

variable (d : Dev nD) (i : grid0.Coords) (arg2 : Memref sig .scVector .hbm S16x4096 .i32) (harg2 : arg2.IsWhole) (arg3 : Memref sig .scVector .hbm S16x4096 .f32) (harg3 : arg3.IsWhole) (arg4 : Memref sig .scVector .hbm S16 .f32) (harg4 : arg4.IsWhole) (arg5 : Memref sig .scVector .vmem S4096 .i32) (harg5 : arg5.IsWhole) (arg6 : Memref sig .scVector .vmem S4096 .i32) (harg6 : arg6.IsWhole) (arg7 : Memref sig .scVector .vmem S4096 .i32) (harg7 : arg7.IsWhole) (arg8 : Memref sig .scVector .vmem S4112 .f32) (harg8 : arg8.IsWhole) (arg9 : Memref sig .scVector .vmem S4112 .f32) (harg9 : arg9.IsWhole) (arg10 : Memref sig .scVector .vmem S512 .i32) (harg10 : arg10.IsWhole) (arg11 : Memref sig .scVector .vmem S512 .i32) (harg11 : arg11.IsWhole) (arg12 : Memref sig .scVector .vmem S512 .i32) (harg12 : arg12.IsWhole) (arg13 : Memref sig .scVector .vmem S16 .f32) (harg13 : arg13.IsWhole) (arg14 : Memref sig .scVector .shared S8x16 .f32) (harg14 : arg14.IsWhole) (arg15 : Memref sig .scVector .vmem S8x16 .f32) (harg15 : arg15.IsWhole) (arg16 : DmaSems sig S_) (arg17 : DmaSems sig S_) (v231_r0 : DmaSems sig S_) (v16_r1 : DmaSems sig S_) (v16_r2 : DmaSems sig S_)

/-! ## Clearing a histogram -/

/-- The first `16 k` entries are zero. -/
def InvZ (m : Memref sig .scVector .vmem S512 .i32) (k : ℕ) (_ : BitVec 32) : sProp 𝕄 :=
  iprop(∃ D : S512.Idx → BitVec 32, ⌜∀ j, (j 0).val < 16 * k → D j = 0#32⌝ ∗ has (F := F) (e := .i32) (th d i) m D)

theorem step_t1 (k0_h1 : k0_cond1 i = 1#1) (t : Fin k0_t1_loop.trips) (acc : BitVec 32) :
    InvZ (F := F) d i arg10 t.val acc ⊢ wp frame (wpE (defs₀ (F := F)) 𝒱₀ (th d i) none) Set.univ
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 k0_h1 t acc) (InvZ d i arg10 (t.val + 1)) := by
  unfold InvZ k0_t1_body
  simp only [Prog.lift, Prog.bind_op, Prog.bind_ret, Prog.pure_eq_ret]
  iintro ⟨%D, %hD, H⟩
  iapply (wp_ld (th d i) none) $$ H
  iintro H
  iapply (wp_st (th d i) none) $$ H
  iintro H
  sl_step
  iexists _; isplitr
  swap; · iexact H
  ipureintro
  intro j hj
  have e0 : k0_off2 t 0 = 16 * t.val := by rw [k0_off2_eq]; rfl
  by_cases h : (j 0).val < 16 * t.val
  · rw [put16_out _ _ _ _ _ (.inl (by rw [e0]; exact h))]; exact hD j h
  · obtain ⟨x, hx⟩ := in16 (off := k0_off2 t) j (by omega) (by omega)
    rw [put16_in _ _ _ x j hx]; rfl

theorem step_t4 (k0_h1 : k0_cond1 i = 1#1) (t : Fin k0_t4_loop.trips) (acc : BitVec 32) (z1 z2 z3) :
    InvZ (F := F) d i arg11 t.val acc ⊢ wp frame (wpE (defs₀ (F := F)) 𝒱₀ (th d i) none) Set.univ
      (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 k0_h1 k0_pay12 k0_pay13 z1 z2 z3 t acc) (InvZ d i arg11 (t.val + 1)) :=
  step_t1 d i arg2 harg2 arg3 harg3 arg4 harg4 arg5 harg5 arg6 harg6 arg7 harg7 arg8 harg8 arg9 harg9 arg11 harg11 arg11 harg11 arg12 harg12 arg13 harg13 arg14 harg14 arg15 harg15 arg16 arg17 v231_r0 v16_r1 v16_r2 k0_h1 t acc

theorem step_t7 (k0_h1 : k0_cond1 i = 1#1) (t : Fin k0_t7_loop.trips) (acc : BitVec 32) (z1 z2 z3) :
    InvZ (F := F) d i arg10 t.val acc ⊢ wp frame (wpE (defs₀ (F := F)) 𝒱₀ (th d i) none) Set.univ
      (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 k0_h1 k0_pay12 k0_pay13 z1 z2 z3 t acc) (InvZ d i arg10 (t.val + 1)) :=
  step_t1 d i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 k0_h1 t acc

/-! ## The keys, and the histogram of their lowest digit -/

variable (W : I → BitVec 32)

def InvK (src dst : Memref sig .scVector .vmem S4096 .i32) (hist : Memref sig .scVector .vmem S512 .i32) (k : ℕ) (_ : BitVec 32) : sProp 𝕄 :=
  iprop(has (F := F) (e := .i32) (th d i) src W
    ∗ (∃ D : I → BitVec 32, ⌜∀ j, (j 0).val < 16 * k → D j = key (W j)⌝ ∗ has (F := F) (e := .i32) (th d i) dst D)
    ∗ (∃ h : S512.Idx → BitVec 32, ⌜HistAt (F := F) (dg1 fun y => key (W y)) (16 * k) h⌝ ∗ has (F := F) (e := .i32) (th d i) hist h))

theorem trips2 : k0_t2_loop.trips = 256 := by decide +kernel
theorem trips3 : k0_t3_loop.trips = 32 := by decide +kernel

theorem step_t2 (k0_h1 : k0_cond1 i = 1#1) (t : Fin k0_t2_loop.trips) (acc : BitVec 32) (z1 z2 z3) :
    InvK (F := F) d i W arg5 arg6 arg10 t.val acc ⊢ wp frame (wpE (defs₀ (F := F)) 𝒱₀ (th d i) none) Set.univ
      (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 k0_h1 k0_pay12 k0_pay13 z1 z2 z3 t acc) (InvK d i W arg5 arg6 arg10 (t.val + 1)) := by
  have ht : t.val < 256 := lt_of_lt_of_eq t.isLt trips2
  have e0 : k0_off3 t 0 = 16 * t.val := by rw [k0_off3_eq]; rfl
  unfold InvK k0_t2_body
  simp only [Prog.lift, Prog.bind_op, Prog.bind_ret, Prog.pure_eq_ret]
  iintro ⟨Hs, ⟨%D, %hD, Hd⟩, ⟨%h, %hh, Hh⟩⟩
  iapply (wp_ldv (th d i) none) $$ Hs
  iintro %V %hV Hs
  iapply (wp_ld (th d i) none) $$ Hd
  iintro Hd
  iapply (wp_st (th d i) none) $$ Hd
  iintro Hd
  simp only [emb_word _ ht e0] at hV
  have hdv : ∀ x, (k0_pay16 (F := F) V x).toNat = dg1 (fun y => key (W y)) (word t.val ht x) := fun x => (low9 _).trans (by show (key (V x)).toNat % 512 = _; rw [hV]; rfl)
  have hchk : k0_chk1 i (k0_pay16 (F := F) V) := fun _ => fits (N := 512) fun x => by rw [hdv]; exact Nat.mod_lt _ (by decide)
  rw [wp_assume_of _ _ _ _ hchk]
  iapply (wp_stx (th d i) none) $$ Hh
  iintro Hh
  sl_step
  isplitl [Hs]; · iexact Hs
  isplitl [Hd]
  · iexists _; isplitr
    swap; · iexact Hd
    ipureintro; intro j hj
    by_cases hlt : (j 0).val < 16 * t.val
    · rw [put16_out (N := 4096) (e := .i32) _ _ _ _ _ (.inl (by rw [e0]; exact hlt))]; exact hD j hlt
    · obtain ⟨x, hx⟩ := in16 (off := k0_off3 t) j (by omega) (by omega)
      rw [put16_in (N := 4096) (e := .i32) _ _ _ x j hx]
      show key (V x) = key (W j)
      rw [hV, show word t.val ht x = j from idx_ext (N := 4096) (by rw [word_val, hx, e0])]
  · iexists _; isplitr
    swap; · iexact Hh
    ipureintro; exact HistAt.step ht hh hdv (hchk k0_h1)

/-! ## The running sum of a histogram -/

variable (dig : I → ℕ)

def InvP (hist ctr : Memref sig .scVector .vmem S512 .i32) (k : ℕ) (acc : BitVec 32) : sProp 𝕄 :=
  iprop(⌜acc = BitVec.ofNat 32 (below dig (16 * k))⌝
    ∗ (∃ h : S512.Idx → BitVec 32, ⌜HistAt (F := F) dig 4096 h⌝ ∗ has (F := F) (e := .i32) (th d i) hist h)
    ∗ (∃ c : S512.Idx → BitVec 32, ⌜BaseAt (F := F) dig (16 * k) c⌝ ∗ has (F := F) (e := .i32) (th d i) ctr c))

theorem step_t3 (k0_h1 : k0_cond1 i = 1#1) (t : Fin k0_t3_loop.trips) (acc : BitVec 32) (v9 v10 z1 z2 z3) :
    InvP (F := F) d i dig arg10 arg12 t.val acc ⊢ wp frame (wpE (defs₀ (F := F)) 𝒱₀ (th d i) none) Set.univ
      (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 k0_h1 v9 v10 z1 z2 z3 t acc) (InvP d i dig arg10 arg12 (t.val + 1)) := by
  have e0 : k0_off4 t 0 = 16 * t.val := by rw [k0_off4_eq]; rfl
  unfold InvP k0_t3_body
  simp only [Prog.lift, Prog.bind_op, Prog.bind_ret, Prog.pure_eq_ret]
  iintro ⟨%hacc, ⟨%h, %hh, Hh⟩, ⟨%c, %hc, Hc⟩⟩
  iapply (wp_ld (th d i) none) $$ Hh
  iintro Hh
  iapply (wp_ld (th d i) none) $$ Hc
  iintro Hc
  iapply (wp_st (th d i) none) $$ Hc
  iintro Hc
  sl_step
  have hv : ∀ k : S16.Idx, h ((Rect.unit (s := S512) (k0_off4 t) S16.size (k0_off4_inb i t k0_h1)).emb k) = BitVec.ofNat 32 (upTo dig 4096 (16 * t.val + (k 0).val)) := fun k => by
    rw [hh, emb16 (N := 512), e0]
  isplitr
  · ipureintro
    have := (base_word (dig := dig) hv (lane 15)).2
    rw [hacc]; exact this
  isplitl [Hh]
  · iexists _; isplitr
    swap; · iexact Hh
    ipureintro; exact hh
  · iexists _; isplitr
    swap; · iexact Hc
    ipureintro; intro j hj
    by_cases hlt : (j 0).val < 16 * t.val
    · rw [put16_out (N := 512) (e := .i32) _ _ _ _ _ (.inl (by rw [e0]; exact hlt))]; exact hc j hlt
    · obtain ⟨x, hx⟩ := in16 (off := k0_off4 t) j (by omega) (by omega)
      rw [put16_in (N := 512) (e := .i32) _ _ _ x j hx, hx, e0]
      show acc + _ - _ = _
      rw [hacc]; exact (base_word (dig := dig) hv x).1

theorem step_t6 (k0_h1 : k0_cond1 i = 1#1) (t : Fin k0_t6_loop.trips) (acc : BitVec 32) (v9 v10 z1 z2 z3) :
    InvP (F := F) d i dig arg11 arg12 t.val acc ⊢ wp frame (wpE (defs₀ (F := F)) 𝒱₀ (th d i) none) Set.univ
      (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 k0_h1 v9 v10 z1 z2 z3 t acc) (InvP d i dig arg11 arg12 (t.val + 1)) :=
  step_t3 d i arg2 harg2 arg3 harg3 arg4 harg4 arg5 harg5 arg6 harg6 arg7 harg7 arg8 harg8 arg9 harg9 arg11 harg11 arg11 harg11 arg12 harg12 arg13 harg13 arg14 harg14 arg15 harg15 arg16 arg17 v231_r0 v16_r1 v16_r2 dig k0_h1 t acc v9 v10 z1 z2 z3

theorem step_t9 (k0_h1 : k0_cond1 i = 1#1) (t : Fin k0_t9_loop.trips) (acc : BitVec 32) (v9 v10 z1 z2 z3) :
    InvP (F := F) d i dig arg10 arg12 t.val acc ⊢ wp frame (wpE (defs₀ (F := F)) 𝒱₀ (th d i) none) Set.univ
      (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 k0_h1 v9 v10 z1 z2 z3 t acc) (InvP d i dig arg10 arg12 (t.val + 1)) :=
  step_t3 d i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 dig k0_h1 t acc v9 v10 z1 z2 z3

/-! ## The placing passes -/

variable (S : I → BitVec 32)

def InvS (dig' : I → ℕ) (src dst : Memref sig .scVector .vmem S4096 .i32) (ctr hist : Memref sig .scVector .vmem S512 .i32) (k : ℕ) (_ : BitVec 32) : sProp 𝕄 :=
  iprop(has (F := F) (e := .i32) (th d i) src S
    ∗ (∃ D : I → BitVec 32, ⌜Placed (F := F) (e := .i32) dig (16 * k) 0 S D⌝ ∗ has (F := F) (e := .i32) (th d i) dst D)
    ∗ (∃ c : S512.Idx → BitVec 32, ⌜CtrAt (F := F) dig (16 * k) c⌝ ∗ has (F := F) (e := .i32) (th d i) ctr c)
    ∗ (∃ h : S512.Idx → BitVec 32, ⌜HistAt (F := F) dig' (16 * k) h⌝ ∗ has (F := F) (e := .i32) (th d i) hist h))

theorem place_word {t : ℕ} (ht : t < 256) {c : Vec F S512 .i32} (H : CtrAt (F := F) dig (16 * t) c) {dv : IVec S16 32}
    (hdv : ∀ k, (dv k).toNat = dig (word t ht k)) (hb : ∀ a x, ((![dv] : Fin 1 → IVec S16 32) a x).toNat < S512.size a) (k : S16.Idx) :
    k0_pay22 (F := F) dv (loadIdx (F := F) (s := S512) (e := .i32) (t := S16) c ![dv] hb) k = BitVec.ofNat 32 (place dig (word t ht k)) :=
  H.place ht hdv hb k

theorem place_toNat {t : ℕ} (ht : t < 256) (k : S16.Idx) : (BitVec.ofNat 32 (place dig (word t ht k))).toNat = place dig (word t ht k) := by
  have := place_lt dig (word t ht k)
  rw [BitVec.toNat_ofNat]; exact Nat.mod_eq_of_lt (by omega)

theorem trips5 : k0_t5_loop.trips = 256 := by decide +kernel

theorem step_t5 (k0_h1 : k0_cond1 i = 1#1) (t : Fin k0_t5_loop.trips) (acc : BitVec 32) (z1 z2 z3) :
    InvS (F := F) d i (dg1 S) S (dg2 S) arg6 arg7 arg12 arg11 t.val acc ⊢ wp frame (wpE (defs₀ (F := F)) 𝒱₀ (th d i) none) Set.univ
      (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 k0_h1 k0_pay12 k0_pay13 z1 z2 z3 t acc) (InvS d i (dg1 S) S (dg2 S) arg6 arg7 arg12 arg11 (t.val + 1)) := by
  have ht : t.val < 256 := lt_of_lt_of_eq t.isLt trips5
  have e0 : k0_off6 t 0 = 16 * t.val := by rw [k0_off6_eq]; rfl
  unfold InvS k0_t5_body
  simp only [Prog.lift, Prog.bind_op, Prog.bind_ret, Prog.pure_eq_ret]
  iintro ⟨Hs, ⟨%D, %hD, Hd⟩, ⟨%c, %hc, Hc⟩, ⟨%h, %hh, Hh⟩⟩
  iapply (wp_ldv (th d i) none) $$ Hs
  iintro %V %hV Hs
  simp only [emb_word _ ht e0] at hV
  have hdv : ∀ x, (k0_pay19 (F := F) V x).toNat = dg1 S (word t.val ht x) := fun x => (pay19_dig _ x).trans (by rw [hV]; rfl)
  have hfit : ∀ a x, ((![k0_pay19 (F := F) V] : Fin 1 → IVec S16 32) a x).toNat < S512.size a :=
    fits (N := 512) fun x => by rw [hdv]; exact Nat.mod_lt _ (by decide)
  have hchk2 : k0_chk2 i (k0_pay19 (F := F) V) := ⟨fun _ => hfit, fun _ => hfit⟩
  rw [wp_assume_of _ _ _ _ hchk2]
  iapply (wp_ldx (th d i) none) $$ Hc
  iintro Hc
  have hpl := place_word (F := F) (dig := dg1 S) ht hc hdv hfit
  have hchk3 : k0_chk3 i (k0_pay22 (F := F) (k0_pay19 (F := F) V) (loadIdx (F := F) (s := S512) (e := .i32) (t := S16) c ![k0_pay19 (F := F) V] hfit)) :=
    fun _ => fits (N := 4096) fun x => by rw [hpl, place_toNat]; exact place_lt _ _
  rw [wp_assume_of _ _ _ _ hchk3]
  iapply (wp_stx (th d i) none) $$ Hd
  iintro Hd
  iapply (wp_stx (th d i) none) $$ Hc
  iintro Hc
  have hdv' : ∀ x, (k0_pay24 (F := F) V x).toNat = dg2 S (word t.val ht x) := fun x => (pay24_dig _ x).trans (by rw [hV]; rfl)
  have hchk4 : k0_chk4 i (k0_pay24 (F := F) V) := fun _ => fits (N := 512) fun x => by rw [hdv']; exact Nat.mod_lt _ (by decide)
  rw [wp_assume_of _ _ _ _ hchk4]
  iapply (wp_stx (th d i) none) $$ Hh
  iintro Hh
  sl_step
  isplitl [Hs]; · iexact Hs
  isplitl [Hd]
  · iexists _; isplitr
    swap; · iexact Hd
    ipureintro
    exact hD.step ht (fun k => by rw [hpl, place_toNat]; rfl) hV (hchk3 k0_h1)
  isplitl [Hc]
  · iexists _; isplitr
    swap; · iexact Hc
    ipureintro
    exact hc.step ht hdv (fun k => by rw [BitVec.ofNat_add, ← hpl k]; rfl) hfit
  · iexists _; isplitr
    swap; · iexact Hh
    ipureintro; exact hh.step ht hdv' (hchk4 k0_h1)

theorem step_t8 (k0_h1 : k0_cond1 i = 1#1) (t : Fin k0_t8_loop.trips) (acc : BitVec 32) (z1 z2 z3) (hS : ∀ y, (S y).toNat < 2 ^ 27) :
    InvS (F := F) d i (dg2 S) S (dg3 S) arg7 arg6 arg12 arg10 t.val acc ⊢ wp frame (wpE (defs₀ (F := F)) 𝒱₀ (th d i) none) Set.univ
      (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 k0_h1 k0_pay12 k0_pay13 z1 z2 z3 t acc) (InvS d i (dg2 S) S (dg3 S) arg7 arg6 arg12 arg10 (t.val + 1)) := by
  have ht : t.val < 256 := lt_of_lt_of_eq t.isLt trips5
  have e0 : k0_off9 t 0 = 16 * t.val := by rw [k0_off9_eq]; rfl
  unfold InvS k0_t8_body
  simp only [Prog.lift, Prog.bind_op, Prog.bind_ret, Prog.pure_eq_ret]
  iintro ⟨Hs, ⟨%D, %hD, Hd⟩, ⟨%c, %hc, Hc⟩, ⟨%h, %hh, Hh⟩⟩
  iapply (wp_ldv (th d i) none) $$ Hs
  iintro %V %hV Hs
  simp only [emb_word _ ht e0] at hV
  have hdv : ∀ x, (k0_pay27 (F := F) V x).toNat = dg2 S (word t.val ht x) := fun x => (pay24_dig _ x).trans (by rw [hV]; rfl)
  have hfit : ∀ a x, ((![k0_pay27 (F := F) V] : Fin 1 → IVec S16 32) a x).toNat < S512.size a :=
    fits (N := 512) fun x => by rw [hdv]; exact Nat.mod_lt _ (by decide)
  have hchk2 : k0_chk5 i (k0_pay27 (F := F) V) := ⟨fun _ => hfit, fun _ => hfit⟩
  rw [wp_assume_of _ _ _ _ hchk2]
  iapply (wp_ldx (th d i) none) $$ Hc
  iintro Hc
  have hpl := place_word (F := F) (dig := dg2 S) ht hc hdv hfit
  have hchk3 : k0_chk6 i (k0_pay30 (F := F) (k0_pay27 (F := F) V) (loadIdx (F := F) (s := S512) (e := .i32) (t := S16) c ![k0_pay27 (F := F) V] hfit)) :=
    fun _ => fits (N := 4096) fun x => by rw [show k0_pay30 (F := F) _ _ x = _ from hpl x, place_toNat]; exact place_lt _ _
  rw [wp_assume_of _ _ _ _ hchk3]
  iapply (wp_stx (th d i) none) $$ Hd
  iintro Hd
  iapply (wp_stx (th d i) none) $$ Hc
  iintro Hc
  have hdv' : ∀ x, (k0_pay32 (F := F) V x).toNat = dg3 S (word t.val ht x) := fun x => (pay32_dig _ x (by rw [hV]; exact hS _)).trans (by rw [hV]; rfl)
  have hchk4 : k0_chk7 i (k0_pay32 (F := F) V) := fun _ => fits (N := 512) fun x => by rw [hdv']; exact Nat.mod_lt _ (by decide)
  rw [wp_assume_of _ _ _ _ hchk4]
  iapply (wp_stx (th d i) none) $$ Hh
  iintro Hh
  sl_step
  isplitl [Hs]; · iexact Hs
  isplitl [Hd]
  · iexists _; isplitr
    swap; · iexact Hd
    ipureintro
    exact hD.step ht (fun k => by rw [show k0_pay30 (F := F) _ _ k = _ from hpl k, place_toNat]; rfl) hV (hchk3 k0_h1)
  isplitl [Hc]
  · iexists _; isplitr
    swap; · iexact Hc
    ipureintro
    exact hc.step ht hdv (fun k => by rw [BitVec.ofNat_add, ← hpl k]; rfl) hfit
  · iexists _; isplitr
    swap; · iexact Hh
    ipureintro; exact hh.step ht hdv' (hchk4 k0_h1)

/-! ## The last pass: the heights themselves, eight places further on -/

/-- A key back to its height. -/
def height (w : BitVec 32) : F .f32 := FloatOps.ofBits (F := F) .f32 (w + 1031798784#32)

def InvF (src : Memref sig .scVector .vmem S4096 .i32) (dst : Memref sig .scVector .vmem S4112 .f32) (ctr : Memref sig .scVector .vmem S512 .i32) (k : ℕ) (_ : BitVec 32) : sProp 𝕄 :=
  iprop(has (F := F) (e := .i32) (th d i) src S
    ∗ (∃ D : S4112.Idx → F .f32, ⌜Placed (F := F) (e := .f32) (dg3 S) (16 * k) 8 (fun y => height (S y)) D ∧ ∀ j, (j 0).val < 8 → D j = k0_pay14 (F := F) (lane 0)⌝
        ∗ has (F := F) (e := .f32) (th d i) dst D)
    ∗ (∃ c : S512.Idx → BitVec 32, ⌜CtrAt (F := F) (dg3 S) (16 * k) c⌝ ∗ has (F := F) (e := .i32) (th d i) ctr c))

theorem step_t10 (k0_h1 : k0_cond1 i = 1#1) (t : Fin k0_t10_loop.trips) (acc : BitVec 32) (z1 z2 z3) (hS : ∀ y, (S y).toNat < 2 ^ 27) :
    InvF (F := F) d i S arg6 arg8 arg12 t.val acc ⊢ wp frame (wpE (defs₀ (F := F)) 𝒱₀ (th d i) none) Set.univ
      (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 k0_h1 k0_pay12 k0_pay13 z1 z2 z3 t acc) (InvF d i S arg6 arg8 arg12 (t.val + 1)) := by
  have ht : t.val < 256 := lt_of_lt_of_eq t.isLt trips5
  have e0 : k0_off11 t 0 = 16 * t.val := by rw [k0_off11_eq]; rfl
  unfold InvF k0_t10_body
  simp only [Prog.lift, Prog.bind_op, Prog.bind_ret, Prog.pure_eq_ret]
  iintro ⟨Hs, ⟨%D, %hD, Hd⟩, ⟨%c, %hc, Hc⟩⟩
  iapply (wp_ldv (th d i) none) $$ Hs
  iintro %V %hV Hs
  simp only [emb_word _ ht e0] at hV
  have hdv : ∀ x, (k0_pay35 (F := F) V x).toNat = dg3 S (word t.val ht x) := fun x => (pay32_dig _ x (by rw [hV]; exact hS _)).trans (by rw [hV]; rfl)
  have hfit : ∀ a x, ((![k0_pay35 (F := F) V] : Fin 1 → IVec S16 32) a x).toNat < S512.size a :=
    fits (N := 512) fun x => by rw [hdv]; exact Nat.mod_lt _ (by decide)
  have hchk2 : k0_chk8 i (k0_pay35 (F := F) V) := ⟨fun _ => hfit, fun _ => hfit⟩
  rw [wp_assume_of _ _ _ _ hchk2]
  iapply (wp_ldx (th d i) none) $$ Hc
  iintro Hc
  have hpl := place_word (F := F) (dig := dg3 S) ht hc hdv hfit
  have hpl' : ∀ k, (k0_pay39 (F := F) (k0_pay35 (F := F) V) (loadIdx (F := F) (s := S512) (e := .i32) (t := S16) c ![k0_pay35 (F := F) V] hfit) k).toNat = place (dg3 S) (word t.val ht k) + 8 := fun k => by
    have h := place_lt (dg3 S) (word t.val ht k)
    rw [show k0_pay39 (F := F) _ _ k = BitVec.ofNat 32 (place (dg3 S) (word t.val ht k)) + 8#32 from congrArg (· + 8#32) (hpl k), BitVec.toNat_add, place_toNat]
    show (_ + 8) % 2 ^ 32 = _; omega
  have hchk3 : k0_chk9 i (k0_pay39 (F := F) (k0_pay35 (F := F) V) (loadIdx (F := F) (s := S512) (e := .i32) (t := S16) c ![k0_pay35 (F := F) V] hfit)) :=
    fun _ => fits (N := 4112) fun x => by rw [hpl']; have h := place_lt (dg3 S) (word t.val ht x); omega
  rw [wp_assume_of _ _ _ _ hchk3]
  iapply (wp_stx (th d i) none) $$ Hd
  iintro Hd
  iapply (wp_stx (th d i) none) $$ Hc
  iintro Hc
  sl_step
  isplitl [Hs]; · iexact Hs
  isplitl [Hd]
  · iexists _; isplitr
    swap; · iexact Hd
    ipureintro
    refine ⟨hD.1.step ht hpl' (fun k => ?_) (hchk3 k0_h1), fun j hj => ?_⟩
    · rw [← hV]; rfl
    · rw [storeIdx_miss]; · exact hD.2 j hj
      intro k _
      show (k0_pay39 (F := F) _ _ k).toNat ≠ _
      rw [hpl']; omega
  · iexists _; isplitr
    swap; · iexact Hc
    ipureintro
    exact hc.step ht hdv (fun k => by rw [BitVec.ofNat_add, ← hpl k]; rfl) hfit

end Bodies

end Cert.Proof.Loops

end
-- ==== Proof.Parts.lean ====
/-
  A tile's work on its row after the copies: the three passes in turn, which leave the heights in order, and the sums.
-/
module

public import proofs.«01_k».proof.Proof.Loops

@[expose] public section

noncomputable section

namespace Cert.Proof.Parts

open Cert.KernelIdeal Cert.KernelIdeal.Gen
open Cert.Proof.CountSort Cert.Proof.Held Cert.Proof.Loops

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The row's result, as a function of the heights in order and of the log sizes -/

/-- The lanes' numbers. -/
abbrev io : IVec S16 32 := iota .scVector S16 32 [0] iota_S16_d0_w32_scVector

/-- The entry `n` of the heights' buffer after the sort: the smallest height's place holds zero. -/
def hts (S : I → BitVec 32) (n : ℕ) : F .f32 := if h : 8 < n ∧ n < 4104 then height (S (ix (n - 8) (by omega))) else FloatOps.ofBits .f32 0x00000000#32

abbrev Acc (F : FTy → Type) : Type := FVec F S16 .f32 × FVec F S16 .f32 × FVec F S16 .f32

/-- One trip of the sums. -/
def sumStep (X Y : ℕ → F .f32) (t : Fin k0_t11_loop.trips) (a : Acc F) : Acc F :=
  (k0_pay45 a.1 (k0_pay6 (fun k => X (4103 - 16 * t.val - (k 0).val)) (fun k => X (4102 - 16 * t.val - (k 0).val)))
      (k0_pay8 io 0#32 1#32 t (fun k => Y (16 * t.val + (k 0).val))),
   k0_pay46 a.2.1 (fun k => Y (16 * t.val + (k 0).val)),
   k0_pay47 a.2.2 (k0_pay9 io 0#32 1#32 t) (k0_pay10 (fun k => Y (16 * t.val + (k 0).val)) (fun k => Y (16 * t.val + 1 + (k 0).val))) k0_pay11)

/-- The sums after `n` trips. -/
def sums (X Y : ℕ → F .f32) : ℕ → Acc F
  | 0 => (k0_pay14, k0_pay14, k0_pay14)
  | n + 1 => if h : n < k0_t11_loop.trips then sumStep X Y ⟨n, h⟩ (sums X Y n) else sums X Y n

/-- The sixteen values (all the row's result) that the tile stages. -/
def rowOut (X Y : ℕ → F .f32) : FVec F S16 .f32 :=
  let a := sums X Y k0_t11_loop.trips
  k0_pay1 (k0_pay51 a.1 (k0_pay48 a.2.1) (k0_pay49 a.2.1) (k0_pay50 a.2.1))
    (k0_pay56 a.2.2 (k0_pay52 a.2.2) (k0_pay53 a.2.2) (k0_pay54 a.2.2) (k0_pay55 a.2.2))
    (k0_pay57 a.2.2 (k0_pay52 a.2.2) (k0_pay53 a.2.2) (k0_pay54 a.2.2) (k0_pay55 a.2.2))
    (k0_pay58 a.2.2 (k0_pay52 a.2.2) (k0_pay53 a.2.2) (k0_pay54 a.2.2) (k0_pay55 a.2.2))

/-- The row's log sizes, zero past their end. -/
def sizes (lp : I → F .f32) (n : ℕ) : F .f32 := if h : n < 4096 then lp (ix n h) else FloatOps.ofBits .f32 0x00000000#32

section Bodies

variable (d : Dev nD) (i : grid0.Coords)
variable (arg2 : Memref sig .scVector .hbm S16x4096 .i32) (harg2 : arg2.IsWhole) (arg3 : Memref sig .scVector .hbm S16x4096 .f32) (harg3 : arg3.IsWhole) (arg4 : Memref sig .scVector .hbm S16 .f32) (harg4 : arg4.IsWhole) (arg5 : Memref sig .scVector .vmem S4096 .i32) (harg5 : arg5.IsWhole) (arg6 : Memref sig .scVector .vmem S4096 .i32) (harg6 : arg6.IsWhole) (arg7 : Memref sig .scVector .vmem S4096 .i32) (harg7 : arg7.IsWhole) (arg8 : Memref sig .scVector .vmem S4112 .f32) (harg8 : arg8.IsWhole) (arg9 : Memref sig .scVector .vmem S4112 .f32) (harg9 : arg9.IsWhole) (arg10 : Memref sig .scVector .vmem S512 .i32) (harg10 : arg10.IsWhole) (arg11 : Memref sig .scVector .vmem S512 .i32) (harg11 : arg11.IsWhole) (arg12 : Memref sig .scVector .vmem S512 .i32) (harg12 : arg12.IsWhole) (arg13 : Memref sig .scVector .vmem S16 .f32) (harg13 : arg13.IsWhole) (arg14 : Memref sig .scVector .shared S8x16 .f32) (harg14 : arg14.IsWhole) (arg15 : Memref sig .scVector .vmem S8x16 .f32) (harg15 : arg15.IsWhole) (arg16 : DmaSems sig S_) (arg17 : DmaSems sig S_) (v231_r0 : DmaSems sig S_) (v16_r1 : DmaSems sig S_) (v16_r2 : DmaSems sig S_)

theorem trips11 : k0_t11_loop.trips = 256 := by decide +kernel

theorem iv11 (t : Fin k0_t11_loop.trips) : Scf.iv 0#32 1#32 t = BitVec.ofNat 32 t.val := by
  unfold Scf.iv; simp

theorem io_val (k : S16.Idx) : io k = BitVec.ofNat 32 (k 0).val := by
  unfold io iota; simp

theorem pay4_val (t : Fin k0_t11_loop.trips) (k : S16.Idx) : (k0_pay4 io 0#32 1#32 t k).toNat = 4103 - 16 * t.val - (k 0).val := by
  have ht : t.val < 256 := lt_of_lt_of_eq t.isLt trips11
  have hk : (k 0).val < 16 := (k 0).isLt
  show ((4103#32 - 16#32 * Scf.iv 0#32 1#32 t) - io k).toNat = _
  rw [iv11, io_val]
  simp only [BitVec.toNat_sub, BitVec.toNat_mul, BitVec.toNat_ofNat]
  omega

theorem pay5_val (t : Fin k0_t11_loop.trips) (k : S16.Idx) : (k0_pay5 io 0#32 1#32 t k).toNat = 4102 - 16 * t.val - (k 0).val := by
  have ht : t.val < 256 := lt_of_lt_of_eq t.isLt trips11
  have hk : (k 0).val < 16 := (k 0).isLt
  show ((4102#32 - 16#32 * Scf.iv 0#32 1#32 t) - io k).toNat = _
  rw [iv11, io_val]
  simp only [BitVec.toNat_sub, BitVec.toNat_mul, BitVec.toNat_ofNat]
  omega

variable (X Y : ℕ → F .f32) (A L : S4112.Idx → F .f32)

def InvT (k : ℕ) (acc : Acc F) : sProp 𝕄 :=
  iprop(⌜acc = sums X Y k⌝ ∗ has (F := F) (e := .f32) (th d i) arg8 A ∗ has (F := F) (e := .f32) (th d i) arg9 L)

theorem step_t11 (k0_h1 : k0_cond1 i = 1#1) (t : Fin k0_t11_loop.trips) (acc : Acc F) (v11 v54)
    (hA : ∀ j, 7 ≤ (j 0).val → (j 0).val < 4104 → A j = X (j 0).val) (hL : ∀ j, (j 0).val < 4097 → L j = Y (j 0).val) :
    InvT d i arg8 arg9 X Y A L t.val acc ⊢ wp frame (wpE (defs₀ (F := F)) 𝒱₀ (th d i) none) Set.univ
      (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 io k0_h1 v11 v54 t acc) (InvT d i arg8 arg9 X Y A L (t.val + 1)) := by
  have ht : t.val < 256 := lt_of_lt_of_eq t.isLt trips11
  have e0 : k0_off12 t 0 = 16 * t.val := by rw [k0_off12_eq]; rfl
  have e1 : k0_off13 t 0 = 16 * t.val + 1 := by rw [k0_off13_eq]; rfl
  obtain ⟨a1, a2, a3⟩ := acc
  unfold InvT k0_t11_body
  dsimp only
  rw [k0_part1_eq_skeleton]
  unfold k0_part1_skel
  simp only [Prog.lift, Prog.bind_op, Prog.bind_ret, Prog.pure_eq_ret, bind_assoc]
  iintro ⟨%hacc, HA, HL⟩
  have hf1 : ∀ a x, ((![k0_pay4 io 0#32 1#32 t] : Fin 1 → IVec S16 32) a x).toNat < S4112.size a := fits (N := 4112) fun x => by rw [pay4_val]; omega
  have hf2 : ∀ a x, ((![k0_pay5 io 0#32 1#32 t] : Fin 1 → IVec S16 32) a x).toNat < S4112.size a := fits (N := 4112) fun x => by rw [pay5_val]; omega
  have hc1 : k0_chk11 i (k0_pay4 io 0#32 1#32 t) := fun _ => hf1
  have hc2 : k0_chk12 i (k0_pay5 io 0#32 1#32 t) := fun _ => hf2
  rw [wp_assume_of _ _ _ _ hc1]
  iapply (wp_ldx (th d i) none) $$ HA
  iintro HA
  rw [wp_assume_of _ _ _ _ hc2]
  iapply (wp_ldx (th d i) none) $$ HA
  iintro HA
  iapply (wp_ldv (th d i) none) $$ HL
  iintro %V %hV HL
  iapply (wp_ldv (th d i) none) $$ HL
  iintro %V' %hV' HL
  sl_step
  have E1 : loadIdx (F := F) (s := S4112) (e := .f32) (t := S16) A ![k0_pay4 io 0#32 1#32 t] hf1 = fun k => X (4103 - 16 * t.val - (k 0).val) := by
    funext k
    have hk : (k 0).val < 16 := (k 0).isLt
    have := pay4_val t k
    refine (hA _ ?_ ?_).trans (congrArg X this)
    · show 7 ≤ (k0_pay4 io 0#32 1#32 t k).toNat; omega
    · show (k0_pay4 io 0#32 1#32 t k).toNat < _; omega
  have E2 : loadIdx (F := F) (s := S4112) (e := .f32) (t := S16) A ![k0_pay5 io 0#32 1#32 t] hf2 = fun k => X (4102 - 16 * t.val - (k 0).val) := by
    funext k
    have hk : (k 0).val < 16 := (k 0).isLt
    have := pay5_val t k
    refine (hA _ ?_ ?_).trans (congrArg X this)
    · show 7 ≤ (k0_pay5 io 0#32 1#32 t k).toNat; omega
    · show (k0_pay5 io 0#32 1#32 t k).toNat < _; omega
  have E3 : V = fun k => Y (16 * t.val + (k 0).val) := by
    funext k
    have hk : (k 0).val < 16 := (k 0).isLt
    rw [hV, hL _ (by rw [emb16 (N := 4112), e0]; omega), emb16 (N := 4112), e0]
  have E4 : V' = fun k => Y (16 * t.val + 1 + (k 0).val) := by
    funext k
    have hk : (k 0).val < 16 := (k 0).isLt
    rw [hV', hL _ (by rw [emb16 (N := 4112), e1]; omega), emb16 (N := 4112), e1]
  isplitr
  · ipureintro
    have : sums X Y (t.val + 1) = sumStep X Y t (sums X Y t.val) := by
      rw [sums, dif_pos t.isLt]
    rw [this, ← hacc]
    subst E3 E4
    rw [E1, E2]
    rfl
  isplitl [HA]; · iexact HA
  iexact HL

/-! ## The passes in turn -/

variable (W : I → BitVec 32)

/-- Some contents. -/
def any {s : Shape} {e : EltTy} (m : Memref sig .scVector .vmem s e) : sProp 𝕄 := iprop(∃ D, has (F := F) (th d i) m D)

theorem loop {σ : Type} {β : Type} (l : Scf.Loop 32) (hok : l.OK) (init : σ)
    {body : Fin l.trips → σ → Prog (TpuEff nD τ sig (Elt F) Λ₀ (.scVector ((i 0).castLE hcore0) ((i 1).castLE hsub0))) σ}
    (J : ℕ → σ → sProp (MT nD τ sig (HIx 1) (Elt F) ℕ UU ℕ))
    (hbody : ∀ t acc, J t.val acc ⊢ wp frame (wpE (defs₀ (F := F)) 𝒱₀ (th d i) none) Set.univ (body t acc) (J (t.val + 1)))
    {kk : σ → Prog (TpuEff nD τ sig (Elt F) Λ₀ (.scVector ((i 0).castLE hcore0) ((i 1).castLE hsub0))) β} {Q : β → sProp (MT nD τ sig (HIx 1) (Elt F) ℕ UU ℕ)} :
    J 0 init ⊢ iprop((∀ acc, J l.trips acc -∗ wp frame (wpE (defs₀ (F := F)) 𝒱₀ (th d i) none) Set.univ (kk acc) Q)
      -∗ wp frame (wpE (defs₀ (F := F)) 𝒱₀ (th d i) none) Set.univ (Scf.Loop.for l hok init body >>= kk) Q) :=
  Scf.wp_for_bind _ _ _ _ _ _ hok init body J hbody

/-- The array that a pass leaves. -/
def moved (dig : I → ℕ) (S : I → BitVec 32) : I → BitVec 32 := fun y => S ((placeE dig).symm y)

theorem moved_at (dig : I → ℕ) (S : I → BitVec 32) (x : I) : moved dig S (placeE dig x) = S x := by
  unfold moved; rw [Equiv.symm_apply_apply]

theorem eq_moved {dig : I → ℕ} {S D : I → BitVec 32} (h : Placed (F := F) (e := .i32) dig 4096 0 S D) : D = moved dig S := by
  funext y
  obtain ⟨x, rfl⟩ := (placeE dig).surjective y
  rw [moved_at]; exact h x _ (x 0).isLt (by rw [placeE_val]; rfl)

theorem hist_moved {dig dig' dig'' : I → ℕ} {h : S512.Idx → BitVec 32} (H : HistAt (F := F) dig'' 4096 h)
    (e : ∀ x, dig' (placeE dig x) = dig'' x) : HistAt (F := F) dig' 4096 h := fun b => by rw [H b, upTo_perm e]

theorem hist_zero {dig : I → ℕ} {h : S512.Idx → BitVec 32} (H : ∀ j, (j 0).val < 512 → h j = 0#32) : HistAt (F := F) dig 0 h := fun b => by
  rw [H b (b 0).isLt, upTo_zero]

theorem base_zero {dig : I → ℕ} {h : S512.Idx → BitVec 32} : BaseAt (F := F) dig 0 h := fun b hb => absurd hb (Nat.not_lt_zero _)

variable (K : I → BitVec 32)
/-- The keys after one pass, two, three. -/
def S1 : I → BitVec 32 := moved (dg1 K) K
def S2 : I → BitVec 32 := moved (dg2 (S1 K)) (S1 K)
def S3 : I → BitVec 32 := moved (dg3 (S2 K)) (S2 K)

theorem sorted_S1 : SortedBy 512 K (S1 K) := by
  have := (SortedBy.refl K).pass (dig := dg1 K) (D := S1 K) (fun y => by simp [dg1]) (moved_at _ _)
  simpa using this
theorem sorted_S2 : SortedBy (512 * 512) K (S2 K) :=
  (sorted_S1 K).pass (dig := dg2 (S1 K)) (fun _ => rfl) (moved_at _ _)

theorem sorted_S3 : SortedBy (2 ^ 27) K (S3 K) := by
  have := (sorted_S2 K).pass (dig := dg3 (S2 K)) (D := S3 K) (fun y => rfl) (moved_at _ _)
  simpa using this

theorem wp_part3 (k0_h1 : k0_cond1 i = 1#1) {β : Type} {kk : IVec S16 32 → Prog (TpuEff nD τ sig (Elt F) Λ₀ (.scVector ((i 0).castLE hcore0) ((i 1).castLE hsub0))) β}
    {Q : β → sProp (MT nD τ sig (HIx 1) (Elt F) ℕ UU ℕ)} :
    iprop(has (F := F) (e := .i32) (th d i) arg5 W ∗ any (F := F) d i arg6 ∗ any (F := F) d i arg7
      ∗ (∃ A : S4112.Idx → F .f32, ⌜∀ j, (j 0).val < 8 → A j = k0_pay14 (F := F) (lane 0)⌝ ∗ has (F := F) (e := .f32) (th d i) arg8 A)
      ∗ (∃ h : S512.Idx → BitVec 32, ⌜∀ j, (j 0).val < 512 → h j = 0#32⌝ ∗ has (F := F) (e := .i32) (th d i) arg10 h) ∗ any (F := F) d i arg11 ∗ any (F := F) d i arg12)
    ⊢ iprop((has (F := F) (e := .i32) (th d i) arg5 W -∗ any (F := F) d i arg6 -∗ any (F := F) d i arg7
        -∗ (∃ A : S4112.Idx → F .f32, ⌜(∀ j, (j 0).val < 8 → A j = k0_pay14 (F := F) (lane 0))
            ∧ ∀ (x : I) (j : S4112.Idx), (j 0).val = (x 0).val + 8 → A j = height (F := F) (S3 (fun y => key (W y)) x)⌝ ∗ has (F := F) (e := .f32) (th d i) arg8 A)
        -∗ any (F := F) d i arg10 -∗ any (F := F) d i arg11 -∗ any (F := F) d i arg12
        -∗ wp frame (wpE (defs₀ (F := F)) 𝒱₀ (th d i) none) Set.univ (kk k0_pay42) Q)
      -∗ wp frame (wpE (defs₀ (F := F)) 𝒱₀ (th d i) none) Set.univ (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 k0_h1 k0_pay12 k0_pay13 0#32 0#32 1#32 >>= kk) Q) := by
  rw [k0_part3_eq_skeleton]
  unfold k0_part3_skel any
  simp only [Prog.pure_eq_ret, bind_assoc, Prog.bind_ret]
  set K : I → BitVec 32 := fun y => key (W y) with hKdef
  have hK : ∀ y, (K y).toNat < 2 ^ 27 := fun y => key_lt _
  have hS1 : ∀ y, (S1 K y).toNat < 2 ^ 27 := (sorted_S1 K).mem (p := fun w => w.toNat < 2 ^ 27) hK
  have hS2 : ∀ y, (S2 K y).toNat < 2 ^ 27 := (sorted_S2 K).mem (p := fun w => w.toNat < 2 ^ 27) hK
  iintro ⟨H5, ⟨%D6, H6⟩, ⟨%D7, H7⟩, ⟨%A, %hA, H8⟩, ⟨%h10, %hh10, H10⟩, ⟨%D11, H11⟩, ⟨%D12, H12⟩⟩ Hk
  -- the keys and the first histogram
  iapply (loop d i k0_t2_loop _ _ (InvK (F := F) d i W arg5 arg6 arg10) (fun t acc => step_t2 d i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 W k0_h1 t acc _ _ _)) $$ [H5 H6 H10]
  · unfold InvK
    isplitl [H5]; · iexact H5
    isplitl [H6]
    · iexists D6; isplitr; · ipureintro; intro j hj; exact absurd hj (by omega)
      iexact H6
    · iexists h10; isplitr; · ipureintro; exact hist_zero hh10
      iexact H10
  iintro %acc2 HI
  rw [trips2]
  unfold InvK
  icases HI with ⟨H5, ⟨%K', %hK', H6⟩, ⟨%g1, %hg1, H10⟩⟩
  obtain rfl : K' = K := funext fun y => hK' y (y 0).isLt
  -- the first running sum
  iapply (loop d i k0_t3_loop _ _ (InvP (F := F) d i (dg1 K) arg10 arg12) (fun t acc => step_t3 d i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 (dg1 K) k0_h1 t acc _ _ _ _ _)) $$ [H10 H12]
  · unfold InvP
    isplitr; · ipureintro; rw [Nat.mul_zero, below_zero]
    isplitl [H10]
    · iexists g1; isplitr; · ipureintro; exact hg1
      iexact H10
    · iexists D12; isplitr; · ipureintro; exact base_zero
      iexact H12
  iintro %acc3 HI
  rw [trips3]
  unfold InvP
  icases HI with ⟨%hacc3, ⟨%g1', %hg1', H10⟩, ⟨%c1, %hc1, H12⟩⟩
  -- the second histogram cleared
  iapply (loop d i k0_t4_loop _ _ (InvZ (F := F) d i arg11) (fun t acc => step_t4 d i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 k0_h1 t acc _ _ _)) $$ [H11]
  · unfold InvZ
    iexists D11; isplitr; · ipureintro; intro j hj; exact absurd hj (by omega)
    iexact H11
  iintro %acc4 HI
  unfold InvZ
  icases HI with ⟨%g2, %hg2, H11⟩
  -- the first pass
  iapply (loop d i k0_t5_loop _ _ (InvS (F := F) d i (dg1 K) K (dg2 K) arg6 arg7 arg12 arg11) (fun t acc => step_t5 d i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 K k0_h1 t acc _ _ _)) $$ [H6 H7 H12 H11]
  · unfold InvS
    isplitl [H6]; · iexact H6
    isplitl [H7]
    · iexists D7; isplitr; · ipureintro; exact Placed.zero
      iexact H7
    isplitl [H12]
    · iexists c1; isplitr; · ipureintro; exact BaseAt.ctr _ hc1
      iexact H12
    · iexists g2; isplitr; · ipureintro; exact hist_zero hg2
      iexact H11
  iintro %acc5 HI
  rw [trips5]
  unfold InvS
  icases HI with ⟨H6, ⟨%D1, %hD1, H7⟩, ⟨%c1', %hc1', H12⟩, ⟨%g2', %hg2', H11⟩⟩
  obtain rfl : D1 = S1 K := eq_moved hD1
  have hg2'' : HistAt (F := F) (dg2 (S1 K)) 4096 g2' := hist_moved (dig := dg1 K) hg2' fun x => by unfold dg2 S1; rw [moved_at]
  -- the second running sum
  iapply (loop d i k0_t6_loop _ _ (InvP (F := F) d i (dg2 (S1 K)) arg11 arg12) (fun t acc => step_t6 d i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 (dg2 (S1 K)) k0_h1 t acc _ _ _ _ _)) $$ [H11 H12]
  · unfold InvP
    isplitr; · ipureintro; rw [Nat.mul_zero, below_zero]
    isplitl [H11]
    · iexists g2'; isplitr; · ipureintro; exact hg2''
      iexact H11
    · iexists c1'; isplitr; · ipureintro; exact base_zero
      iexact H12
  iintro %acc6 HI
  unfold InvP
  icases HI with ⟨%hacc6, ⟨%g2b, %hg2b, H11⟩, ⟨%c2, %hc2, H12⟩⟩
  -- the first histogram cleared
  iapply (loop d i k0_t7_loop _ _ (InvZ (F := F) d i arg10) (fun t acc => step_t7 d i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 k0_h1 t acc _ _ _)) $$ [H10]
  · unfold InvZ
    iexists g1'; isplitr; · ipureintro; intro j hj; exact absurd hj (by omega)
    iexact H10
  iintro %acc7 HI
  unfold InvZ
  icases HI with ⟨%g3, %hg3, H10⟩
  -- the second pass
  iapply (loop d i k0_t8_loop _ _ (InvS (F := F) d i (dg2 (S1 K)) (S1 K) (dg3 (S1 K)) arg7 arg6 arg12 arg10) (fun t acc => step_t8 d i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 (S1 K) k0_h1 t acc _ _ _ hS1)) $$ [H6 H7 H12 H10]
  · unfold InvS
    isplitl [H7]; · iexact H7
    isplitl [H6]
    · iexists K; isplitr; · ipureintro; exact Placed.zero
      iexact H6
    isplitl [H12]
    · iexists c2; isplitr; · ipureintro; exact BaseAt.ctr _ hc2
      iexact H12
    · iexists g3; isplitr; · ipureintro; exact hist_zero hg3
      iexact H10
  iintro %acc8 HI
  unfold InvS
  icases HI with ⟨H7, ⟨%D2, %hD2, H6⟩, ⟨%c2', %hc2', H12⟩, ⟨%g3', %hg3', H10⟩⟩
  obtain rfl : D2 = S2 K := eq_moved hD2
  have hg3'' : HistAt (F := F) (dg3 (S2 K)) 4096 g3' := hist_moved (dig := dg2 (S1 K)) hg3' fun x => by unfold dg3 S2; rw [moved_at]
  -- the third running sum
  iapply (loop d i k0_t9_loop _ _ (InvP (F := F) d i (dg3 (S2 K)) arg10 arg12) (fun t acc => step_t9 d i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 (dg3 (S2 K)) k0_h1 t acc _ _ _ _ _)) $$ [H10 H12]
  · unfold InvP
    isplitr; · ipureintro; rw [Nat.mul_zero, below_zero]
    isplitl [H10]
    · iexists g3'; isplitr; · ipureintro; exact hg3''
      iexact H10
    · iexists c2'; isplitr; · ipureintro; exact base_zero
      iexact H12
  iintro %acc9 HI
  unfold InvP
  icases HI with ⟨%hacc9, ⟨%g3b, %hg3b, H10⟩, ⟨%c3, %hc3, H12⟩⟩
  -- the last pass
  iapply (loop d i k0_t10_loop _ _ (InvF (F := F) d i (S2 K) arg6 arg8 arg12) (fun t acc => step_t10 d i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 (S2 K) k0_h1 t acc _ _ _ hS2)) $$ [H6 H8 H12]
  · unfold InvF
    isplitl [H6]; · iexact H6
    isplitl [H8]
    · iexists A; isplitr; · ipureintro; exact ⟨Placed.zero, hA⟩
      iexact H8
    · iexists c3; isplitr; · ipureintro; exact BaseAt.ctr _ hc3
      iexact H12
  iintro %acc10 HI
  unfold InvF
  icases HI with ⟨H6, ⟨%B, %hB, H8⟩, ⟨%c3', %hc3', H12⟩⟩
  iapply Hk $$ H5 [H6] [H7] [H8] [H10] [H11] [H12]
  · iexists _; iexact H6
  · iexists _; iexact H7
  · iexists B; isplitr
    · ipureintro
      refine ⟨hB.2, fun x j hj => ?_⟩
      obtain ⟨y, rfl⟩ := (placeE (dg3 (S2 K))).surjective x
      rw [S3, moved_at]
      exact hB.1 y j (y 0).isLt (by rw [hj, placeE_val])
    · iexact H8
  · iexists _; iexact H10
  · iexists _; iexact H11
  · iexists _; iexact H12

/-! ## The sums -/

theorem io_eq_zero (k : S16.Idx) : k0_pay44 io k = 1 ↔ (k 0).val = 0 := by
  have hk : (k 0).val < 16 := (k 0).isLt
  show BitVec.ofBool (io k == 0#32) = 1#1 ↔ _
  rw [io_val]
  constructor
  · intro h; by_contra hn
    have hb : (BitVec.ofNat 32 (k 0).val == 0#32) = false := by
      rw [beq_eq_false_iff_ne]; intro e
      have := congrArg BitVec.toNat e; simp at this; omega
    rw [hb] at h; exact absurd h (by decide)
  · intro h; rw [h]; rfl

theorem pay43_val (k : S16.Idx) : (k0_pay43 io k0_pay42 k).toNat = 8 := by
  show (io k * 0#32 + 8#32).toNat = 8
  rw [BitVec.mul_zero]; rfl

theorem wp_part4 (lp : I → F .f32) (S : I → BitVec 32) (k0_h1 : k0_cond1 i = 1#1)
    (hA8 : ∀ j, (j 0).val < 8 → A j = k0_pay14 (F := F) (lane 0))
    (hA : ∀ (x : I) (j : S4112.Idx), (j 0).val = (x 0).val + 8 → A j = height (F := F) (S x))
    (hL : ∀ j, (j 0).val < 4097 → L j = sizes lp (j 0).val) {β : Type}
    {kk : (Σ' (v61_0 : FVec F S16 .f32) (v61_2 : FVec F S16 .f32) (v91 : F .f32) (v93 : F .f32), F .f32) → Prog (TpuEff nD τ sig (Elt F) Λ₀ (.scVector ((i 0).castLE hcore0) ((i 1).castLE hsub0))) β}
    {Q : β → sProp (MT nD τ sig (HIx 1) (Elt F) ℕ UU ℕ)} :
    iprop(has (F := F) (e := .f32) (th d i) arg8 A ∗ has (F := F) (e := .f32) (th d i) arg9 L)
    ⊢ iprop((any (F := F) d i arg8 -∗ any (F := F) d i arg9
        -∗ wp frame (wpE (defs₀ (F := F)) 𝒱₀ (th d i) none) Set.univ (kk ⟨(sums (hts S) (sizes lp) k0_t11_loop.trips).1, (sums (hts S) (sizes lp) k0_t11_loop.trips).2.2,
            k0_pay48 (sums (hts S) (sizes lp) k0_t11_loop.trips).2.1, k0_pay49 (sums (hts S) (sizes lp) k0_t11_loop.trips).2.1, k0_pay50 (sums (hts S) (sizes lp) k0_t11_loop.trips).2.1⟩) Q)
      -∗ wp frame (wpE (defs₀ (F := F)) 𝒱₀ (th d i) none) Set.univ (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 io k0_h1 k0_pay14 k0_pay42 >>= kk) Q) := by
  rw [k0_part4_eq_skeleton]
  unfold k0_part4_skel any
  simp only [Prog.lift, Prog.bind_op, Prog.bind_ret, Prog.pure_eq_ret, bind_assoc]
  have hf : ∀ a x, ((![k0_pay43 io k0_pay42] : Fin 1 → IVec S16 32) a x).toNat < S4112.size a := fits (N := 4112) fun x => by rw [pay43_val]; omega
  have hc : k0_chk10 i (k0_pay43 io k0_pay42) := fun _ => hf
  iintro ⟨HA, HL⟩ Hk
  rw [wp_assume_of _ _ _ _ hc]
  iapply (wp_stx (th d i) none) $$ HA
  iintro HA
  have hA' : ∀ j : S4112.Idx, 7 ≤ (j 0).val → (j 0).val < 4104 →
      storeIdx (F := F) (s := S4112) (e := .f32) (d := ![16]) A ![k0_pay43 io k0_pay42] k0_pay14 (k0_pay44 io) false hf j = hts S (j 0).val := by
    intro j h1 h2
    unfold hts
    by_cases h8 : (j 0).val = 8
    · rw [dif_neg (by omega)]
      refine (storeIdx_hit (N := 4112) (lane 0) ((io_eq_zero _).mpr rfl) ?_ ?_)
      · rw [h8]; exact pay43_val _
      · intro k' hk' hm
        have := (io_eq_zero _).mp hm
        exact absurd hk' (by rw [this]; exact Nat.not_lt_zero _)
    · have : storeIdx (F := F) (s := S4112) (e := .f32) (d := ![16]) A ![k0_pay43 io k0_pay42] k0_pay14 (k0_pay44 io) false hf j = A j :=
        storeIdx_miss (N := 4112) fun k _ e => h8 (e.symm.trans (pay43_val k))
      rw [this]
      by_cases h7 : (j 0).val < 8
      · rw [dif_neg (by omega), hA8 j h7]; rfl
      · rw [dif_pos (by omega)]
        exact hA _ _ (by rw [ix_val]; omega)
  iapply (loop d i k0_t11_loop _ _ (InvT (F := F) d i arg8 arg9 (hts S) (sizes lp) _ L) (fun t acc => step_t11 d i arg2 harg2 arg3 harg3 arg4 harg4 arg5 harg5 arg6 harg6 arg7 harg7 arg8 harg8 arg9 harg9 arg10 harg10 arg11 harg11 arg12 harg12 arg13 harg13 arg14 harg14 arg15 harg15 arg16 arg17 v231_r0 v16_r1 v16_r2 (hts S) (sizes lp) _ L k0_h1 t acc _ _ hA' hL)) $$ [HA HL]
  · unfold InvT
    isplitr; · ipureintro; rfl
    isplitl [HA]; · iexact HA
    iexact HL
  iintro %acc HI
  unfold InvT
  icases HI with ⟨%hacc, HA, HL⟩
  subst hacc
  iapply Hk $$ [HA] [HL]
  · iexists _; iexact HA
  · iexists _; iexact HL

end Bodies

end Cert.Proof.Parts

end
-- ==== Proof.Tile.lean ====
/-
  One tile's task, at the buffers the call gives it: the row's two transfers, the sort and the sums of the modules before,
  the sixteen staged values and their transfer to the row of the shared scratch.
-/
module

public import proofs.«01_k».proof.Proof.Parts

@[expose] public section

noncomputable section

namespace Cert.Proof.Tile

open Cert.KernelIdeal Cert.KernelIdeal.Gen Cert.Proof.Held Cert.Proof.CountSort Cert.Proof.Loops Cert.Proof.Parts

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The buffers and the cells -/

abbrev wLoc (d : Dev nD) : Loc nD τ sig := (SparseCore.T d).loc main_v2
abbrev lLoc (d : Dev nD) : Loc nD τ sig := (SparseCore.T d).loc main_v1
abbrev oLoc (d : Dev nD) : Loc nD τ sig := (SparseCore.T d).loc main_v3

section Tile

variable (d : Dev nD) (i : grid0.Coords)

abbrev sc0 (i : grid0.Coords) : GSem nD τ sig := (th d i, .dma cc0_scratch11.sem)
abbrev sc1 (i : grid0.Coords) : GSem nD τ sig := (th d i, .dma cc0_scratch12.sem)

variable (O : CellTallies nD τ sig (HIx 1)) (Wt : Waits sig (HIx 1))
variable (VW : Buf (Elt F) (wLoc d)) (VL : Buf (Elt F) (lLoc d)) (q : PosShare TreeShare)

/-- Entry `(r, c)` of a sixteen-row array. -/
def ix2 (r : Fin 16) (c : Fin 4096) : S16x4096.Idx := fun | 0 => r | 1 => c | ⟨_ + 2, h⟩ => absurd h (Nat.not_lt.2 (Nat.le_add_left _ _))

/-- The row that tile `i` works on. -/
def rowOf (i : grid0.Coords) (h : (i 1).val < 8) : Fin 16 := ⟨8 * (i 0).val + (i 1).val, by have : (i 0).val < 2 := (i 0).isLt; omega⟩

/-- Row `r` of the words. -/
def wRow (r : Fin 16) : I → BitVec 32 := fun y => (VW : S16x4096.Idx → BitVec 32) (ix2 r (y 0))
/-- Row `r` of the log sizes. -/
def lRow (r : Fin 16) : I → F .f32 := fun y => (VL : S16x4096.Idx → F .f32) (ix2 r (y 0))

omit [FloatOps F] in
theorem ix2_ext {x y : S16x4096.Idx} (h0 : (x 0).val = (y 0).val) (h1 : (x 1).val = (y 1).val) : x = y := by
  funext a
  match a with
  | 0 => exact Fin.ext h0
  | 1 => exact Fin.ext h1

omit [FloatOps F] in
theorem rowEmb (k0_h1 : k0_cond1 i = 1#1) (h : (i 1).val < 8) (y : I) :
    (Rect.unit (s := S16x4096) (k0_off1 i) S1x4096.size (k0_off1_inb i k0_h1)).emb (Shape.reshapeEquiv (squeezes_S1x4096_S4096.numel_eq) y) = ix2 (rowOf i h) (y 0) := by
  have e : Shape.reshapeEquiv (squeezes_S1x4096_S4096.numel_eq) y = (Fin.cons ⟨0, Nat.one_pos⟩ y : S1x4096.Idx) := Shape.reshapeEquiv_cons_one _ y
  rw [e]
  have ho := k0_off1_eq i
  apply ix2_ext
  · show k0_off1 i 0 + 1 * 0 = _
    rw [ho]; rfl
  · show k0_off1 i 1 + 1 * (y 0).val = (y 0).val
    rw [ho]; show 0 + 1 * (y 0).val = _; omega

theorem has_whole (c : Thread nD τ) (b : Ref sig c.2.kind) (f : Buf (Elt F) (c.loc b)) :
    ((Memref.whole b : Memref sig c.2.kind _ _ _).view.loc c ↦{fullShare} f : sProp 𝕄) ⊢ has c (Memref.whole b) f := by
  unfold has
  rw [show (Memref.whole b : Memref sig c.2.kind _ _ _).view.set = Finset.univ from View.set_whole b]
  iintro H; iexists f; isplitr; · ipureintro; rfl
  iexact H

theorem whole_has (c : Thread nD τ) (b : Ref sig c.2.kind) (f) :
    has c (Memref.whole b) f ⊢ ((Memref.whole b : Memref sig c.2.kind _ _ _).view.loc c ↦{fullShare} f : sProp 𝕄) := by
  unfold has
  rw [show (Memref.whole b : Memref sig c.2.kind _ _ _).view.set = Finset.univ from View.set_whole b]
  iintro ⟨%g, %hg, H⟩
  subst hg
  iexact H

set_option maxHeartbeats 8000000 in
theorem wp_part2 (k0_h1 : k0_cond1 i = 1#1) (h8 : (i 1).val < 8) {β : Type}
    {kk : (Σ' (v9 : IVec S16 32) (v10 : IVec S16 32) (v11 : FVec F S16 .f32) (c0_i32_21 : BitVec 32) (c0_i32_22 : BitVec 32), BitVec 32) → Prog (TpuEff nD τ sig (Elt F) Λ₀ (.scVector ((i 0).castLE hcore0) ((i 1).castLE hsub0))) β}
    {Q : β → sProp (MT nD τ sig (HIx 1) (Elt F) ℕ UU ℕ)} :
    iprop(Transfers.MayWaits (th d i) (default : HIx 1) O
      ∗ ((Memref.whole main_v2_scv : Memref sig .scVector .hbm S16x4096 .i32).view.loc (th d i) ↦{q} VW) ∗ ((Memref.whole main_v1_scv : Memref sig .scVector .hbm S16x4096 .f32).view.loc (th d i) ↦{q} VL)
      ∗ (∃ f, (Memref.whole cc0_scratch0 : Memref sig .scVector .vmem S4096 .i32).view.loc (th d i) ↦{fullShare} f) ∗ (∃ f, (Memref.whole cc0_scratch3 : Memref sig .scVector .vmem S4112 .f32).view.loc (th d i) ↦{fullShare} f) ∗ (∃ f, (Memref.whole cc0_scratch4 : Memref sig .scVector .vmem S4112 .f32).view.loc (th d i) ↦{fullShare} f)
      ∗ (∃ f, (Memref.whole cc0_scratch5 : Memref sig .scVector .vmem S512 .i32).view.loc (th d i) ↦{fullShare} f)
      ∗ semVal (sc0 d i) 0 ∗ semVal (sc1 d i) 0 ∗ owes (th d i) O Wt)
    ⊢ iprop((((Memref.whole main_v2_scv : Memref sig .scVector .hbm S16x4096 .i32).view.loc (th d i) ↦{q} VW) -∗ ((Memref.whole main_v1_scv : Memref sig .scVector .hbm S16x4096 .f32).view.loc (th d i) ↦{q} VL)
        -∗ has (F := F) (e := .i32) (th d i) (Memref.whole cc0_scratch0 : Memref sig .scVector .vmem S4096 .i32) (wRow d VW (rowOf i h8))
        -∗ (∃ A : S4112.Idx → F .f32, ⌜∀ j, (j 0).val < 8 → A j = k0_pay14 (F := F) (lane 0)⌝ ∗ has (F := F) (e := .f32) (th d i) (Memref.whole cc0_scratch3 : Memref sig .scVector .vmem S4112 .f32) A)
        -∗ (∃ L : S4112.Idx → F .f32, ⌜∀ j, (j 0).val < 4097 → L j = sizes (lRow d VL (rowOf i h8)) (j 0).val⌝ ∗ has (F := F) (e := .f32) (th d i) (Memref.whole cc0_scratch4 : Memref sig .scVector .vmem S4112 .f32) L)
        -∗ (∃ h : S512.Idx → BitVec 32, ⌜∀ j, (j 0).val < 512 → h j = 0#32⌝ ∗ has (F := F) (e := .i32) (th d i) (Memref.whole cc0_scratch5 : Memref sig .scVector .vmem S512 .i32) h)
        -∗ semVal (sc0 d i) 0 -∗ semVal (sc1 d i) 0
        -∗ (∃ W' : Waits sig (HIx 1), ⌜∀ p ∈ W', p ∈ Wt ∨ p.2 = none⌝ ∗ owes (th d i) O W')
        -∗ wp frame (wpE (defs₀ (F := F)) 𝒱₀ (th d i) none) Set.univ (kk ⟨k0_pay12, k0_pay13, k0_pay14, 0#32, 0#32, 1#32⟩) Q)
      -∗ wp frame (wpE (defs₀ (F := F)) 𝒱₀ (th d i) none) Set.univ (k0_part2 (F := F) i (Memref.whole main_v2_scv) (Memref.isWhole_whole _) (Memref.whole main_v1_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scoped0 cc0_scoped1 cc0_scoped2 k0_h1 >>= kk) Q) := by
  rw [k0_part2_eq_skeleton]
  unfold k0_part2_skel
  iintro ⟨#Hmw, Hw, Hl, ⟨%f0, H0⟩, ⟨%f3, H3⟩, ⟨%f4, H4⟩, ⟨%f5, H5⟩, HsA, HsB, HO⟩ Hk
  have hsub : ((Memref.whole cc0_scratch4 : Memref sig .scVector .vmem S4112 .f32).slice (Rect.unit (s := S4112) ![0] S4096.size inb_S4112_S4096_0) (fun _ => rfl)).view.set ⊆ Finset.univ := Finset.subset_univ _
  ihave H4' := (pointsTo_split_subset (ℓ := (Memref.whole cc0_scratch4 : Memref sig .scVector .vmem S4112 .f32).view.loc (th d i)) (q := fullShare) (f := f4) hsub).1 $$ H4
  icases H4' with ⟨H4a, H4b⟩
  ihave H4c := (Entails.of_eq (show ((Memref.whole cc0_scratch4 : Memref sig .scVector .vmem S4112 .f32).view.loc (th d i) ↦[((Memref.whole cc0_scratch4 : Memref sig .scVector .vmem S4112 .f32).slice (Rect.unit (s := S4112) ![0] S4096.size inb_S4112_S4096_0) (fun _ => rfl)).view.set]{fullShare} f4 : sProp 𝕄)
    = (((Memref.whole cc0_scratch4 : Memref sig .scVector .vmem S4112 .f32).slice (Rect.unit (s := S4112) ![0] S4096.size inb_S4112_S4096_0) (fun _ => rfl)).view.loc (th d i) ↦[((Memref.whole cc0_scratch4 : Memref sig .scVector .vmem S4112 .f32).slice (Rect.unit (s := S4112) ![0] S4096.size inb_S4112_S4096_0) (fun _ => rfl)).view.set]{fullShare} f4) from rfl)) $$ H4a
  sl_exec
  rw [bind_assoc]
  ihave H5h := (has_whole (F := F) (th d i) cc0_scratch5 f5) $$ H5
  iapply (loop d i k0_t1_loop _ _ (InvZ (F := F) d i (Memref.whole cc0_scratch5 : Memref sig .scVector .vmem S512 .i32)) (fun t acc => step_t1 d i (Memref.whole main_v2_scv) (Memref.isWhole_whole _) (Memref.whole main_v1_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scoped0 cc0_scoped1 cc0_scoped2 k0_h1 t acc)) $$ [H5h]
  · unfold InvZ; iexists _; isplitr
    swap; · iexact H5h
    ipureintro; intro j hj; exact absurd hj (by omega)
  iintro %acc HZ
  sl_exec
  unfold InvZ
  icases HZ with ⟨%Z, %hZ, HZ⟩
  -- the two parts of the log sizes' buffer, joined
  ihave H4j := (pointsTo_join_subset (ℓ := (Memref.whole cc0_scratch4 : Memref sig .scVector .vmem S4112 .f32).view.loc (th d i)) (q := fullShare) hsub) $$ [H4c H4b]
  · isplitl [H4c]; · iexact H4c
    iexact H4b
  ihave H4h := (has_whole (F := F) (th d i) cc0_scratch4 _) $$ H4j
  ihave H3h := (has_whole (F := F) (th d i) cc0_scratch3 _) $$ H3
  ihave H0h := (has_whole (F := F) (th d i) cc0_scratch0 _) $$ H0
  iapply Hk $$ [Hw] [Hl] [H0h] [H3h] [H4h] [HZ] [HsA] [HsB] [HO]
  · iexact Hw
  · iexact Hl
  · iapply (Entails.of_eq (congrArg (fun D => has (F := F) (e := .i32) (th d i) (Memref.whole cc0_scratch0 : Memref sig .scVector .vmem S4096 .i32) D) (?_ : _ = wRow d VW (rowOf i h8)))) $$ H0h
    rw [View.write_whole_univ]
    funext y
    exact congrArg (VW : S16x4096.Idx → BitVec 32) (rowEmb i k0_h1 h8 y)
  · iexists _; isplitr
    swap; · iexact H3h
    ipureintro; intro j hj
    have e : j = (Rect.unit (s := S4112) ![0] S16.size inb_S4112_S16_0).emb (lane ⟨(j 0).val, by omega⟩) := idx_ext (N := 4112) (by
      show (j 0).val = 0 + 1 * (j 0).val; omega)
    rw [e]
    exact View.read_writes_cons_emb (Memref.whole cc0_scratch3 : Memref sig .scVector .vmem S4112 .f32).view f3 (Rect.unit (s := S4112) ![0] S16.size inb_S4112_S16_0) (k0_pay14 (F := F)) [] _
  · iexists _; isplitr
    swap; · iexact H4h
    ipureintro; intro j hj
    unfold sizes
    by_cases h : (j 0).val < 4096
    · rw [dif_pos h]
      have e : j = ((Memref.whole cc0_scratch4 : Memref sig .scVector .vmem S4112 .f32).slice (Rect.unit (s := S4112) ![0] S4096.size inb_S4112_S4096_0) (fun _ => rfl)).view.emb (ix (j 0).val h) := idx_ext (N := 4112) (by
        show (j 0).val = 0 + 1 * (j 0).val; omega)
      have hm : j ∈ ((Memref.whole cc0_scratch4 : Memref sig .scVector .vmem S4112 .f32).slice (Rect.unit (s := S4112) ![0] S4096.size inb_S4112_S4096_0) (fun _ => rfl)).view.set := e ▸ View.emb_mem_set _ _
      rw [Finset.piecewise_eq_of_mem _ _ _ hm]
      refine (congrArg _ e).trans ?_
      refine (congrFun (View.read_writes_whole ((Memref.whole cc0_scratch4 : Memref sig .scVector .vmem S4112 .f32).slice (Rect.unit (s := S4112) ![0] S4096.size inb_S4112_S4096_0) (fun _ => rfl)).view f4 _) (ix (j 0).val h)).trans ?_
      exact congrArg (VL : S16x4096.Idx → F .f32) (rowEmb i k0_h1 h8 (ix (j 0).val h))
    · rw [dif_neg h]
      have hm : j ∉ ((Memref.whole cc0_scratch4 : Memref sig .scVector .vmem S4112 .f32).slice (Rect.unit (s := S4112) ![0] S4096.size inb_S4112_S4096_0) (fun _ => rfl)).view.set := by
        intro hm
        obtain ⟨x, -, hx⟩ := Finset.mem_map.mp hm
        have : 0 + 1 * (x 0).val = (j 0).val := congrArg (fun y : S4112.Idx => (y 0).val) hx
        have hx' : (x 0).val < 4096 := (x 0).isLt
        omega
      rw [Finset.piecewise_eq_of_notMem _ _ _ hm]
      have e : j = (Rect.unit (s := S4112) ![4096] S16.size inb_S4112_S16_4096).emb (lane 0) := idx_ext (N := 4112) (by
        show (j 0).val = 4096 + 1 * 0; omega)
      rw [e]
      exact View.read_writes_cons_emb (Memref.whole cc0_scratch4 : Memref sig .scVector .vmem S4112 .f32).view f4 (Rect.unit (s := S4112) ![4096] S16.size inb_S4112_S16_4096) (k0_pay14 (F := F)) [] (lane 0)
  · iexists _; isplitr
    swap; · iexact HZ
    ipureintro; intro j hj
    exact hZ j (lt_of_lt_of_eq hj (by decide +kernel))
  · iexact HsA
  · iexact HsB
  · iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp

end Tile

end Cert.Proof.Tile

end
-- ==== Proof.Barrier.lean ====
/-
  What the tiles of one SparseCore exchange: each of the first eight writes its row of the shared scratch and hands it to
  tile 0 at the barrier. The cells, their schedule, what a duty carries, and the values carried, which are functions of
  the arrays that the call reads.
-/
module

public import proofs.«01_k».proof.Proof.Tile

@[expose] public section

noncomputable section

namespace Cert.Proof.Barrier

open Cert.KernelIdeal Cert.KernelIdeal.Gen Cert.Proof.Held Cert.Proof.CountSort Cert.Proof.Loops Cert.Proof.Parts Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The barrier cells' rounds library. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The values -/

variable (VW : (d : Dev nD) → Buf (Elt F) (wLoc d)) (VL : (d : Dev nD) → Buf (Elt F) (lLoc d))

/-- The heights of row `r` as its tile leaves them in its buffer. -/
def rowHts (d : Dev nD) (r : Fin 16) : ℕ → F .f32 := hts (S3 fun y => key (wRow d (VW d) r y))
/-- The sixteen values that row `r`'s tile stages. -/
def rowVal (d : Dev nD) (r : Fin 16) : FVec F S16 .f32 := rowOut (rowHts VW d r) (sizes (lRow d (VL d) r))

abbrev shRef (c : Fin τ.nSC) : DevRef τ sig := ⟨.shared, ⟨0, by decide⟩, c⟩
/-- SparseCore `c`'s shared scratch. -/
abbrev shLoc (d : Dev nD) (c : Fin τ.nSC) : Loc nD τ sig := (d, shRef c)

/-- Row `s` of core `c`, among the sixteen. -/
def rowAt (c : Fin τ.nSC) (s : Fin 8) : Fin 16 := ⟨8 * c.val + s.val, by have : c.val < 2 := c.isLt; omega⟩

/-- The shared scratch once its rows are written. -/
def SH (d : Dev nD) (c : Fin τ.nSC) : Buf (Elt F) (shLoc d c) := show S8x16.Idx → F .f32 from
  fun x => rowVal VW VL d (rowAt c (x 0)) (lane (x 1))
/-- The results. -/
def OUT (d : Dev nD) : Buf (Elt F) (oLoc d) := show S16.Idx → F .f32 from
  fun x => rowVal VW VL d (x 0) (lane ⟨(x 0).val % 8, by omega⟩)

/-! ## The rows of the shared scratch and the halves of the results -/

theorem hdiv8 : 8 ∣ S8x16.size 0 := ⟨1, rfl⟩
theorem hdiv2 : 2 ∣ S16.size 0 := ⟨8, rfl⟩
abbrev shRow (s : Fin 8) : Rect S8x16 := Rect.part (s := S8x16) (a₀ := 0) hdiv8 s
abbrev shSet (s : Fin 8) : Finset S8x16.Idx := ((Memref.whole cc0_scratch9 : Memref sig .scVector .shared S8x16 .f32).view.slice (shRow s)).set
abbrev half (c : Fin 2) : Rect S16 := Rect.part (s := S16) (a₀ := 0) hdiv2 c
abbrev hSet (c : Fin 2) : Finset S16.Idx := ((Memref.whole main_v3_scv : Memref sig .scVector .hbm S16 .f32).view.slice (half c)).set

theorem shSet_eq (s : Fin 8) : shSet s = (shRow s).set := by
  show ((View.whole (cc0_scratch9 : Ref sig .scVector)).slice (shRow s)).set = _
  rw [View.set_slice]; exact Finset.map_refl
theorem sh_disjoint : ∀ i ∈ (Finset.univ : Finset (Fin 8)), ∀ j ∈ (Finset.univ : Finset (Fin 8)), i ≠ j → Disjoint (shSet i) (shSet j) :=
  fun i _ j _ h => by rw [shSet_eq, shSet_eq]; exact Rect.part_disjoint hdiv8 h
theorem sh_cover : (Finset.univ : Finset (Fin 8)).biUnion shSet = Finset.univ :=
  (Finset.biUnion_congr rfl fun i _ => shSet_eq i).trans (Rect.biUnion_part hdiv8)
theorem hSet_eq (s : Fin 2) : hSet s = (half s).set := by
  show ((View.whole (main_v3_scv : Ref sig .scVector)).slice (half s)).set = _
  rw [View.set_slice]; exact Finset.map_refl
theorem h_disjoint : ∀ i ∈ (Finset.univ : Finset (Fin 2)), ∀ j ∈ (Finset.univ : Finset (Fin 2)), i ≠ j → Disjoint (hSet i) (hSet j) :=
  fun i _ j _ h => by rw [hSet_eq, hSet_eq]; exact Rect.part_disjoint hdiv2 h
theorem h_cover : (Finset.univ : Finset (Fin 2)).biUnion hSet = Finset.univ :=
  (Finset.biUnion_congr rfl fun i _ => hSet_eq i).trans (Rect.biUnion_part hdiv2)

omit [FloatOps F] in
theorem shPts_rows (d : Dev nD) (c : Fin τ.nSC) (f : Buf (Elt F) (shLoc d c)) :
    (shLoc d c ↦{fullShare} f : sProp 𝕄) = bigSep Finset.univ fun i : Fin 8 => shLoc d c ↦[shSet i]{fullShare} f := by
  rw [← pointsTo_biUnion Finset.univ (ℓ := shLoc d c) shSet sh_disjoint, sh_cover]; try rfl
omit [FloatOps F] in
theorem oPts_halves (d : Dev nD) (f : Buf (Elt F) (oLoc d)) :
    (oLoc d ↦{fullShare} f : sProp 𝕄) = bigSep Finset.univ fun i : Fin 2 => oLoc d ↦[hSet i]{fullShare} f := by
  rw [← pointsTo_biUnion Finset.univ (ℓ := oLoc d) hSet h_disjoint, h_cover]; try rfl

/-! ## The barrier cells -/

/-- Tile `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

/-- What a duty hands over: in tile 0's round the first eight tiles' each its row, written; elsewhere nothing. -/
def bPay (g : GSem nD τ sig) (n : ℕ) : sProp 𝕄 :=
  match g with
  | ((d, .scVector c j), _) => if h : n < 8 ∧ j.val = 0 then (shLoc d c ↦[shSet ⟨n, h.1⟩]{fullShare} SH VW VL d c) else iprop(emp)
  | _ => iprop(emp)

/-- The barrier cells' schedule: one round on each, of one unit duty per tile of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay VW VL g n
  amount_pos _ _ _ _ := Nat.one_pos

instance bRd_payload_storable (g : GSem nD τ sig) (r n : ℕ) : BI.Storable (upEmb : UEmb _ 𝕄) ((bRd (F := F) VW VL).payload g r n) := by
  show BI.Storable upEmb (bPay VW VL g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) VW VL).duties (bcell d c j) 0 = (Finset.univ : Finset (Fin τ.nSub)).image Fin.val := by
  simp [bRd, isBar]
theorem bRd_duties_succ (g : GSem nD τ sig) (r : ℕ) (hr : 1 ≤ r) : (bRd (F := F) VW VL).duties g r = ∅ :=
  if_neg fun h => absurd h.2 (Nat.ne_of_gt hr)
theorem bRd_mem₀ (d : Dev nD) (c : Fin τ.nSC) (j i : Fin τ.nSub) : i.val ∈ (bRd (F := F) VW VL).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) VW VL).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile owe for the barrier: a unit on every tile's cell of its SparseCore. -/
def oxV (d : Dev nD) (c : Fin τ.nSC) : CellTallies nD τ sig (HIx 1) := ∑ j : Fin (grid0.bound 1), tallyAt (bcell d c (j.castLE hsub0)) (some 0) 1

theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) VW VL) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What goes over at the barrier, and what comes back -/

section Tile

variable (d : Dev nD) (c : Fin τ.nSC)

/-- A tile's row of the shared scratch, written, if it has one. -/
def given (s : Fin τ.nSub) : sProp 𝕄 := if h : s.val < 8 then (shLoc d c ↦[shSet ⟨s.val, h⟩]{fullShare} SH VW VL d c) else iprop(emp)

theorem pays_intro (s : Fin τ.nSub) : given VW VL d c s
    ⊢ (bigSep Finset.univ fun j : Fin (grid0.bound 1) => (bRd (F := F) VW VL).payload (bcell d c (j.castLE hsub0)) 0 s.val : sProp 𝕄) := by
  let j₀ : Fin (grid0.bound 1) := ⟨0, by decide⟩
  rw [SparseCore.bigSep_erase' (Finset.mem_univ j₀),
    show (bigSep (Finset.univ.erase j₀) fun j : Fin (grid0.bound 1) => (bRd (F := F) VW VL).payload (bcell d c (j.castLE hsub0)) 0 s.val)
      = bigSep (Finset.univ.erase j₀) fun _ => (iprop(emp) : sProp 𝕄) from
      bigSep_congr fun j hj => dif_neg fun h => (Finset.mem_erase.mp hj).1 (Fin.ext h.2), bigSep_emp']
  iintro H
  isplitl [H]
  · show _ ⊢ bPay VW VL (bcell d c (j₀.castLE hsub0)) s.val
    unfold bPay given; dsimp only
    by_cases h : s.val < 8
    · rw [dif_pos h, dif_pos ⟨h, rfl⟩]
    · rw [dif_neg h, dif_neg fun h' => h h'.1]
  · iempintro

theorem pays_elim (j : Fin τ.nSub) (hj : j.val = 0) : (bigSep ((bRd (F := F) VW VL).duties (bcell d c j) 0 \ ∅) fun n => (bRd (F := F) VW VL).payload (bcell d c j) 0 n)
    ⊢ (shLoc d c ↦{fullShare} SH VW VL d c : sProp 𝕄) := by
  rw [Finset.sdiff_empty, bRd_duties₀, shPts_rows]
  have hsub : (Finset.univ : Finset (Fin 8)).image Fin.val ⊆ (Finset.univ : Finset (Fin τ.nSub)).image Fin.val := by
    intro n hn
    obtain ⟨x, -, rfl⟩ := Finset.mem_image.mp hn
    exact Finset.mem_image.mpr ⟨⟨x.val, lt_trans x.isLt (by decide)⟩, Finset.mem_univ _, rfl⟩
  refine (bigSep_subset hsub).trans ?_
  rw [SparseCore.bigSep_image_of_injOn (fun a _ b _ e => Fin.val_injective e)]
  refine bigSep_mono fun s _ => ?_
  show bPay VW VL (bcell d c j) s.val ⊢ _
  unfold bPay; dsimp only
  rw [dif_pos ⟨s.isLt, hj⟩]

end Tile

end Cert.Proof.Barrier

end
-- ==== Proof.Row.lean ====
/-
  The two guarded pieces of the task: what one of the first eight tiles does before the barrier (its row of the shared
  scratch comes out at the row's values), and what tile 0 does after it (its core's half of the results).
-/
module

public import proofs.«01_k».proof.Proof.Barrier

@[expose] public section

noncomputable section

namespace Cert.Proof.Row

open Cert.KernelIdeal Cert.KernelIdeal.Gen Cert.Proof.Held Cert.Proof.CountSort Cert.Proof.Loops Cert.Proof.Parts Cert.Proof.Tile
open Cert.Proof.Barrier

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (i : grid0.Coords)
variable (VW : (d : Dev nD) → Buf (Elt F) (wLoc d)) (VL : (d : Dev nD) → Buf (Elt F) (lLoc d)) (q : PosShare TreeShare)
variable (O : CellTallies nD τ sig (HIx 1)) (Wt : Waits sig (HIx 1))

abbrev cV : Fin τ.nSC := (i 0).castLE hcore0
abbrev jV : Fin τ.nSub := (i 1).castLE hsub0

/-- The core, among the two. -/
def cI : Fin 2 := ⟨(i 0).val, (i 0).isLt⟩

/-! ## The condition on the tile -/

omit [FloatOps F] in
theorem cond1_iff : ∀ i : grid0.Coords, k0_cond1 i = 1#1 ↔ (i 1).val < 8 := by decide +kernel
omit [FloatOps F] in
theorem cond2_iff : ∀ i : grid0.Coords, k0_cond2 i = 1#1 ↔ (i 1).val = 0 := by decide +kernel

/-- The tile's row of the shared scratch, squeezed, as the task addresses it. -/
abbrev shRowK (h1 : k0_cond1 i = 1#1) : Memref sig .scVector .shared S16 .f32 :=
  ((Memref.whole cc0_scratch9 : Memref sig .scVector .shared S8x16 .f32).slice (Rect.unit (s := S8x16) (k0_off14 i) S1x16.size (k0_off14_inb i h1)) (fun _ => rfl)).squeeze S16 squeezes_S1x16_S16
/-- The core's half of the results, as the task addresses it. -/
abbrev oHalfK (h2 : k0_cond2 i = 1#1) : Memref sig .scVector .hbm S8 .f32 :=
  (Memref.whole main_v3_scv : Memref sig .scVector .hbm S16 .f32).slice (Rect.unit (s := S16) (k0_off15 i) S8.size (k0_off15_inb i h2)) (fun _ => rfl)

omit [FloatOps F] in
theorem shRowK_rect (h1 : k0_cond1 i = 1#1) (h8 : (i 1).val < 8) :
    Rect.unit (s := S8x16) (k0_off14 i) S1x16.size (k0_off14_inb i h1) = shRow ⟨(i 1).val, h8⟩ := by
  unfold shRow Rect.part Rect.block
  congr 1 <;> funext a
  · rw [k0_off14_eq]
    match a with
    | 0 => simp [Shape.partIx, Shape.partSize]
    | 1 => simp [Shape.partIx, Shape.partSize]
  · match a with
    | 0 => simp [Shape.partSize]
    | 1 => simp [Shape.partSize]
omit [FloatOps F] in
theorem set_shRowK (h1 : k0_cond1 i = 1#1) (h8 : (i 1).val < 8) : (shRowK i h1).view.set = shSet ⟨(i 1).val, h8⟩ := by
  show (((View.whole (cc0_scratch9 : Ref sig .scVector)).slice (Rect.unit (s := S8x16) (k0_off14 i) S1x16.size (k0_off14_inb i h1))).reshape S16 squeezes_S1x16_S16.numel_eq).set = _
  rw [View.set_reshape, View.set_slice, shSet_eq, ← shRowK_rect i h1 h8]; exact Finset.map_refl
omit [FloatOps F] in
theorem oHalfK_rect (h2 : k0_cond2 i = 1#1) :
    Rect.unit (s := S16) (k0_off15 i) S8.size (k0_off15_inb i h2) = half (cI i) := by
  unfold half Rect.part Rect.block
  congr 1 <;> funext a
  · rw [k0_off15_eq]
    match a with
    | 0 => simp [Shape.partIx, Shape.partSize, cI]; omega
  · match a with
    | 0 => simp [Shape.partSize]
omit [FloatOps F] in
theorem set_oHalfK (h2 : k0_cond2 i = 1#1) : (oHalfK i h2).view.set = hSet (cI i) := by
  show ((View.whole (main_v3_scv : Ref sig .scVector)).slice (Rect.unit (s := S16) (k0_off15 i) S8.size (k0_off15_inb i h2))).set = _
  rw [View.set_slice, hSet_eq, ← oHalfK_rect i h2]; exact Finset.map_refl

omit [FloatOps F] in
theorem shEmb (h1 : k0_cond1 i = 1#1) (y : S16.Idx) :
    (((shRowK i h1).view.emb y : S8x16.Idx) 0).val = (i 1).val ∧ ((shRowK i h1).view.emb y : S8x16.Idx) 1 = y 0 := by
  have e : Shape.reshapeEquiv (squeezes_S1x16_S16.numel_eq) y = (Fin.cons ⟨0, Nat.one_pos⟩ y : S1x16.Idx) := Shape.reshapeEquiv_cons_one _ y
  have e2 : ((shRowK i h1).view.emb y : S8x16.Idx)
      = (Rect.unit (s := S8x16) (k0_off14 i) S1x16.size (k0_off14_inb i h1)).emb (Shape.reshapeEquiv (squeezes_S1x16_S16.numel_eq) y) := rfl
  rw [e2, e]
  have ho := k0_off14_eq i
  refine ⟨?_, Fin.ext ?_⟩
  · show k0_off14 i 0 + 1 * 0 = _
    rw [ho]; rfl
  · show k0_off14 i 1 + 1 * (y 0).val = (y 0).val
    rw [ho]; show 0 + 1 * (y 0).val = _; omega

omit [FloatOps F] in
theorem oEmb (h2 : k0_cond2 i = 1#1) (y : S8.Idx) : (((oHalfK i h2).view.emb y : S16.Idx) 0).val = 8 * (i 0).val + (y 0).val := by
  have ho := k0_off15_eq i
  show k0_off15 i 0 + 1 * (y 0).val = _
  rw [ho]; show 8 * (i 0).val + 1 * (y 0).val = _; omega

theorem any_pts (b : Ref sig .scVector) (f : Buf (Elt F) ((th d i).loc b)) :
    has (F := F) (th d i) (Memref.whole b) f ⊢ (iprop(∃ f, (Memref.whole b : Memref sig .scVector _ _ _).view.loc (th d i) ↦{fullShare} f) : sProp 𝕄) := by
  iintro H; iexists f; iapply (whole_has (F := F) (th d i) b f); iexact H

/-- The tile's row of the shared scratch, written at the row's values. -/
theorem sh_written (h1 : k0_cond1 i = 1#1) (h8 : (i 1).val < 8) (fs : Buf (Elt F) (shLoc d (cV i))) (D : S16.Idx → F .f32)
    (hD : ∀ y, D y = rowVal VW VL d (rowOf i h8) y) :
    ((shRowK i h1).view.loc (th d i) ↦[(shRowK i h1).view.set]{fullShare} (shRowK i h1).view.writes (Elt F) fs [⟨Rect.whole S16, D⟩] : sProp 𝕄)
      = ((shLoc d (cV i)) ↦[shSet ⟨(i 1).val, h8⟩]{fullShare} SH VW VL d (cV i)) := by
  rw [← set_shRowK i h1 h8]
  refine pointsTo_congr (fun x hx => ?_)
  obtain ⟨y, -, rfl⟩ := Finset.mem_map.mp hx
  refine (congrFun (View.read_writes_whole (shRowK i h1).view fs D) y).trans ((hD y).trans ?_)
  have hs := shEmb i h1 y
  have e2 : rowAt (cV i) (((shRowK i h1).view.emb y : S8x16.Idx) 0) = rowOf i h8 := Fin.ext (by
    show 8 * (i 0).val + (((shRowK i h1).view.emb y : S8x16.Idx) 0).val = 8 * (i 0).val + (i 1).val
    rw [hs.1])
  have e3 : lane (((shRowK i h1).view.emb y : S8x16.Idx) 1) = y := (congrArg lane hs.2).trans (lane_eq y)
  exact (congrArg₂ (fun r z => rowVal VW VL d r z) e2 e3).symm

/-- The core's half of the results, written from the diagonal. -/
theorem o_written (h2 : k0_cond2 i = 1#1) (fo : Buf (Elt F) (oLoc d)) (D : S8.Idx → F .f32)
    (hD : ∀ y, D y = rowVal VW VL d (rowAt (cV i) (y 0)) (lane ⟨(y 0).val % 8, by omega⟩)) :
    ((oHalfK i h2).view.loc (th d i) ↦[(oHalfK i h2).view.set]{fullShare} (oHalfK i h2).view.writes (Elt F) fo [⟨Rect.whole S8, D⟩] : sProp 𝕄)
      = ((oLoc d) ↦[hSet (cI i)]{fullShare} OUT VW VL d) := by
  rw [← set_oHalfK i h2]
  refine pointsTo_congr (fun x hx => ?_)
  obtain ⟨y, -, rfl⟩ := Finset.mem_map.mp hx
  refine (congrFun (View.read_writes_whole (oHalfK i h2).view fo D) y).trans ((hD y).trans ?_)
  have ho := oEmb i h2 y
  have e2 : ((oHalfK i h2).view.emb y : S16.Idx) 0 = rowAt (cV i) (y 0) := Fin.ext ho
  have e3 : lane ⟨(((oHalfK i h2).view.emb y : S16.Idx) 0).val % 8, by omega⟩ = lane ⟨(y 0).val % 8, by omega⟩ := congrArg lane (Fin.ext (by
    show (((oHalfK i h2).view.emb y : S16.Idx) 0).val % 8 = (y 0).val % 8
    rw [ho]; omega))
  exact (congrArg₂ (fun r z => rowVal VW VL d r z) e2 e3).symm

/-! ## Before the barrier -/

/-- What one of the first eight tiles does before the barrier. -/
def rowProg (h1 : k0_cond1 i = 1#1) : Prog (TpuEff nD τ sig (Elt F) Λ₀ (.scVector ((i 0).castLE hcore0) ((i 1).castLE hsub0))) PUnit := do
  let ⟨v9, v10, v11, c0_i32_21, c0_i32_22, c1_i32_23⟩ ← k0_part2 i (Memref.whole main_v2_scv) (Memref.isWhole_whole _) (Memref.whole main_v1_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scoped0 cc0_scoped1 cc0_scoped2 h1
  let v54 ← k0_part3 i (Memref.whole main_v2_scv) (Memref.isWhole_whole _) (Memref.whole main_v1_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scoped0 cc0_scoped1 cc0_scoped2 h1 v9 v10 c0_i32_21 c0_i32_22 c1_i32_23
  let ⟨v61_0, v61_2, v91, v93, v106⟩ ← k0_part4 i (Memref.whole main_v2_scv) (Memref.isWhole_whole _) (Memref.whole main_v1_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scoped0 cc0_scoped1 cc0_scoped2 io h1 v11 v54
  let ⟨v157, v159, v161, v163, v165⟩ ← k0_part5 i (Memref.whole main_v2_scv) (Memref.isWhole_whole _) (Memref.whole main_v1_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scoped0 cc0_scoped1 cc0_scoped2 v61_0 v61_2 v91 v93 v106
  let ⟨v209, v217, v219⟩ ← k0_part6 i (Memref.whole main_v2_scv) (Memref.isWhole_whole _) (Memref.whole main_v1_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scoped0 cc0_scoped1 cc0_scoped2 v61_2 v159 v161 v163 v165
  let _v230 : Vec F S16 .f32 ← Prog.lift (.load (Memref.whole cc0_scratch8 : Memref sig .scVector .vmem S16 .f32) (Rect.unit (s := S16) ![0] S16.size inb_S16_S16_0).toLoadRect (View.loadsAt_vmem h_S16))
  Prog.lift (.store (Memref.whole cc0_scratch8 : Memref sig .scVector .vmem S16 .f32) (Rect.unit (s := S16) ![0] S16.size inb_S16_S16_0) (k0_pay1 v157 v209 v217 v219) Finset.univ (View.stores_vmem_bits_univ h_S16 rfl) (.inl rfl))
  Prog.lift (.enqueueDma (Memref.whole cc0_scratch8 : Memref sig .scVector .vmem S16 .f32) (.here (shRowK i h1)) (.dma cc0_scoped0.sem) (Memref.isWhole_whole _).wordExact ((View.wordExact_bits rfl).reshape _ _) ⟨Or.inl rfl, trivial⟩)
  Prog.lift (.waitDma2 cc0_scoped0.sem (Memref.whole cc0_scratch8 : Memref sig .scVector .vmem S16 .f32) (shRowK i h1) (Memref.isWhole_whole _).wordExact ((View.wordExact_bits rfl).reshape _ _))
  pure ⟨⟩

/-- What tile 0 does after it. -/
def lastProg (h2 : k0_cond2 i = 1#1) : Prog (TpuEff nD τ sig (Elt F) Λ₀ (.scVector ((i 0).castLE hcore0) ((i 1).castLE hsub0))) PUnit := do
  Prog.lift (.enqueueDma (Memref.whole cc0_scratch9 : Memref sig .scVector .shared S8x16 .f32) (.here (Memref.whole cc0_scratch10 : Memref sig .scVector .vmem S8x16 .f32)) (.dma cc0_scoped1.sem) (Memref.isWhole_whole _).wordExact (Memref.isWhole_whole _).wordExact ⟨Or.inl rfl, trivial⟩)
  Prog.lift (.waitDma2 cc0_scoped1.sem (Memref.whole cc0_scratch9 : Memref sig .scVector .shared S8x16 .f32) (Memref.whole cc0_scratch10 : Memref sig .scVector .vmem S8x16 .f32) (Memref.isWhole_whole _).wordExact (Memref.isWhole_whole _).wordExact)
  have hw : k0_chk13 i k0_pay2 k0_pay3 := (← Prog.lift (TpuEff.assume (k0_chk13 i k0_pay2 k0_pay3) (k0_chk13.dec i k0_pay2 k0_pay3))).down
  let v13 : Vec F S16 .f32 ← SparseCore.vectorLoadIdx (Memref.whole cc0_scratch10 : Memref sig .scVector .vmem S8x16 .f32) ![k0_pay2, k0_pay3] (k0_idx16_inb i k0_pay2 k0_pay3 hw h2) (View.loads_vmem h_S8x16)
  let _v14 : Vec F S16 .f32 ← Prog.lift (.load (Memref.whole cc0_scratch8 : Memref sig .scVector .vmem S16 .f32) (Rect.unit (s := S16) ![0] S16.size inb_S16_S16_0).toLoadRect (View.loadsAt_vmem h_S16))
  Prog.lift (.store (Memref.whole cc0_scratch8 : Memref sig .scVector .vmem S16 .f32) (Rect.unit (s := S16) ![0] S16.size inb_S16_S16_0) v13 Finset.univ (View.stores_vmem_bits_univ h_S16 rfl) (.inl rfl))
  Prog.lift (.enqueueDma ((Memref.whole cc0_scratch8 : Memref sig .scVector .vmem S16 .f32).slice (Rect.unit (s := S16) ![0] S8.size inb_S16_S8_0) (fun _ => rfl)) (.here (oHalfK i h2)) (.dma cc0_scoped2.sem) (View.wordExact_bits rfl) (View.wordExact_bits rfl) ⟨Or.inl rfl, trivial⟩)
  Prog.lift (.waitDma2 cc0_scoped2.sem ((Memref.whole cc0_scratch8 : Memref sig .scVector .vmem S16 .f32).slice (Rect.unit (s := S16) ![0] S8.size inb_S16_S8_0) (fun _ => rfl)) (oHalfK i h2) (View.wordExact_bits rfl) (View.wordExact_bits rfl))
  pure ⟨⟩

/-- The task is the one before the barrier, the barrier and the one after it. -/
theorem kernel_eq : cc0__sc_kernel (F := F) i (Memref.whole main_v2_scv) (Memref.isWhole_whole _) (Memref.whole main_v1_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scoped0 cc0_scoped1 cc0_scoped2
    = ((if h1 : k0_cond1 i = 1#1 then rowProg i h1 else pure ⟨⟩) >>= fun _ =>
        SparseCore.subcoreBarrier sc_bar0 (grid0.bound 1) hsub0 >>= fun _ =>
          ((if h2 : k0_cond2 i = 1#1 then lastProg i h2 else pure ⟨⟩) >>= fun _ => pure ⟨⟩)) := by
  rw [cc0__sc_kernel_eq_skeleton]
  unfold cc0__sc_kernel_skel rowProg lastProg
  by_cases h1 : k0_cond1 i = 1#1 <;> by_cases h2 : k0_cond2 i = 1#1 <;> simp only [h1, h2, ↓reduceDIte, bind_assoc, pure_bind] <;> rfl

set_option maxHeartbeats 8000000 in
theorem wp_row (h1 : k0_cond1 i = 1#1) (h8 : (i 1).val < 8) {Q : PUnit → sProp (MT nD τ sig (HIx 1) (Elt F) ℕ UU ℕ)} :
    iprop(Transfers.MayWaits (th d i) (default : HIx 1) O
      ∗ ((Memref.whole main_v2_scv : Memref sig .scVector .hbm S16x4096 .i32).view.loc (th d i) ↦{q} VW d) ∗ ((Memref.whole main_v1_scv : Memref sig .scVector .hbm S16x4096 .f32).view.loc (th d i) ↦{q} VL d)
      ∗ (∃ f, (Memref.whole cc0_scratch0 : Memref sig .scVector .vmem S4096 .i32).view.loc (th d i) ↦{fullShare} f) ∗ (∃ f, (Memref.whole cc0_scratch1 : Memref sig .scVector .vmem S4096 .i32).view.loc (th d i) ↦{fullShare} f) ∗ (∃ f, (Memref.whole cc0_scratch2 : Memref sig .scVector .vmem S4096 .i32).view.loc (th d i) ↦{fullShare} f)
      ∗ (∃ f, (Memref.whole cc0_scratch3 : Memref sig .scVector .vmem S4112 .f32).view.loc (th d i) ↦{fullShare} f) ∗ (∃ f, (Memref.whole cc0_scratch4 : Memref sig .scVector .vmem S4112 .f32).view.loc (th d i) ↦{fullShare} f) ∗ (∃ f, (Memref.whole cc0_scratch5 : Memref sig .scVector .vmem S512 .i32).view.loc (th d i) ↦{fullShare} f)
      ∗ (∃ f, (Memref.whole cc0_scratch6 : Memref sig .scVector .vmem S512 .i32).view.loc (th d i) ↦{fullShare} f) ∗ (∃ f, (Memref.whole cc0_scratch7 : Memref sig .scVector .vmem S512 .i32).view.loc (th d i) ↦{fullShare} f) ∗ (∃ f, (Memref.whole cc0_scratch8 : Memref sig .scVector .vmem S16 .f32).view.loc (th d i) ↦{fullShare} f)
      ∗ (∃ f, (shLoc d (cV i)) ↦[shSet ⟨(i 1).val, h8⟩]{fullShare} f)
      ∗ semVal (sc0 d i) 0 ∗ semVal (sc1 d i) 0 ∗ semVal (th d i, .dma cc0_scoped0.sem) 0 ∗ owes (th d i) O Wt)
    ⊢ iprop((((Memref.whole main_v2_scv : Memref sig .scVector .hbm S16x4096 .i32).view.loc (th d i) ↦{q} VW d) -∗ ((Memref.whole main_v1_scv : Memref sig .scVector .hbm S16x4096 .f32).view.loc (th d i) ↦{q} VL d)
        -∗ (∃ f, (Memref.whole cc0_scratch0 : Memref sig .scVector .vmem S4096 .i32).view.loc (th d i) ↦{fullShare} f) -∗ (∃ f, (Memref.whole cc0_scratch1 : Memref sig .scVector .vmem S4096 .i32).view.loc (th d i) ↦{fullShare} f) -∗ (∃ f, (Memref.whole cc0_scratch2 : Memref sig .scVector .vmem S4096 .i32).view.loc (th d i) ↦{fullShare} f)
        -∗ (∃ f, (Memref.whole cc0_scratch3 : Memref sig .scVector .vmem S4112 .f32).view.loc (th d i) ↦{fullShare} f) -∗ (∃ f, (Memref.whole cc0_scratch4 : Memref sig .scVector .vmem S4112 .f32).view.loc (th d i) ↦{fullShare} f) -∗ (∃ f, (Memref.whole cc0_scratch5 : Memref sig .scVector .vmem S512 .i32).view.loc (th d i) ↦{fullShare} f)
        -∗ (∃ f, (Memref.whole cc0_scratch6 : Memref sig .scVector .vmem S512 .i32).view.loc (th d i) ↦{fullShare} f) -∗ (∃ f, (Memref.whole cc0_scratch7 : Memref sig .scVector .vmem S512 .i32).view.loc (th d i) ↦{fullShare} f) -∗ (∃ f, (Memref.whole cc0_scratch8 : Memref sig .scVector .vmem S16 .f32).view.loc (th d i) ↦{fullShare} f)
        -∗ ((shLoc d (cV i)) ↦[shSet ⟨(i 1).val, h8⟩]{fullShare} SH VW VL d (cV i))
        -∗ semVal (sc0 d i) 0 -∗ semVal (sc1 d i) 0 -∗ semVal (th d i, .dma cc0_scoped0.sem) 0
        -∗ (∃ W' : Waits sig (HIx 1), ⌜∀ p ∈ W', p ∈ Wt ∨ p.2 = none⌝ ∗ owes (th d i) O W')
        -∗ Q ⟨⟩)
      -∗ wp frame (wpE (defs₀ (F := F)) 𝒱₀ (th d i) none) Set.univ (rowProg (F := F) i h1) Q) := by
  unfold rowProg
  iintro ⟨#Hmw, Hw, Hl, H0, ⟨%f1, H1⟩, ⟨%f2, H2⟩, H3, H4, H5, ⟨%f6, H6⟩, ⟨%f7, H7⟩, ⟨%f8, H8⟩, ⟨%fs, Hsh⟩, HsA, HsB, HsC, HO⟩ Hk
  ihave Hsh' := (Entails.of_eq (show ((shLoc d (cV i)) ↦[shSet ⟨(i 1).val, h8⟩]{fullShare} fs : sProp 𝕄)
    = ((shRowK i h1).view.loc (th d i) ↦[(shRowK i h1).view.set]{fullShare} fs) from by rw [set_shRowK i h1 h8]; rfl)) $$ Hsh
  iapply (wp_part2 (F := F) d i O Wt (VW d) (VL d) q h1 h8) $$ [Hw Hl H0 H3 H4 H5 HsA HsB HO]
  · isplitr; · iexact Hmw
    isplitl [Hw]; · iexact Hw
    isplitl [Hl]; · iexact Hl
    isplitl [H0]; · iexact H0
    isplitl [H3]; · iexact H3
    isplitl [H4]; · iexact H4
    isplitl [H5]; · iexact H5
    isplitl [HsA]; · iexact HsA
    isplitl [HsB]; · iexact HsB
    iexact HO
  iintro Hw Hl H0 H3 ⟨%L, %hL, H4⟩ H5 HsA HsB ⟨%W', %hW', HO⟩
  ihave H1h := (has_whole (F := F) (th d i) cc0_scratch1 f1) $$ H1
  ihave H2h := (has_whole (F := F) (th d i) cc0_scratch2 f2) $$ H2
  ihave H6h := (has_whole (F := F) (th d i) cc0_scratch6 f6) $$ H6
  ihave H7h := (has_whole (F := F) (th d i) cc0_scratch7 f7) $$ H7
  iapply (wp_part3 (F := F) d i (Memref.whole main_v2_scv) (Memref.isWhole_whole _) (Memref.whole main_v1_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scoped0 cc0_scoped1 cc0_scoped2 (wRow d (VW d) (rowOf i h8)) h1) $$ [H0 H1h H2h H3 H5 H6h H7h]
  · unfold any
    isplitl [H0]; · iexact H0
    isplitl [H1h]; · iexists _; iexact H1h
    isplitl [H2h]; · iexists _; iexact H2h
    isplitl [H3]; · iexact H3
    isplitl [H5]; · iexact H5
    isplitl [H6h]; · iexists _; iexact H6h
    iexists _; iexact H7h
  unfold any
  iintro H0 ⟨%D1, H1⟩ ⟨%D2, H2⟩ ⟨%A, %hA, H3⟩ ⟨%D5, H5⟩ ⟨%D6, H6⟩ ⟨%D7, H7⟩
  iapply (wp_part4 (F := F) d i (Memref.whole main_v2_scv) (Memref.isWhole_whole _) (Memref.whole main_v1_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scoped0 cc0_scoped1 cc0_scoped2 A L (lRow d (VL d) (rowOf i h8)) (S3 fun y => key (wRow d (VW d) (rowOf i h8) y)) h1 hA.1 hA.2 hL) $$ [H3 H4]
  · isplitl [H3]; · iexact H3
    iexact H4
  unfold any
  iintro ⟨%D3, H3⟩ ⟨%D4, H4⟩
  rw [k0_part5_eq_skeleton, k0_part6_eq_skeleton]
  unfold k0_part5_skel k0_part6_skel
  ihave H0' := (any_pts (F := F) d i cc0_scratch0 _) $$ H0
  ihave H1' := (any_pts (F := F) d i cc0_scratch1 _) $$ H1
  ihave H2' := (any_pts (F := F) d i cc0_scratch2 _) $$ H2
  ihave H3' := (any_pts (F := F) d i cc0_scratch3 _) $$ H3
  ihave H4' := (any_pts (F := F) d i cc0_scratch4 _) $$ H4
  ihave H5' := (any_pts (F := F) d i cc0_scratch5 _) $$ H5
  ihave H6' := (any_pts (F := F) d i cc0_scratch6 _) $$ H6
  ihave H7' := (any_pts (F := F) d i cc0_scratch7 _) $$ H7
  sl_exec
  rw [wp_ret]; imodintro
  iapply Hk $$ [Hw] [Hl] [H0'] [H1'] [H2'] [H3'] [H4'] [H5'] [H6'] [H7'] [H8] [Hsh'] [HsA] [HsB] [HsC] [HO]
  · iexact Hw
  · iexact Hl
  · iexact H0'
  · iexact H1'
  · iexact H2'
  · iexact H3'
  · iexact H4'
  · iexact H5'
  · iexact H6'
  · iexact H7'
  · iexists _; iexact H8
  · iapply (Entails.of_eq (sh_written (F := F) d i VW VL h1 h8 fs _ (fun y => ?_))) $$ Hsh'
    have ey : y = (Rect.unit (s := S16) ![0] S16.size inb_S16_S16_0).emb y := idx_ext (N := 16) (by
      show (y 0).val = 0 + 1 * (y 0).val; omega)
    have e1 : ∀ w, (Memref.whole cc0_scratch8 : Memref sig .scVector .vmem S16 .f32).view.read (Elt F) ((Memref.whole cc0_scratch8 : Memref sig .scVector .vmem S16 .f32).view.writes (Elt F) f8 [⟨Rect.unit (s := S16) ![0] S16.size inb_S16_S16_0, w⟩]) y = w y := by
      intro w
      refine (congrArg _ ey).trans ?_
      exact (View.read_writes_cons_emb (Memref.whole cc0_scratch8 : Memref sig .scVector .vmem S16 .f32).view f8 (Rect.unit (s := S16) ![0] S16.size inb_S16_S16_0) w [] y)
    exact e1 _
  · iexact HsA
  · iexact HsB
  · iexact HsC
  · iexists _; isplitr
    swap; · iexact HO
    ipureintro; intro p hp
    rcases Finset.mem_insert.mp hp with hp | hp; · exact .inr (hp ▸ rfl)
    exact hW' p hp

/-! ## After the barrier -/

omit [FloatOps F] in
theorem pay2_val (x : S16.Idx) : (k0_pay2 x).toNat = (x 0).val % 8 := by
  have h : ∀ k : Fin 16, (k0_pay2 (lane k)).toNat = k.val % 8 := by decide +kernel
  rw [← lane_eq x]; exact h (x 0)
omit [FloatOps F] in
theorem chk13 : k0_chk13 i k0_pay2 k0_pay3 := by
  intro _ a x
  have h := pay2_val x
  match a with
  | 0 => show (k0_pay2 x).toNat < 8; omega
  | 1 => show (k0_pay2 x).toNat < 16; omega

set_option maxHeartbeats 8000000 in
theorem wp_last (h2 : k0_cond2 i = 1#1) {Q : PUnit → sProp (MT nD τ sig (HIx 1) (Elt F) ℕ UU ℕ)} :
    iprop(Transfers.MayWaits (th d i) (default : HIx 1) O
      ∗ ((shLoc d (cV i)) ↦{fullShare} SH VW VL d (cV i))
      ∗ (∃ f, (Memref.whole cc0_scratch8 : Memref sig .scVector .vmem S16 .f32).view.loc (th d i) ↦{fullShare} f) ∗ (∃ f, (Memref.whole cc0_scratch10 : Memref sig .scVector .vmem S8x16 .f32).view.loc (th d i) ↦{fullShare} f)
      ∗ (∃ f, (oLoc d) ↦[hSet (cI i)]{fullShare} f)
      ∗ semVal (th d i, .dma cc0_scoped1.sem) 0 ∗ semVal (th d i, .dma cc0_scoped2.sem) 0 ∗ owes (th d i) O Wt)
    ⊢ iprop((((shLoc d (cV i)) ↦{fullShare} SH VW VL d (cV i))
        -∗ (∃ f, (Memref.whole cc0_scratch8 : Memref sig .scVector .vmem S16 .f32).view.loc (th d i) ↦{fullShare} f) -∗ (∃ f, (Memref.whole cc0_scratch10 : Memref sig .scVector .vmem S8x16 .f32).view.loc (th d i) ↦{fullShare} f)
        -∗ ((oLoc d) ↦[hSet (cI i)]{fullShare} OUT VW VL d)
        -∗ semVal (th d i, .dma cc0_scoped1.sem) 0 -∗ semVal (th d i, .dma cc0_scoped2.sem) 0
        -∗ (∃ W' : Waits sig (HIx 1), ⌜∀ p ∈ W', p ∈ Wt ∨ p.2 = none⌝ ∗ owes (th d i) O W')
        -∗ Q ⟨⟩)
      -∗ wp frame (wpE (defs₀ (F := F)) 𝒱₀ (th d i) none) Set.univ (lastProg (F := F) i h2) Q) := by
  unfold lastProg
  iintro ⟨#Hmw, Hsh, ⟨%f8, H8⟩, ⟨%f10, H10⟩, ⟨%fo, Ho⟩, HsA, HsB, HO⟩ Hk
  ihave Hsh' := (Entails.of_eq (show ((shLoc d (cV i)) ↦{fullShare} SH VW VL d (cV i) : sProp 𝕄)
    = ((Memref.whole cc0_scratch9 : Memref sig .scVector .shared S8x16 .f32).view.loc (th d i) ↦{fullShare} SH VW VL d (cV i)) from rfl)) $$ Hsh
  ihave Ho' := (Entails.of_eq (show ((oLoc d) ↦[hSet (cI i)]{fullShare} fo : sProp 𝕄)
    = ((oHalfK i h2).view.loc (th d i) ↦[(oHalfK i h2).view.set]{fullShare} fo) from by rw [set_oHalfK i h2])) $$ Ho
  sl_exec
  ihave H10h := (has_whole (F := F) (th d i) cc0_scratch10 _) $$ H10
  rw [wp_assume_of _ _ _ _ (chk13 i)]
  iapply (wp_ldx (th d i) none) $$ H10h
  iintro H10h
  ihave H10' := (whole_has (F := F) (th d i) cc0_scratch10 _) $$ H10h
  sl_exec
  rw [wp_ret]; imodintro
  iapply Hk $$ [Hsh'] [H8] [H10'] [Ho'] [HsA] [HsB] [HO]
  · iexact Hsh'
  · iexists _; iexact H8
  · iexists _; iexact H10'
  · iapply (Entails.of_eq (o_written (F := F) d i VW VL h2 fo _ (fun y => ?_))) $$ Ho'
    have hy : (y 0).val < 8 := (y 0).isLt
    have e1 : ∀ w, ((Memref.whole cc0_scratch8 : Memref sig .scVector .vmem S16 .f32).slice (Rect.unit (s := S16) ![0] S8.size inb_S16_S8_0) (fun _ => rfl)).view.read (Elt F)
        ((Memref.whole cc0_scratch8 : Memref sig .scVector .vmem S16 .f32).view.writes (Elt F) f8 [⟨Rect.unit (s := S16) ![0] S16.size inb_S16_S16_0, w⟩]) y = w (lane ⟨(y 0).val, by omega⟩) := by
      intro w
      have ey : (Rect.unit (s := S16) ![0] S8.size inb_S16_S8_0).emb y
          = (Rect.unit (s := S16) ![0] S16.size inb_S16_S16_0).emb (lane ⟨(y 0).val, by omega⟩) := idx_ext (N := 16) rfl
      refine Eq.trans (congrArg ((Memref.whole cc0_scratch8 : Memref sig .scVector .vmem S16 .f32).view.read (Elt F) ((Memref.whole cc0_scratch8 : Memref sig .scVector .vmem S16 .f32).view.writes (Elt F) f8 [⟨Rect.unit (s := S16) ![0] S16.size inb_S16_S16_0, w⟩])) ey) ?_
      exact (View.read_writes_cons_emb (Memref.whole cc0_scratch8 : Memref sig .scVector .vmem S16 .f32).view f8 (Rect.unit (s := S16) ![0] S16.size inb_S16_S16_0) w [] _)
    have e2 : ∀ w : S8x16.Idx → F .f32, (Memref.whole cc0_scratch10 : Memref sig .scVector .vmem S8x16 .f32).view.write (Elt F) f10 w Finset.univ = w := fun w => View.write_whole_univ (Val := Elt F) cc0_scratch10 f10 w
    refine (e1 _).trans ?_
    refine (congrFun (e2 (SH VW VL d (cV i))) _).trans ?_
    have hp := pay2_val (lane ⟨(y 0).val, by omega⟩)
    rw [lane_val] at hp
    have e3 : rowAt (cV i) ⟨(k0_pay2 (lane ⟨(y 0).val, by omega⟩)).toNat, by rw [hp]; omega⟩ = rowAt (cV i) (y 0) := Fin.ext (by
      show 8 * (i 0).val + (k0_pay2 (lane ⟨(y 0).val, by omega⟩)).toNat = 8 * (i 0).val + (y 0).val
      rw [hp]; show _ + (y 0).val % 8 = _; omega)
    have e4 : lane ⟨(k0_pay3 (lane ⟨(y 0).val, by omega⟩)).toNat, by show (k0_pay2 (lane ⟨(y 0).val, by omega⟩)).toNat < _; rw [hp]; omega⟩
        = lane ⟨(y 0).val % 8, by omega⟩ := congrArg lane (Fin.ext hp)
    exact congrArg₂ (fun r z => rowVal VW VL d r z) e3 e4
  · iexact HsA
  · iexact HsB
  · iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp

end Cert.Proof.Row

end
-- ==== Proof.Task.lean ====
/-
  The whole task of one tile: the row before the barrier if the tile has one, the barrier, the results after it on tile 0.
-/
module

public import proofs.«01_k».proof.Proof.Row

@[expose] public section

noncomputable section

namespace Cert.Proof.Task

open Cert.KernelIdeal Cert.KernelIdeal.Gen Cert.Proof.Held Cert.Proof.CountSort Cert.Proof.Loops Cert.Proof.Parts Cert.Proof.Tile
open Cert.Proof.Barrier Cert.Proof.Row

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev coreOf (c : Fin ((K (F := F)).nCore 0)) : Fin τ.nSC := (K (F := F)).core 0 c
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (d : Dev nD) (i : grid0.Coords)
variable (VW : (d : Dev nD) → Buf (Elt F) (wLoc d)) (VL : (d : Dev nD) → Buf (Elt F) (lLoc d)) (q : PosShare TreeShare)

/-! ## The tile's own buffers and semaphores -/

/-- The tile's buffers, at whatever they hold. -/
def bufs : sProp 𝕄 :=
  iprop((∃ f, (Memref.whole cc0_scratch0 : Memref sig .scVector .vmem S4096 .i32).view.loc (th d i) ↦{fullShare} f) ∗ (∃ f, (Memref.whole cc0_scratch1 : Memref sig .scVector .vmem S4096 .i32).view.loc (th d i) ↦{fullShare} f) ∗ (∃ f, (Memref.whole cc0_scratch2 : Memref sig .scVector .vmem S4096 .i32).view.loc (th d i) ↦{fullShare} f)
    ∗ (∃ f, (Memref.whole cc0_scratch3 : Memref sig .scVector .vmem S4112 .f32).view.loc (th d i) ↦{fullShare} f) ∗ (∃ f, (Memref.whole cc0_scratch4 : Memref sig .scVector .vmem S4112 .f32).view.loc (th d i) ↦{fullShare} f) ∗ (∃ f, (Memref.whole cc0_scratch5 : Memref sig .scVector .vmem S512 .i32).view.loc (th d i) ↦{fullShare} f)
    ∗ (∃ f, (Memref.whole cc0_scratch6 : Memref sig .scVector .vmem S512 .i32).view.loc (th d i) ↦{fullShare} f) ∗ (∃ f, (Memref.whole cc0_scratch7 : Memref sig .scVector .vmem S512 .i32).view.loc (th d i) ↦{fullShare} f)
    ∗ (∃ f, (Memref.whole cc0_scratch8 : Memref sig .scVector .vmem S16 .f32).view.loc (th d i) ↦{fullShare} f) ∗ (∃ f, (Memref.whole cc0_scratch10 : Memref sig .scVector .vmem S8x16 .f32).view.loc (th d i) ↦{fullShare} f))
/-- Its semaphores for copies, at zero. -/
def sems : sProp 𝕄 := iprop(semVal (sc0 d i) 0 ∗ semVal (sc1 d i) 0 ∗ semVal (th d i, .dma cc0_scoped0.sem) 0
  ∗ semVal (th d i, .dma cc0_scoped1.sem) 0 ∗ semVal (th d i, .dma cc0_scoped2.sem) 0)

/-- The references of the buffers. -/
def refs : Finset (Ref sig .scVector) := {cc0_scratch0, cc0_scratch1, cc0_scratch2, cc0_scratch3, cc0_scratch4, cc0_scratch5, cc0_scratch6, cc0_scratch7, cc0_scratch8, cc0_scratch10}
/-- The places of the semaphores. -/
def cells : Finset (SemLoc sig) := {.dma cc0_scratch11.sem, .dma cc0_scratch12.sem, .dma cc0_scoped0.sem, .dma cc0_scoped1.sem, .dma cc0_scoped2.sem}

theorem nm0 : (cc0_scratch0 : Ref sig .scVector) ∉ ({cc0_scratch1, cc0_scratch2, cc0_scratch3, cc0_scratch4, cc0_scratch5, cc0_scratch6, cc0_scratch7, cc0_scratch8, cc0_scratch10} : Finset (Ref sig .scVector)) := by decide
theorem nm1 : (cc0_scratch1 : Ref sig .scVector) ∉ ({cc0_scratch2, cc0_scratch3, cc0_scratch4, cc0_scratch5, cc0_scratch6, cc0_scratch7, cc0_scratch8, cc0_scratch10} : Finset (Ref sig .scVector)) := by decide
theorem nm2 : (cc0_scratch2 : Ref sig .scVector) ∉ ({cc0_scratch3, cc0_scratch4, cc0_scratch5, cc0_scratch6, cc0_scratch7, cc0_scratch8, cc0_scratch10} : Finset (Ref sig .scVector)) := by decide
theorem nm3 : (cc0_scratch3 : Ref sig .scVector) ∉ ({cc0_scratch4, cc0_scratch5, cc0_scratch6, cc0_scratch7, cc0_scratch8, cc0_scratch10} : Finset (Ref sig .scVector)) := by decide
theorem nm4 : (cc0_scratch4 : Ref sig .scVector) ∉ ({cc0_scratch5, cc0_scratch6, cc0_scratch7, cc0_scratch8, cc0_scratch10} : Finset (Ref sig .scVector)) := by decide
theorem nm5 : (cc0_scratch5 : Ref sig .scVector) ∉ ({cc0_scratch6, cc0_scratch7, cc0_scratch8, cc0_scratch10} : Finset (Ref sig .scVector)) := by decide
theorem nm6 : (cc0_scratch6 : Ref sig .scVector) ∉ ({cc0_scratch7, cc0_scratch8, cc0_scratch10} : Finset (Ref sig .scVector)) := by decide
theorem nm7 : (cc0_scratch7 : Ref sig .scVector) ∉ ({cc0_scratch8, cc0_scratch10} : Finset (Ref sig .scVector)) := by decide
theorem nm8 : (cc0_scratch8 : Ref sig .scVector) ∉ ({cc0_scratch10} : Finset (Ref sig .scVector)) := by decide
theorem nc0 : (.dma cc0_scratch11.sem : SemLoc sig) ∉ ({.dma cc0_scratch12.sem, .dma cc0_scoped0.sem, .dma cc0_scoped1.sem, .dma cc0_scoped2.sem} : Finset (SemLoc sig)) := by decide
theorem nc1 : (.dma cc0_scratch12.sem : SemLoc sig) ∉ ({.dma cc0_scoped0.sem, .dma cc0_scoped1.sem, .dma cc0_scoped2.sem} : Finset (SemLoc sig)) := by decide
theorem nc2 : (.dma cc0_scoped0.sem : SemLoc sig) ∉ ({.dma cc0_scoped1.sem, .dma cc0_scoped2.sem} : Finset (SemLoc sig)) := by decide
theorem nc3 : (.dma cc0_scoped1.sem : SemLoc sig) ∉ ({.dma cc0_scoped2.sem} : Finset (SemLoc sig)) := by decide

abbrev rest : sProp 𝕄 :=
  bigSep (ownRefs (τ := τ) (.scVector (cV i) (jV i)) \ refs.image (Proc.scVector (cV i) (jV i)).devRef) fun b => iprop(∃ f, ((d, b) : Loc nD τ sig) ↦{fullShare} f)
abbrev restSems : sProp 𝕄 := bigSep (ownCells (th d i) \ cells.image fun s => ((th d i, s) : GSem nD τ sig)) fun g => semVal g 0

theorem ownBufs_V : (ownBufs (th d i) : sProp 𝕄) = iprop(bufs d i ∗ rest d i) := by
  unfold SparseCore.Cfg.ownBufs
  have hsub : refs.image (Proc.scVector (cV i) (jV i)).devRef ⊆ ownRefs (τ := τ) (sig := sig) (.scVector (cV i) (jV i)) := by
    intro b hb
    obtain ⟨r, hr, rfl⟩ := Finset.mem_image.mp hb
    refine SparseCore.Cfg.mem_ownRefs_of_owner (p := Proc.scVector (cV i) (jV i)) ?_
    unfold refs at hr
    simp only [Finset.mem_insert, Finset.mem_singleton] at hr
    rcases hr with rfl | rfl | rfl | rfl | rfl | rfl | rfl | rfl | rfl | rfl <;> rfl
  refine (bigSep_sdiff_split hsub).trans ?_
  refine congrArg (fun X : sProp 𝕄 => iprop(X ∗ rest d i)) ?_
  rw [SparseCore.bigSep_image_of_injOn (fun a _ b _ e => Proc.devRef_injective _ e)]
  unfold refs
  rw [SparseCore.bigSep_insert' nm0, SparseCore.bigSep_insert' nm1, SparseCore.bigSep_insert' nm2, SparseCore.bigSep_insert' nm3, SparseCore.bigSep_insert' nm4, SparseCore.bigSep_insert' nm5, SparseCore.bigSep_insert' nm6, SparseCore.bigSep_insert' nm7, SparseCore.bigSep_insert' nm8, bigSep_singleton]
  rfl

theorem ownSems0_V : (ownSems0 (th d i) : sProp 𝕄) = iprop(sems d i ∗ restSems d i) := by
  unfold SparseCore.Cfg.ownSems0
  have hsub : (cells.image fun s => ((th d i, s) : GSem nD τ sig)) ⊆ ownCells (th d i) := by
    intro b hb
    obtain ⟨r, hr, rfl⟩ := Finset.mem_image.mp hb
    refine mem_ownCells.mpr ⟨rfl, ?_⟩
    show r.isScoped .scVector = true
    unfold cells at hr
    simp only [Finset.mem_insert, Finset.mem_singleton] at hr
    rcases hr with rfl | rfl | rfl | rfl | rfl <;> decide
  refine (bigSep_sdiff_split hsub).trans ?_
  refine congrArg (fun X : sProp 𝕄 => iprop(X ∗ restSems d i)) ?_
  rw [SparseCore.bigSep_image_of_injOn (fun a _ b _ e => (Prod.mk.inj e).2)]
  unfold cells
  rw [SparseCore.bigSep_insert' nc0, SparseCore.bigSep_insert' nc1, SparseCore.bigSep_insert' nc2, SparseCore.bigSep_insert' nc3, bigSep_singleton]
  rfl

/-! ## The two guarded pieces, guard included -/

variable (O : CellTallies nD τ sig (HIx 1)) (Wt : Waits sig (HIx 1))

theorem wp_first {Q : PUnit → sProp (MT nD τ sig (HIx 1) (Elt F) ℕ UU ℕ)} :
    iprop(Transfers.MayWaits (th d i) (default : HIx 1) O
      ∗ (wLoc d ↦{q} VW d) ∗ (lLoc d ↦{q} VL d) ∗ bufs (F := F) d i ∗ sems (F := F) d i
      ∗ (if h8 : (i 1).val < 8 then iprop(∃ f, (shLoc d (cV i)) ↦[shSet ⟨(i 1).val, h8⟩]{fullShare} f) else iprop(emp))
      ∗ owes (th d i) O Wt)
    ⊢ iprop(((wLoc d ↦{q} VW d) -∗ (lLoc d ↦{q} VL d) -∗ bufs (F := F) d i -∗ sems (F := F) d i
        -∗ given VW VL d (cV i) (jV i)
        -∗ (∃ W' : Waits sig (HIx 1), ⌜∀ p ∈ W', p ∈ Wt ∨ p.2 = none⌝ ∗ owes (th d i) O W')
        -∗ Q ⟨⟩)
      -∗ wp frame (wpE (defs₀ (F := F)) 𝒱₀ (th d i) none) Set.univ (if h1 : k0_cond1 i = 1#1 then rowProg (F := F) i h1 else pure ⟨⟩) Q) := by
  unfold given
  by_cases h1 : k0_cond1 i = 1#1
  · have h8 := (cond1_iff i).mp h1
    have h8' : (jV i).val < 8 := h8
    rw [dif_pos h1, dif_pos h8, dif_pos h8']
    unfold bufs sems
    iintro ⟨#Hmw, Hw, Hl, ⟨H0, H1, H2, H3, H4, H5, H6, H7, H8, H10⟩, ⟨Ha, Hb, Hc, Hd, He⟩, Hsh, HO⟩ Hk
    iapply (wp_row (F := F) d i VW VL q O Wt h1 h8) $$ [Hw Hl H0 H1 H2 H3 H4 H5 H6 H7 H8 Ha Hb Hc Hsh HO]
    · isplitr; · iexact Hmw
      isplitl [Hw]; · iexact Hw
      isplitl [Hl]; · iexact Hl
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [Hsh]; · iexact Hsh
      isplitl [Ha]; · iexact Ha
      isplitl [Hb]; · iexact Hb
      isplitl [Hc]; · iexact Hc
      iexact HO
    iintro Hw Hl H0 H1 H2 H3 H4 H5 H6 H7 H8 Hsh Ha Hb Hc HO
    iapply Hk $$ [Hw] [Hl] [H0 H1 H2 H3 H4 H5 H6 H7 H8 H10] [Ha Hb Hc Hd He] [Hsh] [HO]
    · iexact Hw
    · iexact Hl
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H10
    · isplitl [Ha]; · iexact Ha
      isplitl [Hb]; · iexact Hb
      isplitl [Hc]; · iexact Hc
      isplitl [Hd]; · iexact Hd
      iexact He
    · iexact Hsh
    · iexact HO
  · have h8 : ¬ (i 1).val < 8 := fun h => h1 ((cond1_iff i).mpr h)
    have h8' : ¬ (jV i).val < 8 := h8
    rw [dif_neg h1, dif_neg h8, dif_neg h8']
    iintro ⟨#Hmw, Hw, Hl, Hb, Hs, -, HO⟩ Hk
    rw [wp_pure]; imodintro
    iapply Hk $$ [Hw] [Hl] [Hb] [Hs] [] [HO]
    · iexact Hw
    · iexact Hl
    · iexact Hb
    · iexact Hs
    · iempintro
    · iexists _; isplitr
      swap; · iexact HO
      ipureintro; intro p hp; exact .inl hp

theorem wp_second {Q : PUnit → sProp (MT nD τ sig (HIx 1) (Elt F) ℕ UU ℕ)} :
    iprop(Transfers.MayWaits (th d i) (default : HIx 1) O
      ∗ bufs (F := F) d i ∗ sems (F := F) d i
      ∗ (if (i 1).val = 0 then iprop(∃ f, (oLoc d) ↦[hSet (cI i)]{fullShare} f) else iprop(emp))
      ∗ (if (i 1).val = 0 then iprop((shLoc d (cV i)) ↦{fullShare} SH VW VL d (cV i)) else iprop(emp))
      ∗ owes (th d i) O Wt)
    ⊢ iprop((bufs (F := F) d i -∗ sems (F := F) d i
        -∗ (if (i 1).val = 0 then iprop(((oLoc d) ↦[hSet (cI i)]{fullShare} OUT VW VL d) ∗ ∃ f, (shLoc d (cV i)) ↦{fullShare} f) else iprop(emp))
        -∗ (∃ W' : Waits sig (HIx 1), ⌜∀ p ∈ W', p ∈ Wt ∨ p.2 = none⌝ ∗ owes (th d i) O W')
        -∗ Q ⟨⟩)
      -∗ wp frame (wpE (defs₀ (F := F)) 𝒱₀ (th d i) none) Set.univ (if h2 : k0_cond2 i = 1#1 then lastProg (F := F) i h2 else pure ⟨⟩) Q) := by
  by_cases h2 : k0_cond2 i = 1#1
  · have h8 := (cond2_iff i).mp h2
    rw [dif_pos h2, if_pos h8, if_pos h8, if_pos h8]
    unfold bufs sems
    iintro ⟨#Hmw, ⟨H0, H1, H2, H3, H4, H5, H6, H7, H8, H10⟩, ⟨Ha, Hb, Hc, Hd, He⟩, Ho, Hsh, HO⟩ Hk
    iapply (wp_last (F := F) d i VW VL O Wt h2) $$ [H8 H10 Hd He Ho Hsh HO]
    · isplitr; · iexact Hmw
      isplitl [Hsh]; · iexact Hsh
      isplitl [H8]; · iexact H8
      isplitl [H10]; · iexact H10
      isplitl [Ho]; · iexact Ho
      isplitl [Hd]; · iexact Hd
      isplitl [He]; · iexact He
      iexact HO
    iintro Hsh H8 H10 Ho Hd He HO
    iapply Hk $$ [H0 H1 H2 H3 H4 H5 H6 H7 H8 H10] [Ha Hb Hc Hd He] [Ho Hsh] [HO]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H10
    · isplitl [Ha]; · iexact Ha
      isplitl [Hb]; · iexact Hb
      isplitl [Hc]; · iexact Hc
      isplitl [Hd]; · iexact Hd
      iexact He
    · isplitl [Ho]; · iexact Ho
      iexists _; iexact Hsh
    · iexact HO
  · have h8 : ¬ (i 1).val = 0 := fun h => h2 ((cond2_iff i).mpr h)
    rw [dif_neg h2, if_neg h8, if_neg h8, if_neg h8]
    iintro ⟨#Hmw, Hb, Hs, -, -, HO⟩ Hk
    rw [wp_pure]; imodintro
    iapply Hk $$ [Hb] [Hs] [] [HO]
    · iexact Hb
    · iexact Hs
    · iempintro
    · iexists _; isplitr
      swap; · iexact HO
      ipureintro; intro p hp; exact .inl hp

/-! ## The task -/

/-- What a tile is handed: its share of the two arrays read, tile 0 its core's half of the results, the first eight each
    its row of the shared scratch. -/
def goP : sProp 𝕄 :=
  iprop((wLoc d ↦{q} VW d) ∗ (lLoc d ↦{q} VL d)
    ∗ (if (i 1).val = 0 then iprop(∃ f, (oLoc d) ↦[hSet (cI i)]{fullShare} f) else iprop(emp))
    ∗ (if h8 : (i 1).val < 8 then iprop(∃ f, (shLoc d (cV i)) ↦[shSet ⟨(i 1).val, h8⟩]{fullShare} f) else iprop(emp)))
/-- What it hands back: the shares, tile 0 the half written and the whole shared scratch. -/
def tdP : sProp 𝕄 :=
  iprop((wLoc d ↦{q} VW d) ∗ (lLoc d ↦{q} VL d)
    ∗ (if (i 1).val = 0 then iprop(((oLoc d) ↦[hSet (cI i)]{fullShare} OUT VW VL d) ∗ ∃ f, (shLoc d (cV i)) ↦{fullShare} f) else iprop(emp)))

theorem got : (bigSep ((bRd (F := F) VW VL).duties (bcell d (cV i) (jV i)) 0 \ ∅) fun n => (bRd (F := F) VW VL).payload (bcell d (cV i) (jV i)) 0 n)
    ⊢ ((if (i 1).val = 0 then iprop((shLoc d (cV i)) ↦{fullShare} SH VW VL d (cV i)) else iprop(emp)) : sProp 𝕄) := by
  split
  · next h => exact pays_elim VW VL d (cV i) (jV i) h
  · exact fun _ _ => trivial

set_option maxHeartbeats 4000000 in
theorem tile_body (hF : (K (F := F)).Facts) (hO : ∀ g, O g none = 0)
    (hOlev : ∀ g ι, 0 < O g ι → 8 * (0 : Fin 1).val + 6 ≤ (K (F := F)).lev g ι) :
    iprop(levAts (K (F := F)).L (K (F := F)).lev ∗ bkit VW VL d (cV i) (jV i)
        ∗ goP (F := F) d i VW VL q
        ∗ scopedBufs (th d i) ∗ scopedSems0 (th d i) ∗ owes (th d i) (O + oxV d (cV i)) Wt)
      ⊢ wp frame (wpE (defs₀ (F := F)) 𝒱₀ (th d i) none) Set.univ
          (cc0__sc_kernel (F := F) i (Memref.whole main_v2_scv) (Memref.isWhole_whole _) (Memref.whole main_v1_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scoped0 cc0_scoped1 cc0_scoped2)
          fun _ => iprop((tdP (F := F) d i VW VL q ∗ semVal (bcell d (cV i) (jV i)) 0)
            ∗ scopedBufs (th d i) ∗ scopedSems0 (th d i)
            ∗ ∃ W', ⌜∀ p ∈ W', p ∈ Wt ∨ p.2 = none ∨ p.2 = some (0 : Fin 1)⌝ ∗ owes (th d i) O W') := by
  rw [kernel_eq, (K (F := F)).scopedBufs_V hF d (cV i) (jV i), SparseCore.Cfg.scopedSems0_V (Val := Elt F) d (cV i) (jV i), ownSems0_V, ownBufs_V]
  unfold bkit goP tdP
  iintro ⟨#Hlv, ⟨⟨%κ, #Hinv⟩, Htoks, #Hrch, Hat, Hcred⟩, ⟨Hw, Hl, Ho, Hsh⟩, ⟨Hb, Hbufs⟩, ⟨Hs, Hsems⟩, HO⟩
  have hO' : ∀ g, (O + oxV d (cV i)) g none = 0 := fun g => by rw [Pi.add_apply, Finsupp.add_apply, hO g, oxV_none]
  ihave Hmw1 := (show levAts (K (F := F)).L (K (F := F)).lev ⊢ Transfers.MayWaits (th d i) (default : HIx 1) (O + oxV d (cV i)) from
    (K (F := F)).mayWaits_none (thr := th d i) hO') $$ Hlv
  ihave Hmw2 := (show levAts (K (F := F)).L (K (F := F)).lev ⊢ Transfers.MayWaits (th d i) (default : HIx 1) O from
    (K (F := F)).mayWaits_none (thr := th d i) hO) $$ Hlv
  rw [wp_bind]
  iapply (wp_first (F := F) d i VW VL q (O + oxV d (cV i)) Wt) $$ [Hmw1 Hw Hl Hb Hs Hsh HO]
  · isplitl [Hmw1]; · iexact Hmw1
    isplitl [Hw]; · iexact Hw
    isplitl [Hl]; · iexact Hl
    isplitl [Hb]; · iexact Hb
    isplitl [Hs]; · iexact Hs
    isplitl [Hsh]; · iexact Hsh
    iexact HO
  iintro Hw Hl Hb Hs Hgiven ⟨%W1, %hW1, HO⟩
  ihave Hpays := (pays_intro (F := F) VW VL d (cV i) (jV i)) $$ Hgiven
  iapply (SparseCore.wp_subcoreBarrier 𝒱₀ none EB (bRd (F := F) VW VL) d (sc := cV i) (i := jV i) sc_bar0 (grid0.bound 1) hsub0 (i 1) rfl κ (fun _ => 0) (jV i).val
      (fun j => bRd_mem₀ VW VL d _ _ _) (fun _ => rfl) (bRd_expect VW VL d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := th d i) 3 (fun p hp => by
        rw [Finset.mem_singleton] at hp; subst hp
        show (K (F := F)).lev (bcell d (cV i) (jV i)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd (F := F) VW VL) (g := bcell d (cV i) (jV i)) (Set.mem_univ (κ _)) (fun h => h) (bRd_duties_succ VW VL _)) $$ [Hat] with Hbar
  · isplitr
    · iapply (SparseCore.ent (bigSep_elim (Φ := fun j : Fin (grid0.bound 1) =>
        (cellInv EB (bRd (F := F) VW VL) (κ (bcell d (cV i) (j.castLE hsub0))) (bcell d (cV i) (j.castLE hsub0)) : sProp 𝕄)) (Finset.mem_univ (i 1)))); iexact Hinv
    · iexact Hat
  ihave Hgot' := (got (F := F) d i VW VL) $$ Hgot
  rw [wp_bind]
  iapply (wp_second (F := F) d i VW VL O _) $$ [Hmw2 Hb Hs Ho Hgot' HO]
  · isplitl [Hmw2]; · iexact Hmw2
    isplitl [Hb]; · iexact Hb
    isplitl [Hs]; · iexact Hs
    isplitl [Ho]; · iexact Ho
    isplitl [Hgot']; · iexact Hgot'
    iexact HO
  iintro Hb Hs Ho ⟨%W2, %hW2, HO⟩
  rw [wp_pure]; imodintro
  isplitl [Hw Hl Ho Hbar]
  · isplitr [Hbar]; swap; · iexact Hbar
    isplitl [Hw]; · iexact Hw
    isplitl [Hl]; · iexact Hl
    iexact Ho
  isplitl [Hb Hbufs]
  · isplitl [Hb]; · iexact Hb
    iexact Hbufs
  isplitl [Hs Hsems]
  · isplitl [Hs]; · iexact Hs
    iexact Hsems
  iexists _; isplitr
  swap; · iexact HO
  ipureintro; intro p hp
  rcases hW2 p hp with hp | hp
  · rcases Finset.mem_insert.mp hp with hp | hp; · exact .inr (.inr (hp ▸ rfl))
    rcases hW1 p hp with hp | hp
    · exact .inl hp
    · exact .inr (.inl hp)
  · exact .inr (.inl hp)

end Cert.Proof.Task

end
-- ==== Proof.Launch.lean ====
/-
  The launch: what the handshakes carry, the tasks' and the sequencers' obligations, the program's own operations before
  the call, and the whole program's run: the arguments unchanged, every semaphore at zero, the results the rows' values.
-/
module

public import proofs.«01_k».proof.Proof.Task
public import Idealize.ShloMosaic.Lib.StableHlo.Run
public import Idealize.ShloMosaic.Lib.SparseCore.Quiescent

@[expose] public section

noncomputable section

namespace Cert.Proof.Launch

open Cert.KernelIdeal Cert.KernelIdeal.Gen Cert.Proof.Held Cert.Proof.CountSort Cert.Proof.Loops Cert.Proof.Parts Cert.Proof.Tile
open Cert.Proof.Barrier Cert.Proof.Row Cert.Proof.Task

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ

abbrev EH : Emb UH (MT nD τ sig (HIx 1) (Elt F) ℕ UU ℕ) := embL

variable (VW : (d : Dev nD) → Buf (Elt F) (wLoc d)) (VL : (d : Dev nD) → Buf (Elt F) (lLoc d))

/-! ## What the handshakes carry -/

/-- Core `c`'s share of the two arrays read. -/
abbrev qC (c : Fin 2) : PosShare TreeShare := Transfers.shareTok fullShare 2 c
/-- Its tile `s`'s share. -/
abbrev qT (c : Fin 2) (s : Fin 16) : PosShare TreeShare := Transfers.shareTok (qC c) 16 s

def coordsV (c : Fin (grid0.bound 0)) (s : Fin (grid0.bound 1)) : grid0.Coords :=
  fun | 0 => c | 1 => s | ⟨_ + 2, h⟩ => absurd h (Nat.not_lt.2 (Nat.le_add_left _ _))

abbrev bars (d : Dev nD) (c : Fin ((K (F := F)).nCore 0)) : sProp 𝕄 :=
  bigSep Finset.univ fun i : Fin ((K (F := F)).nSub 0) => semVal (bcell d (coreOf c) ((K (F := F)).sub 0 i)) 0

/-- What a core takes. -/
def stP (d : Dev nD) (c : Fin 2) : sProp 𝕄 :=
  iprop((wLoc d ↦{qC c} VW d) ∗ (lLoc d ↦{qC c} VL d) ∗ ∃ f, (oLoc d) ↦[hSet c]{fullShare} f)
/-- What it brings back, but for the barrier semaphores. -/
def dnP (d : Dev nD) (c : Fin 2) : sProp 𝕄 :=
  iprop((wLoc d ↦{qC c} VW d) ∗ (lLoc d ↦{qC c} VL d) ∗ ((oLoc d) ↦[hSet c]{fullShare} OUT VW VL d))

instance stP_storable (d : Dev nD) (c : Fin 2) : BI.Storable (upEmb : UEmb _ 𝕄) (stP VW VL d c) := by unfold stP; infer_instance
instance dnP_storable (d : Dev nD) (c : Fin 2) : BI.Storable (upEmb : UEmb _ 𝕄) (dnP VW VL d c) := by unfold dnP; infer_instance
instance goP_storable (d : Dev nD) (i : grid0.Coords) (q : PosShare TreeShare) : BI.Storable (upEmb : UEmb _ 𝕄) (goP d i VW VL q) := by
  unfold goP
  by_cases h : (i 1).val = 0 <;> by_cases h8 : (i 1).val < 8
  · rw [if_pos h, dif_pos h8]; infer_instance
  · rw [if_pos h, dif_neg h8]; infer_instance
  · rw [if_neg h, dif_pos h8]; infer_instance
  · rw [if_neg h, dif_neg h8]; infer_instance
instance tdP_storable (d : Dev nD) (i : grid0.Coords) (q : PosShare TreeShare) : BI.Storable (upEmb : UEmb _ 𝕄) (tdP d i VW VL q) := by
  unfold tdP
  by_cases h : (i 1).val = 0 <;> simp only [h, ↓reduceIte] <;> infer_instance

set_option backward.proofsInPublic true in
/-- The one call: each core its shares and its half of the results, and within it each tile its own. -/
def P : (K (F := F)).Pay (nD := nD) (Val := Elt F) (Name := ℕ) (U := UU) where
  st := fun q d c => match q with | 0 => stP VW VL d c
  dn := fun q d c => match q with | 0 => iprop(dnP VW VL d c ∗ bars d c)
  go := fun q d c i => match q with | 0 => goP d (coordsV c i) VW VL (qT c i)
  td := fun q d c i => match q with
    | 0 => iprop(tdP d (coordsV c i) VW VL (qT c i) ∗ semVal (bcell d (coreOf c) ((K (F := F)).sub 0 i)) 0)
  x := fun _ thr => match thr with
    | (d, .scVector c i) => bkit VW VL d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) VW VL).IsStorable where
  st q d c := match q with | 0 => stP_storable VW VL d c
  dn q d c := match q with
    | 0 => (inferInstance : BI.Storable (upEmb : UEmb _ 𝕄) iprop(dnP VW VL d c ∗ bars d c))
  go q d c i := match q with | 0 => goP_storable VW VL d (coordsV c i) (qT c i)
  td q d c i := match q with
    | 0 => (inferInstance : BI.Storable (upEmb : UEmb _ 𝕄) iprop(tdP d (coordsV c i) VW VL (qT c i) ∗ semVal _ 0))

/-! ## The obligation of a task -/

theorem defs₀_vector (c : Fin τ.nSC) (s : Fin τ.nSub) :
    defs₀ (F := F) (.scVector c s) 0 ()
      = SparseCore.onTile hcore0 hsub0 (fun c s => cc0__sc_kernel (F := F) (coordsV c s) (Memref.whole main_v2_scv) (Memref.isWhole_whole _) (Memref.whole main_v1_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scoped0 cc0_scoped1 cc0_scoped2) ⟨⟩ c s := rfl

set_option maxRecDepth 16384 in
theorem tileObl (hF : (K (F := F)).Facts) : (K (F := F)).TileObl (D (F := F)) 𝒱 (P VW VL) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) VW VL (qT c i) O W hF hO hOlev

/-! ## The obligation of a sequencer -/

theorem sep_emp' (X : sProp 𝕄) : iprop(X ∗ emp) = X :=
  have h1 : iprop(X ∗ emp) ⊢ X := by iintro ⟨H, -⟩; iexact H
  have h2 : X ⊢ iprop(X ∗ emp) := by
    iintro H
    isplitl; · iexact H
    iempintro
  Entails.antisymm h1 h2

theorem ifzero (X : sProp 𝕄) : (bigSep Finset.univ fun s : Fin 16 => if s.val = 0 then X else iprop(emp)) = X := by
  rw [SparseCore.bigSep_erase' (Finset.mem_univ (0 : Fin 16)),
    show (bigSep (Finset.univ.erase (0 : Fin 16)) fun s : Fin 16 => if s.val = 0 then X else iprop(emp)) = bigSep (Finset.univ.erase (0 : Fin 16)) fun _ => (iprop(emp) : sProp 𝕄) from
      bigSep_congr fun j hj => if_neg fun h => (Finset.mem_erase.mp hj).1 (Fin.ext h), bigSep_emp']
  exact sep_emp' _

theorem firstEight (Ψ : Fin 8 → sProp 𝕄) : bigSep Finset.univ Ψ ⊢ bigSep Finset.univ fun s : Fin 16 => if h : s.val < 8 then Ψ ⟨s.val, h⟩ else iprop(emp) := by
  have hsub : (Finset.univ : Finset (Fin 8)).image (Fin.castLE (by decide : 8 ≤ 16)) ⊆ (Finset.univ : Finset (Fin 16)) := Finset.subset_univ _
  rw [bigSep_sdiff_split hsub, SparseCore.bigSep_image_of_injOn (fun a _ b _ e => Fin.castLE_injective _ e),
    show (bigSep (Finset.univ \ (Finset.univ : Finset (Fin 8)).image (Fin.castLE (by decide : 8 ≤ 16))) fun s : Fin 16 => if h : s.val < 8 then Ψ ⟨s.val, h⟩ else iprop(emp))
      = bigSep (Finset.univ \ (Finset.univ : Finset (Fin 8)).image (Fin.castLE (by decide : 8 ≤ 16))) fun _ => (iprop(emp) : sProp 𝕄) from
      bigSep_congr fun j hj => dif_neg fun h => (Finset.mem_sdiff.mp hj).2 (Finset.mem_image.mpr ⟨⟨j.val, h⟩, Finset.mem_univ _, rfl⟩), bigSep_emp',
    show (bigSep Finset.univ fun s : Fin 8 => if h : (Fin.castLE (by decide : 8 ≤ 16) s).val < 8 then Ψ ⟨(Fin.castLE (by decide : 8 ≤ 16) s).val, h⟩ else iprop(emp))
      = bigSep Finset.univ Ψ from bigSep_congr fun j _ => dif_pos j.isLt]
  exact Entails.of_eq (sep_emp' _).symm

theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- The shared scratch, row by row. -/
theorem sh_rows (d : Dev nD) (c : Fin τ.nSC) : (iprop(∃ f, shLoc d c ↦{fullShare} f) : sProp 𝕄)
    ⊢ bigSep Finset.univ fun s : Fin 16 => if h : s.val < 8 then iprop(∃ f, shLoc d c ↦[shSet ⟨s.val, h⟩]{fullShare} f) else iprop(emp) := by
  suffices h : (iprop(∃ f, shLoc d c ↦{fullShare} f) : sProp 𝕄) ⊢ bigSep Finset.univ fun s : Fin 8 => iprop(∃ f, shLoc d c ↦[shSet s]{fullShare} f) from
    h.trans (firstEight (F := F) fun s => iprop(∃ f, shLoc d c ↦[shSet s]{fullShare} f))
  iintro ⟨%f, H⟩
  ihave H' := (Entails.of_eq (shPts_rows (F := F) d c f)) $$ H
  iapply (SparseCore.ent (bigSep_mono (Φ := fun s : Fin 8 => iprop(shLoc d c ↦[shSet s]{fullShare} f)) (Ψ := fun s : Fin 8 => iprop(∃ f, shLoc d c ↦[shSet s]{fullShare} f))
    fun i _ => BI.BIClass.exists_intro (Φ := fun f => iprop(shLoc d c ↦[shSet i]{fullShare} f)) f)) $$ H'

/-- What tile `s` of core `c` takes and brings back, by its number. -/
theorem go_eq (d : Dev nD) (c : Fin 2) (s : Fin 16) : goP (F := F) d (coordsV c s) VW VL (qT c s)
    = iprop((wLoc d ↦{qT c s} VW d) ∗ (lLoc d ↦{qT c s} VL d)
      ∗ (if s.val = 0 then iprop(∃ f, (oLoc d) ↦[hSet c]{fullShare} f) else iprop(emp))
      ∗ (if h8 : s.val < 8 then iprop(∃ f, (shLoc d (show Fin τ.nSC from c)) ↦[shSet ⟨s.val, h8⟩]{fullShare} f) else iprop(emp))) := rfl
theorem td_eq (d : Dev nD) (c : Fin 2) (s : Fin 16) : tdP (F := F) d (coordsV c s) VW VL (qT c s)
    = iprop((wLoc d ↦{qT c s} VW d) ∗ (lLoc d ↦{qT c s} VL d)
      ∗ (if s.val = 0 then iprop(((oLoc d) ↦[hSet c]{fullShare} OUT VW VL d) ∗ ∃ f, (shLoc d (show Fin τ.nSC from c)) ↦{fullShare} f) else iprop(emp))) := rfl

theorem vecSplit : (K (F := F)).VecSplit (P VW VL) 0 := by
  intro d c
  show iprop(stP VW VL d c ∗ ownBufs (S d (coreOf c))) ⊢ |={Set.univ}=> iprop(
      (bigSep Finset.univ fun i : Fin 16 => goP (F := F) d (coordsV c i) VW VL (qT c i))
      ∗ ((bigSep Finset.univ fun i : Fin 16 => iprop(tdP (F := F) d (coordsV c i) VW VL (qT c i) ∗ semVal (bcell d (coreOf c) ((K (F := F)).sub 0 i)) 0))
          -∗ iprop(iprop(dnP VW VL d c ∗ bars d c) ∗ ownBufs (S d (coreOf c)))))
  simp only [go_eq, td_eq]
  rw [bigSep_sep', bigSep_sep', bigSep_sep', ifzero, bigSep_sep', bigSep_sep', bigSep_sep', ifzero, ownBufs_S]
  unfold stP dnP
  iintro ⟨⟨Hw, Hl, Ho⟩, ⟨Hsh, Hrest⟩⟩; imodintro
  ihave Hw' := (Transfers.pointsTo_toks_split (qC c) 16) $$ Hw
  ihave Hl' := (Transfers.pointsTo_toks_split (qC c) 16) $$ Hl
  icases Hw' with ⟨Hwd, Hw⟩
  icases Hl' with ⟨Hld, Hl⟩
  isplitl [Hw Hl Ho Hsh]
  · isplitl [Hw]; · iexact Hw
    isplitl [Hl]; · iexact Hl
    isplitl [Ho]; · iexact Ho
    iapply (sh_rows (F := F) d (coreOf c)); iexact Hsh
  iintro ⟨⟨Hw, Hl, ⟨Ho, Hsh⟩⟩, Hbars⟩
  isplitl [Hw Hl Hwd Hld Ho Hbars]
  · isplitr [Hbars]; swap; · iexact Hbars
    isplitl [Hw Hwd]
    · iapply (Transfers.pointsTo_toks_join (qC c) 16)
      isplitl [Hwd]; · iexact Hwd
      iexact Hw
    isplitl [Hl Hld]
    · iapply (Transfers.pointsTo_toks_join (qC c) 16)
      isplitl [Hld]; · iexact Hld
      iexact Hl
    iexact Ho
  isplitl [Hsh]; · iexact Hsh
  iexact Hrest

/-! ## The launch element of the ghost state, and what the launch hands over -/

abbrev DCI : Type := Dev nD × Fin τ.nSC × Fin τ.nSub
abbrev bcell₃ (x : DCI) : GSem nD τ sig := bcell x.1 x.2.1 x.2.2

/-- The tiles of the call's grid: all of both SparseCores. -/
abbrev tiles : Finset DCI := Finset.univ
/-- Their barrier cells. -/
def bCells : Finset (GSem nD τ sig) := tiles.image bcell₃
/-- Tile `i`'s token in tile `j`'s cell, for every pair of tiles of a core. -/
def bToks : Finset (GSem nD τ sig × ℕ × ℕ) :=
  (tiles ×ˢ Finset.univ).image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeOn (· ∈ bCells) : sProp 𝕄) ⊢ bigSep bCells fun g => semVal g 0 := by
  unfold SparseCore.Cfg.freeOn bCells
  rw [SparseCore.bigSep_image_of_injOn (fun a _ b _ e => bcell₃_injective e)]
  refine sep_elim_right.trans (bigSep_mono fun dci _ => ?_)
  exact bigSep_elim (Φ := fun sm : SemLoc sig => (semVal (V dci.1 dci.2.1 dci.2.2, sm) 0 : sProp 𝕄)) (Finset.mem_filter.mpr
      ⟨Finset.mem_erase.mpr ⟨fun h => sc_bar0_ne_go (SemLoc.reg.inj h), Finset.mem_filter.mpr ⟨Finset.mem_univ _, by decide⟩⟩,
        Finset.mem_image_of_mem bcell₃ (Finset.mem_univ dci)⟩)

/-- The barrier cells' invariants, allocated at once. -/
theorem invs_b : iprop((bigSep bCells fun g => (semVal g 0 : sProp 𝕄)) ∗ bigSep bCells fun g => roundState EB (bRd (F := F) VW VL) g 0)
    ⊢ |={Set.univ}=> iprop(∃ κ : GSem nD τ sig → ℕ, bigSep bCells fun g => cellInv EB (bRd (F := F) VW VL) (κ g) g) := by
  refine (Rounds.bodies_intro EB (bRd (F := F) VW VL) bCells).trans ((inv_alloc_family bCells (Rounds.body EB (bRd (F := F) VW VL)) ∅ (E := Set.univ)).trans ?_)
  iintro H
  imod H with ⟨%κ, -, Hinv⟩
  imodintro; iexists κ; iexact Hinv

omit [FloatOps F] in
theorem sum_tallyAt_one (g : GSem nD τ sig) (ι : HIx 1) (n : ℕ) : ∑ _ : Fin n, tallyAt g ι 1 = (tallyAt g ι n : CellTallies nD τ sig (HIx 1)) := by
  induction n with
  | zero => rw [tallyAt_zero]; exact Finset.sum_of_isEmpty _
  | succ n ih => rw [Fin.sum_univ_castSucc, ih, tallyAt_add]

/-- The credit for the tasks' own debts, regrouped: each tile the sixteen units of its own cell. -/
theorem creds_b : ((P (F := F) VW VL).oxCred : sProp 𝕄) ⊢ bigSep tiles fun dci : DCI => cred (tallyAt (bcell₃ dci) (some 0) (grid0.bound 1)) := by
  unfold SparseCore.Cfg.Pay.oxCred
  rw [SparseCore.Cfg.bigSep_threads (fun thr : Thread nD τ => (cred ((P (F := F) VW VL).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) VW VL).oxFrom 0 (V d c i) = oxV d c := fun i => by
    rw [show (0 : ℕ) = (0 : Fin 1).val from rfl, (P VW VL).oxFrom_step, (P VW VL).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp (MT nD τ sig (HIx 1) (Elt F) ℕ UU ℕ)} [BI.Persistent R] {s : Finset I}
    {Φ Ψ : I → sProp (MT nD τ sig (HIx 1) (Elt F) ℕ UU ℕ)}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep tiles fun dci : DCI => bigSep Finset.univ fun j : Fin (grid0.bound 1) => dutyTok EB (bcell dci.1 dci.2.1 (j.castLE hsub0)) 0 dci.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) VW VL).x q (SparseCore.T d)) = iprop(emp) :=
  bigSep_univ_of_subsingleton (0 : Fin 1)
theorem Px_S (d : Dev nD) (c : Fin τ.nSC) : (bigSep Finset.univ fun q : Fin 1 => (P (F := F) VW VL).x q (S d c)) = iprop(emp) :=
  bigSep_univ_of_subsingleton (0 : Fin 1)
theorem Px_V (d : Dev nD) (c : Fin τ.nSC) (i : Fin τ.nSub) :
    (bigSep Finset.univ fun q : Fin 1 => (P (F := F) VW VL).x q (V d c i)) = bkit VW VL d c i :=
  bigSep_univ_of_subsingleton (0 : Fin 1)

omit [FloatOps F] in
theorem bCells_eq (Φ : GSem nD τ sig → sProp (MT nD τ sig (HIx 1) (Elt F) ℕ UU ℕ)) : bigSep bCells Φ = bigSep tiles fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep tiles fun x : DCI => cellInv EB (bRd (F := F) VW VL) (κ (bcell₃ x)) (bcell₃ x))
    ∗ bigSep tiles fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) VW VL ∗ mine dci) ⊢ (bkit (F := F) VW VL dci.1 dci.2.1 dci.2.2 : sProp 𝕄) := by
  obtain ⟨d, c, i⟩ := dci
  iintro ⟨⟨#Hinv, #Hr⟩, Hat, Htok, Hcred⟩
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep tiles fun x : DCI => cellInv EB (bRd (F := F) VW VL) (κ (bcell₃ x)) (bcell₃ x)) fun j _ =>
        sep_elim_left.trans (bigSep_elim (Φ := fun x : DCI => (cellInv EB (bRd (F := F) VW VL) (κ (bcell₃ x)) (bcell₃ x) : sProp 𝕄))
          (Finset.mem_univ ((d, c, Fin.castLE hsub0 j) : DCI)))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep tiles fun x : DCI => reached EB (bcell₃ x) 0) fun j _ =>
        sep_elim_left.trans (bigSep_elim (Φ := fun x : DCI => (reached EB (bcell₃ x) 0 : sProp 𝕄)) (Finset.mem_univ ((d, c, Fin.castLE hsub0 j) : DCI)))))
    isplitl; · iexact Hr
    rw [bigSep_emp']; iempintro
  isplitl [Hat]; · iexact Hat
  iexact Hcred

/-- Each tile its kit. -/
theorem kits_deal :
    iprop(shared (F := F) VW VL ∗ (bigSep tiles fun x : DCI => atPos EB (bcell₃ x) 0 ∅ 0)
        ∗ (bigSep tiles fun dci : DCI => bigSep Finset.univ fun j : Fin (grid0.bound 1) => dutyTok EB (bcell dci.1 dci.2.1 (j.castLE hsub0)) 0 dci.2.2.val)
        ∗ (bigSep tiles fun dci : DCI => cred (tallyAt (bcell₃ dci) (some 0) (grid0.bound 1))))
      ⊢ (bigSep Finset.univ fun thr : Thread nD τ => bigSep Finset.univ fun q : Fin 1 => (P (F := F) VW VL).x q thr : sProp 𝕄) := by
  rw [SparseCore.Cfg.bigSep_threads (fun thr : Thread nD τ => bigSep Finset.univ fun q : Fin 1 => (P VW VL).x q thr)]
  simp only [Px_T, Px_S, Px_V, bigSep_emp']
  iintro ⟨#Hsh, Hat, Htok, Hcred⟩
  isplitr; · iempintro
  isplitr; · iempintro
  iapply (bigSep_mono_frame (R := shared (F := F) VW VL) (Φ := mine (F := F)) fun dci _ => kit_intro (F := F) VW VL dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) VW VL).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P VW VL).x q thr) : sProp 𝕄) := by
  unfold u₀
  iintro ⟨Hu, Hcred, Hfree⟩
  ihave H := (ownU_split _ _) $$ Hu
  icases H with ⟨HH, HB⟩
  imod (Rounds.fund EB (bRd (F := F) VW VL) bCells bToks) $$ HB with ⟨Hst, #Hr, Hat, Htok⟩
  ihave Hsems := (sems_b (F := F)) $$ Hfree
  imod (invs_b (F := F) VW VL) $$ [Hsems Hst] with ⟨%κ, #Hinv⟩
  · isplitl [Hsems] <;> iassumption
  ihave Hcred' := (creds_b VW VL) $$ Hcred
  ihave Hinv' := (Entails.of_eq (bCells_eq (F := F) fun g => cellInv EB (bRd (F := F) VW VL) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal VW VL)
  isplitr
  · isplitl; · iexists κ; iexact Hinv'
    iexact Hr'
  isplitl [Hat']; · iexact Hat'
  isplitl [Htok']; · iexact Htok'
  iexact Hcred'

/-! ## The program's own operations, and the call -/

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev cst' : DevRef τ sig := Proc.devRef .tc (main_cst : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev opCst : HloOp τ sig (Elt F) := StableHlo.nullary main_cst (constant S_ .f32 0x00000000#32)
abbrev opBc : HloOp τ sig (Elt F) := StableHlo.unary main_cst main_v0 (broadcastInDim S16x1 ![] bcast_S_S16x1)
abbrev opCat : HloOp τ sig (Elt F) := StableHlo.binary main_arg0 main_v0 main_v1
  (fun a b => concatenate S16x4096 1 [⟨S16x4095, a⟩, ⟨S16x1, b⟩] concatenates_S16x4095_S16x1_S16x4096_d1)
abbrev opSl : HloOp τ sig (Elt F) := StableHlo.unary main_arg1 main_v2 (extractStridedSlice S16x4096 ![0, 0] · slices_S16x8191_S16x4096_0_0)

/-- The two arrays the rows read, from the arguments: each row's first 4096 words, and its 4095 sizes with a zero behind. -/
def VW0 (d : Dev nD) : Buf (Elt F) (wLoc d) := extractStridedSlice S16x4096 ![0, 0] (m ((SparseCore.T d).loc main_arg1)) slices_S16x8191_S16x4096_0_0
def VL0 (d : Dev nD) : Buf (Elt F) (lLoc d) :=
  concatenate S16x4096 1 [⟨S16x4095, m ((SparseCore.T d).loc main_arg0)⟩,
    ⟨S16x1, broadcastInDim S16x1 ![] bcast_S_S16x1 (constant (F := F) S_ .f32 0x00000000#32)⟩] concatenates_S16x4095_S16x1_S16x4096_d1

/-- The TensorCore's arrays, none scoped. -/
abbrev S8 : Finset (DevRef τ sig) := {a0', a1', a2', cst', v0', v1', v2', v3'}

omit [FloatOps F] in
theorem held_S8 (d : Dev nD) (W : Valuation τ sig (Elt F)) :
    (held (T d) S8 W : sProp 𝕄)
      = iprop(((SparseCore.T d).loc main_arg0 ↦{fullShare} W a0') ∗ ((SparseCore.T d).loc main_arg1 ↦{fullShare} W a1') ∗ ((SparseCore.T d).loc main_arg2 ↦{fullShare} W a2')
          ∗ ((SparseCore.T d).loc main_cst ↦{fullShare} W cst') ∗ ((SparseCore.T d).loc main_v0 ↦{fullShare} W v0')
          ∗ (lLoc d ↦{fullShare} W v1') ∗ (wLoc d ↦{fullShare} W v2') ∗ oLoc d ↦{fullShare} W v3') := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1) ∗ ((SparseCore.T d).loc main_arg2 ↦{fullShare} W main_arg2)
          ∗ ((SparseCore.T d).loc main_cst ↦{fullShare} W main_cst) ∗ ((SparseCore.T d).loc main_v0 ↦{fullShare} W main_v0)
          ∗ (lLoc d ↦{fullShare} W main_v1) ∗ (wLoc d ↦{fullShare} W main_v2) ∗ oLoc d ↦{fullShare} W main_v3) := by
  unfold unscopedBufs
  rw [show (Finset.univ.filter fun b : Ref sig .tc => ¬ b.isScoped) = {main_arg0, main_arg1, main_arg2, main_cst, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays' contents at the launch, and after each of the four operations. -/
def V0 (d : Dev nD) : Valuation τ sig (Elt F) := fun b => m (d, b)
def V1 (d : Dev nD) : Valuation τ sig (Elt F) := (opCst (F := F)).result (V0 m d)
def V2 (d : Dev nD) : Valuation τ sig (Elt F) := (opBc (F := F)).result (V1 m d)
def V3 (d : Dev nD) : Valuation τ sig (Elt F) := (opCat (F := F)).result (V2 m d)
def V4 (d : Dev nD) : Valuation τ sig (Elt F) := (opSl (F := F)).result (V3 m d)

theorem unscoped_held (d : Dev nD) : (unscopedBufs d (fun b => m ((SparseCore.T d).loc b)) : sProp 𝕄) = held (T d) S8 (V0 m d) := by
  rw [unscopedBufs_eq, held_S8]; rfl

theorem V1_of (d : Dev nD) (b : DevRef τ sig) (h : b ∉ ({cst'} : Finset (DevRef τ sig))) : V1 m d b = m (d, b) :=
  (opCst (F := F)).result_of_not_mem _ h
theorem V2_of (d : Dev nD) (b : DevRef τ sig) (h : b ∉ ({cst', v0'} : Finset (DevRef τ sig))) : V2 m d b = m (d, b) :=
  ((opBc (F := F)).result_of_not_mem _ (b := b) (show b ∉ ({v0'} : Finset (DevRef τ sig)) by simp at h ⊢; exact h.2)).trans (V1_of m d b (by simp at h ⊢; exact h.1))
theorem V3_of (d : Dev nD) (b : DevRef τ sig) (h : b ∉ ({cst', v0', v1'} : Finset (DevRef τ sig))) : V3 m d b = m (d, b) :=
  ((opCat (F := F)).result_of_not_mem _ (b := b) (show b ∉ ({v1'} : Finset (DevRef τ sig)) by simp at h ⊢; exact h.2.2)).trans
    (V2_of m d b (by simp at h ⊢; exact ⟨h.1, h.2.1⟩))
theorem V4_of (d : Dev nD) (b : DevRef τ sig) (h : b ∉ ({cst', v0', v1', v2'} : Finset (DevRef τ sig))) : V4 m d b = m (d, b) :=
  ((opSl (F := F)).result_of_not_mem _ (b := b) (show b ∉ ({v2'} : Finset (DevRef τ sig)) by simp at h ⊢; exact h.2.2.2)).trans
    (V3_of m d b (by simp at h ⊢; exact ⟨h.1, h.2.1, h.2.2.1⟩))

theorem V4_w (d : Dev nD) : V4 m d v2' = VW0 m d :=
  (StableHlo.unary_result _ _ _ _ _ _).trans (congrArg (extractStridedSlice S16x4096 ![0, 0] · slices_S16x8191_S16x4096_0_0) (V3_of m d a1' (by decide)))
theorem V2_v0 (d : Dev nD) : V2 m d v0' = broadcastInDim S16x1 ![] bcast_S_S16x1 (constant (F := F) S_ .f32 0x00000000#32) :=
  (StableHlo.unary_result _ _ _ _ _ _).trans (congrArg (broadcastInDim S16x1 ![] bcast_S_S16x1)
    (StableHlo.nullary_result main_cst (constant (F := F) S_ .f32 0x00000000#32) _ (V0 m d)))
theorem V4_l (d : Dev nD) : V4 m d v1' = VL0 m d :=
  ((opSl (F := F)).result_of_not_mem _ (b := v1') (show v1' ∉ ({v2'} : Finset (DevRef τ sig)) by decide)).trans
    ((StableHlo.binary_result _ _ _ _ _ _ _ _).trans (by rw [V2_v0, V2_of m d a0' (by decide)]; rfl))

/-- The arrays before the call. -/
theorem held_V4 (d : Dev nD) :
    (held (T d) S8 ((opSl (F := F)).result ((opCat (F := F)).result ((opBc (F := F)).result ((opCst (F := F)).result (V0 m d))))) : sProp 𝕄)
      = iprop(((SparseCore.T d).loc main_arg0 ↦{fullShare} m ((SparseCore.T d).loc main_arg0)) ∗ ((SparseCore.T d).loc main_arg1 ↦{fullShare} m ((SparseCore.T d).loc main_arg1))
          ∗ ((SparseCore.T d).loc main_arg2 ↦{fullShare} m ((SparseCore.T d).loc main_arg2))
          ∗ ((SparseCore.T d).loc main_cst ↦{fullShare} V4 m d cst') ∗ ((SparseCore.T d).loc main_v0 ↦{fullShare} V4 m d v0')
          ∗ (lLoc d ↦{fullShare} VL0 m d) ∗ (wLoc d ↦{fullShare} VW0 m d) ∗ oLoc d ↦{fullShare} V4 m d v3') := by
  show held (SparseCore.T d) S8 (V4 m d) = _
  rw [held_S8, V4_w, V4_l, V4_of m d a0' (by decide), V4_of m d a1' (by decide), V4_of m d a2' (by decide)]

theorem hCst : (opCst (F := F)).bufs ⊆ S8 := show ({cst'} : Finset (DevRef τ sig)) ⊆ S8 by decide
theorem hBc : (opBc (F := F)).bufs ⊆ S8 := show ({cst', v0'} : Finset (DevRef τ sig)) ⊆ S8 by decide
theorem hCat : (opCat (F := F)).bufs ⊆ S8 := show ({a0', v0', v1'} : Finset (DevRef τ sig)) ⊆ S8 by decide
theorem hSl : (opSl (F := F)).bufs ⊆ S8 := show ({a1', v2'} : Finset (DevRef τ sig)) ⊆ S8 by decide

theorem st_intro (d : Dev nD) (f : Buf (Elt F) (oLoc d)) : iprop((wLoc d ↦{fullShare} VW d) ∗ (lLoc d ↦{fullShare} VL d) ∗ oLoc d ↦{fullShare} f)
    ⊢ (bigSep Finset.univ fun c : Fin ((K (F := F)).nCore 0) => (P VW VL).st 0 d c : sProp 𝕄) := by
  show _ ⊢ (bigSep Finset.univ fun c : Fin 2 => stP VW VL d c : sProp 𝕄)
  unfold stP
  rw [bigSep_sep', bigSep_sep']
  iintro ⟨Hw, Hl, Ho⟩
  ihave Hw' := (Transfers.pointsTo_toks_split fullShare 2) $$ Hw
  ihave Hl' := (Transfers.pointsTo_toks_split fullShare 2) $$ Hl
  icases Hw' with ⟨-, Hw⟩
  icases Hl' with ⟨-, Hl⟩
  isplitl [Hw]; · iexact Hw
  isplitl [Hl]; · iexact Hl
  ihave H' := (Entails.of_eq (oPts_halves (F := F) d f)) $$ Ho
  iapply (SparseCore.ent (bigSep_mono (Φ := fun c : Fin 2 => iprop(oLoc d ↦[hSet c]{fullShare} f)) (Ψ := fun c : Fin 2 => iprop(∃ f, oLoc d ↦[hSet c]{fullShare} f))
    fun i _ => BI.BIClass.exists_intro (Φ := fun f => iprop(oLoc d ↦[hSet i]{fullShare} f)) f)) $$ H'

/-- The barrier cells of both cores at zero. -/
abbrev bars2 (d : Dev nD) : sProp 𝕄 := bigSep Finset.univ fun c : Fin ((K (F := F)).nCore 0) => bars d c

theorem dn_elim (d : Dev nD) : (bigSep Finset.univ fun c : Fin ((K (F := F)).nCore 0) => (P VW VL).dn 0 d c : sProp 𝕄)
    ⊢ iprop((oLoc d ↦{fullShare} OUT VW VL d) ∗ bars2 (F := F) d) := by
  show (bigSep Finset.univ fun c : Fin 2 => iprop(dnP VW VL d c ∗ bars (F := F) d c) : sProp 𝕄) ⊢ _
  unfold dnP
  rw [bigSep_sep', bigSep_sep', bigSep_sep']
  iintro ⟨⟨-, -, Ho⟩, Hb⟩
  isplitl [Ho]
  · iapply (Entails.of_eq (oPts_halves (F := F) d (OUT VW VL d)).symm); iexact Ho
  iexact Hb

/-- What @main leaves the claims: the arguments at their launch contents, the results, the barrier cells at zero. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ (oLoc d ↦{fullShare} OUT (VW0 m) (VL0 m) d) ∗ bars2 (F := F) d)

theorem hmain (κ : GSem nD τ sig → ℕ) (d : Dev nD) :
    iprop((K (F := F)).ctx EH (P (VW0 m) (VL0 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opCst) (S := S8) hCst (V := V0 m d)) $$ [Hb Hheld]
  · isplitl [Hb] <;> iassumption
  iintro ⟨Hb, Hheld⟩
  rw [wp_ret]; imodintro
  iapply (wp_hlo_within 𝒱 (SparseCore.T d) none Set.univ (op := opBc) (S := S8) hBc (V := (opCst (F := F)).result (V0 m d))) $$ [Hb Hheld]
  · isplitl [Hb] <;> iassumption
  iintro ⟨Hb, Hheld⟩
  rw [wp_ret]; imodintro
  iapply (wp_hlo_within 𝒱 (SparseCore.T d) none Set.univ (op := opCat) (S := S8) hCat (V := (opBc (F := F)).result ((opCst (F := F)).result (V0 m d)))) $$ [Hb Hheld]
  · isplitl [Hb] <;> iassumption
  iintro ⟨Hb, Hheld⟩
  rw [wp_ret]; imodintro
  iapply (wp_hlo_within 𝒱 (SparseCore.T d) none Set.univ (op := opSl) (S := S8) hSl
    (V := (opCat (F := F)).result ((opBc (F := F)).result ((opCst (F := F)).result (V0 m d))))) $$ [Hb Hheld]
  · isplitl [Hb] <;> iassumption
  iintro ⟨Hb, Hheld⟩
  rw [wp_ret]; imodintro
  ihave Hh := (Entails.of_eq (held_V4 (F := F) m d)) $$ Hheld
  icases Hh with ⟨H0, H1, H2, -, -, Hl, Hw, Ho⟩
  iapply ((K (F := F)).wp_run (D (F := F)) 𝒱 (EH := EH) (P := P (VW0 m) (VL0 m)) κ d 0) $$ [Hst Hw Hl Ho Hb H0 H1 H2 Hts]
  isplitr; · iexact Hctx
  isplitl [Hst]; · iexact Hst
  isplitl [Hw Hl Ho]
  · iapply (st_intro (F := F) (VW0 m) (VL0 m) d (V4 m d v3'))
    isplitl [Hw]; · iexact Hw
    isplitl [Hl]; · iexact Hl
    iexact Ho
  iintro ⟨Hst, Hdn⟩
  ihave Hdn' := (dn_elim (F := F) (VW0 m) (VL0 m) d) $$ Hdn
  icases Hdn' with ⟨Ho, Hbars⟩
  imodintro
  isplitl [Hst]; · iexact Hst
  isplitr [Hb Hts]
  · isplitl [H0]; · iexact H0
    isplitl [H1]; · iexact H1
    isplitl [H2]; · iexact H2
    isplitl [Ho]; · iexact Ho
    iexact Hbars
  isplitl [Hb] <;> iassumption

/-- What the claims read of device `d`'s final state. -/
def fq (d : Dev nD) (s' : Phys nD τ sig (Elt F)) : Prop :=
  (s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem (oLoc d) = OUT (VW0 m) (VL0 m) d)
  ∧ ∀ (c : Fin ((K (F := F)).nCore 0)) (i : Fin ((K (F := F)).nSub 0)), s'.mem.sem (bcell d (coreOf (F := F) c) ((K (F := F)).sub 0 i)) = 0

theorem read_whole (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx => ⟨⟨((sep_mono_left sep_elim_left).trans (read_whole s' _ _)) x hx,
      ((sep_mono_left (sep_elim_right.trans sep_elim_left)).trans (read_whole s' _ _)) x hx,
      ((sep_mono_left (sep_elim_right.trans (sep_elim_right.trans sep_elim_left))).trans (read_whole s' _ _)) x hx,
      ((sep_mono_left (sep_elim_right.trans (sep_elim_right.trans (sep_elim_right.trans sep_elim_left)))).trans (read_whole s' _ _)) x hx⟩,
    fun c i => ((sep_mono_left (sep_elim_right.trans (sep_elim_right.trans (sep_elim_right.trans (sep_elim_right.trans
      ((SparseCore.ent (bigSep_elim (Finset.mem_univ c))).trans (SparseCore.ent (bigSep_elim (Finset.mem_univ i))))))))).trans
        (SparseCore.Cfg.semVal_zero_read _ s')) x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, hx, rfl⟩ := Finset.mem_image.mp hg
  exact (h d).2 ⟨c.val, c.isLt⟩ ⟨i.val, i.isLt⟩

/-! ## The program's run -/

def QC : PUnit × MemSt nD τ sig (Elt F) → Prop := fun r =>
  (∀ d : Dev nD, (r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem (oLoc d) = OUT (VW0 m) (VL0 m) d)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (VW0 m) (VL0 m)) (hA := hA m) facts v₀
    (fun q hq => match q with | 0 => nomatch hq)
    (fun q _ => match q with | 0 => tileObl (VW0 m) (VL0 m) facts)
    (fun q _ => match q with | 0 => vecSplit (VW0 m) (VL0 m))
    m ρ main (fun _ => iprop(emp)) (FIN m) (u₀ (F := F)) (hu₀ (VW0 m) (VL0 m)) (hmain m ρ) (fq m) (hfin m) (QC m) (fun _ h hz => ⟨fun c => (h c).1, hz⟩)

end Cert.Proof.Launch

end
-- ==== Proof.Frames.lean ====
/-
  The frame claims: the kernel's from its run (Launch.lean), read at either reading of its floats; the reference's from
  its operations' run.
-/
module

public import proofs.«01_k».proof.Proof.Launch
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof.Frames

open Idealize.ShloMosaic Idealize.SL.Sem

theorem frame_kernel : Cert.quiescent_Kernel (hKernel := Cert.Kernel.Gen.facts) := fun m ρ _ =>
  (θ_run Cert.KernelIdeal.defs _ _).mono (fun _ h => ⟨fun c => ⟨(h.1 c).1, (h.1 c).2.1, (h.1 c).2.2.1⟩, h.2⟩) (Launch.run_main (F := Bits) m ρ)

theorem frame_kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩) (Launch.run_main (F := Ideal) m ρ)

theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Frames

end
-- ==== Proof.Stages.lean ====
/-
  The reference's stages: its result, named piece by piece, and what its reordering, its gathers and its running sums hold
  at an index.
-/
module

public import proofs.«01_k».proof.Proof.Gen.ReferenceIdeal.Run
public import Idealize.ShloMosaic.Lib.IdealHost
public import Idealize.ShloMosaic.Lib.ValueIdx
public import Idealize.ShloMosaic.Lib.ValueLayout
public import Idealize.ShloMosaic.PureOps.Ideal.Laws

@[expose] public section

noncomputable section

namespace Cert.Proof.Stages

open Cert.ReferenceIdeal Cert.ReferenceIdeal.Gen
open Idealize.ShloMosaic Idealize.ShloMosaic.TcCoe Idealize.ShloMosaic.ValueIdx
open scoped BigOperators

/-! ## The stages -/

/-- The heights, read from their float words. -/
def heights (w : IVec S16x8191 32) : FVec Ideal S16x8191 .f32 := bitcastToFloat (F := Ideal) .f32 w

/-- For each place of a row in descending order of height, which entry stands there. -/
def order (w : IVec S16x8191 32) : IVec S16x8191 32 :=
  (Host.sort2 S16x8191 1 comparator_f32_i32_d1 (Host.negf (heights w)) (iotaInDim S16x8191 32 1)).2

/-- The start indices of a reordering: a negative one counts from the row's end. -/
def starts (i : IVec S16x8191 32) : IVec S16x8191x1 32 :=
  shapeCast _ (select (cmpi .slt i (broadcastInDim S16x8191 ![] bcast_S_S16x8191 (constantI S_ 32 0#32)))
    (addi i (broadcastInDim S16x8191 ![] bcast_S_S16x8191 (constantI S_ 32 8191#32))) i) shapeCasts_S16x8191_S16x8191x1

/-- A row reordered by indices, an index outside the row reading a fixed value. -/
def taken (x : FVec Ideal S16x8191 .f32) (i : IVec S16x8191 32) : FVec Ideal S16x8191 .f32 :=
  select (Host.reduce IntOp.andi (andi (cmpi .sge (starts i) (broadcastInDim S16x8191x1 ![] bcast_S_S16x8191x1 (constantI S_ 32 0#32)))
      (cmpi .sle (starts i) (broadcastInDim S16x8191x1 ![0, 1, 2] bcast_S1x1x1_S16x8191x1_0_1_2
        (broadcastInDim S1x1x1 ![2] bcast_S1_S1x1x1_2 (constantI S1 32 8190#32))))) (constantI S_ 1 1#1)
      reducesTo_S16x8191x1_S16x8191_d2 h_S_)
    (Host.gather gather_S16x8191_S16x8191x1_S16x8191_n_1_0_0_1_2_11 x (starts i))
    (broadcastInDim S16x8191 ![] bcast_S_S16x8191 (constant S_ .f32 0x7FC00000#32))

/-- The start indices into the log populations. -/
def starts' (i : IVec S16x8190 32) : IVec S16x8190x1 32 :=
  shapeCast _ (select (cmpi .slt i (broadcastInDim S16x8190 ![] bcast_S_S16x8190 (constantI S_ 32 0#32)))
    (addi i (broadcastInDim S16x8190 ![] bcast_S_S16x8190 (constantI S_ 32 4095#32))) i) shapeCasts_S16x8190_S16x8190x1

/-- The log populations read at indices, an index outside the row reading a fixed value. -/
def taken' (x : FVec Ideal S16x4095 .f32) (i : IVec S16x8190 32) : FVec Ideal S16x8190 .f32 :=
  select (Host.reduce IntOp.andi (andi (cmpi .sge (starts' i) (broadcastInDim S16x8190x1 ![] bcast_S_S16x8190x1 (constantI S_ 32 0#32)))
      (cmpi .sle (starts' i) (broadcastInDim S16x8190x1 ![0, 1, 2] bcast_S1x1x1_S16x8190x1_0_1_2
        (broadcastInDim S1x1x1 ![2] bcast_S1_S1x1x1_2 (constantI S1 32 4094#32))))) (constantI S_ 1 1#1)
      reducesTo_S16x8190x1_S16x8190_d2 h_S_)
    (Host.gather gather_S16x4095_S16x8190x1_S16x8190_n_1_0_0_1_2_11 x (starts' i))
    (broadcastInDim S16x8190 ![] bcast_S_S16x8190 (constant S_ .f32 0x7FC00000#32))

/-- One float in every place. -/
def every (b : BitVec 32) : FVec Ideal S16x8190 .f32 := broadcastInDim S16x8190 ![] bcast_S_S16x8190 (constant S_ .f32 b)

/-- All but the last entry. -/
def front (x : FVec Ideal S16x8191 .f32) : FVec Ideal S16x8190 .f32 :=
  extractStridedSlice S16x8190 ![0, 0] x slices_S16x8191_S16x8190_0_0

/-- All but the first entry. -/
def back (x : FVec Ideal S16x8191 .f32) : FVec Ideal S16x8190 .f32 :=
  extractStridedSlice S16x8190 ![0, 1] x slices_S16x8191_S16x8190_0_1

/-- Running sums along a row. -/
def running (x : FVec Ideal S16x8190 .f32) : FVec Ideal S16x8190 .f32 :=
  Host.reduceWindowAdd ![1, 8190] ![1, 1] ![0, 8189] ![0, 0] x (broadcastInDim S_ ![] bcast_S_S_ (constant S_ .f32 0x00000000#32))
    reduceWindows_S16x8190_S16x8190_w1s1p0_0_w8190s1p8189_0 h_S_

/-- Running counts along a row. -/
def runningI (x : IVec S16x8190 32) : IVec S16x8190 32 :=
  Host.reduceWindow IntOp.addi ![1, 8190] ![1, 1] ![0, 8189] ![0, 0] x (broadcastInDim S_ ![] bcast_S_S_ (constantI S_ 32 0#32))
    reduceWindows_S16x8190_S16x8190_w1s1p0_0_w8190s1p8189_0 h_S_

/-- Where the events `e` are coalescences. -/
def isCoal (e : FVec Ideal S16x8190 .f32) : IVec S16x8190 1 := cmpf .oeq e (every 0x3F800000#32)

/-- One more than the running sum: the lineages. -/
def lineages (e : FVec Ideal S16x8190 .f32) : FVec Ideal S16x8190 .f32 := addf (every 0x3F800000#32) (running e)

/-- Pairs of lineages. -/
def pairs (e : FVec Ideal S16x8190 .f32) : FVec Ideal S16x8190 .f32 :=
  Host.divf (mulf (lineages e) (subf (lineages e) (every 0x3F800000#32))) (every 0x40000000#32)

/-- Which log population each interval has. -/
def which (e : FVec Ideal S16x8190 .f32) : IVec S16x8190 32 :=
  subi (runningI (extui 32 (isCoal e) natLt_1_32)) (broadcastInDim S16x8190 ![] bcast_S_S16x8190 (constantI S_ 32 1#32))

/-- A row's sum. -/
def total (x : FVec Ideal S16x8190 .f32) : FVec Ideal S16 .f32 :=
  Host.reduceAdd x (constant S_ .f32 0x00000000#32) reducesTo_S16x8190_S16_d1 h_S_

/-- Steps between neighbouring log populations. -/
def steps (lp : FVec Ideal S16x4095 .f32) : FVec Ideal S16x4094 .f32 :=
  subf (extractStridedSlice S16x4094 ![0, 1] lp slices_S16x4095_S16x4094_0_1)
    (extractStridedSlice S16x4094 ![0, 0] lp slices_S16x4095_S16x4094_0_0)

/-- The sum of the squared steps. -/
def rough (lp : FVec Ideal S16x4095 .f32) : FVec Ideal S16 .f32 :=
  Host.reduceAdd (mulf (steps lp) (steps lp)) (constant S_ .f32 0x00000000#32) reducesTo_S16x4094_S16_d1 h_S_

/-- One float in every row. -/
def eachRow (b : BitVec 32) : FVec Ideal S16 .f32 := broadcastInDim S16 ![] bcast_S_S16 (constant S_ .f32 b)

/-- The log density from the ordered heights `h`, the ordered events `e`, the log populations `p` of the intervals, and the
    log populations `lp`. -/
def density (h : FVec Ideal S16x8191 .f32) (e : FVec Ideal S16x8190 .f32) (p : FVec Ideal S16x8190 .f32) (lp : FVec Ideal S16x4095 .f32) :
    FVec Ideal S16 .f32 :=
  addf (subf (total (select (isCoal e) (Host.negf p) (broadcastInDim S16x8190 ![] bcast_S_S16x8190 (id (constant S_ .f32 0x00000000#32)))))
      (total (mulf (mulf (Host.exp (Host.negf p)) (subf (front h) (back h))) (pairs e))))
    (subf (eachRow 0x4618EEA5#32) (mulf (eachRow 0x44FFE008#32) (Host.log (addf (eachRow 0x3A83126F#32) (mulf (eachRow 0x3F000000#32) (rough lp))))))

/-- The reference's result of its three arguments. -/
def result (lp : FVec Ideal S16x4095 .f32) (w : IVec S16x8191 32) (ev : FVec Ideal S16x8191 .f32) : FVec Ideal S16 .f32 :=
  density (taken (heights w) (order w)) (front (taken ev (order w))) (taken' lp (which (front (taken ev (order w))))) lp

set_option maxRecDepth 8192 in
theorem res_eq (m : (ℓ : Loc nD τ sig) → Buf (Elt Ideal) ℓ) (c : Dev nD) :
    Cert.ReferenceIdeal.Value.res_main_v47 m c = result (m ((c.tc : Thread nD τ).loc main_arg0)) (m ((c.tc : Thread nD τ).loc main_arg1))
      (m ((c.tc : Thread nD τ).loc main_arg2)) := by
  unfold Cert.ReferenceIdeal.Value.res_main_v47
  rfl

end Cert.Proof.Stages

end
-- ==== Proof.Reads.lean ====
/-
  What the reference's gathers and running sums hold at an index: a row read at the entry an index word names, and the sum
  of a row's entries up to a place.
-/
module

public import proofs.«01_k».proof.Proof.Stages
public import Idealize.ShloMosaic.Lib.Routing.Ops
public import Idealize.ShloMosaic.Lib.ReduceAll
public import Idealize.ShloMosaic.Lib.SortFacts

@[expose] public section

noncomputable section

namespace Cert.Proof.Reads

open Cert.ReferenceIdeal Cert.ReferenceIdeal.Gen Cert.Proof.Stages
open Idealize.ShloMosaic Idealize.ShloMosaic.TcCoe Idealize.ShloMosaic.ValueIdx
open scoped BigOperators

/-! ## Index words -/

theorem word_toInt {k : ℕ} (h : k < 8191) : (BitVec.ofNat 32 k).toInt = (k : ℤ) := by
  rw [BitVec.toInt_eq_toNat_cond, BitVec.toNat_ofNat, Nat.mod_eq_of_lt (by omega), if_pos (by omega)]

theorem word_slt {k : ℕ} (h : k < 8191) : IntOp.cmpi .slt (BitVec.ofNat 32 k) 0#32 = 0#1 := by
  have : (BitVec.ofNat 32 k).slt 0#32 = false := by
    rw [BitVec.slt, word_toInt h]; simp
  show BitVec.ofBool ((BitVec.ofNat 32 k).slt 0#32) = 0#1
  rw [this]; rfl

theorem word_sge {k : ℕ} (h : k < 8191) : IntOp.cmpi .sge (BitVec.ofNat 32 k) 0#32 = 1#1 := by
  have : (0#32 : BitVec 32).sle (BitVec.ofNat 32 k) = true := by
    rw [BitVec.sle, word_toInt h]; simp
  show BitVec.ofBool ((0#32 : BitVec 32).sle (BitVec.ofNat 32 k)) = 1#1
  rw [this]; rfl

theorem word_sle {k M : ℕ} (h : k ≤ M) (hM : M < 8191) : IntOp.cmpi .sle (BitVec.ofNat 32 k) (BitVec.ofNat 32 M) = 1#1 := by
  have : (BitVec.ofNat 32 k).sle (BitVec.ofNat 32 M) = true := by
    rw [BitVec.sle, word_toInt (by omega), word_toInt hM]; simp [h]
  show BitVec.ofBool ((BitVec.ofNat 32 k).sle (BitVec.ofNat 32 M)) = 1#1
  rw [this]; rfl

/-! ## Reads through the gathers -/

theorem starts_apply (i : IVec S16x8191 32) (K : Fin 16 → Fin 8191 → Fin 8191)
    (hi : ∀ r n, i (ix2 r n) = BitVec.ofNat 32 (K r n).val) (q : S16x8191x1.Idx) :
    starts i q = BitVec.ofNat 32 (K (q 0) (q 1)).val := by
  have key : ∀ (r : Fin 16) (n : Fin 8191), Scalar.select (IntOp.cmpi .slt (i (ix2 r n)) 0#32)
      (addi i (broadcastInDim S16x8191 ![] bcast_S_S16x8191 (constantI S_ 32 8191#32)) (ix2 r n)) (i (ix2 r n))
        = BitVec.ofNat 32 (K r n).val := fun r n => by
    have h := (K r n).isLt
    rw [hi, word_slt (by omega)]
    rfl
  unfold starts
  refine (shapeCast_apply _ _ q (ix2 (q 0) (q 1)) ?_).trans (key (q 0) (q 1))
  rw [Shape.rowMajor_val_three]
  refine (Shape.rowMajor_val_two _).trans ?_
  have h2 : (q 2).val < 1 := (q 2).isLt
  show (q 0).val * 8191 + (q 1).val = ((q 0).val * 8191 + (q 1).val) * 1 + (q 2).val
  omega

theorem gather_row (x : IVec S16x8191x1 32) (r : Fin 16) (n : Fin 8191) :
    (gather_S16x8191_S16x8191x1_S16x8191_n_1_0_0_1_2_11.batchCoord (ix2 r n) 0 = r.val
      ∧ gather_S16x8191_S16x8191x1_S16x8191_n_1_0_0_1_2_11.start (ix2 r n) x 0 = 0)
    ∧ gather_S16x8191_S16x8191x1_S16x8191_n_1_0_0_1_2_11.start (ix2 r n) x 1
      = min (x (ix3 r n 0)).toInt.toNat 8190 := by
  refine ⟨⟨?_, ?_⟩, ?_⟩
  · unfold GatherDims.batchCoord
    rw [dif_pos (by decide)]
    rfl
  · unfold GatherDims.start
    rw [dif_neg (by decide)]
  · unfold GatherDims.start
    rw [dif_pos (by decide)]
    refine congrArg (fun j => min (x j).toInt.toNat 8190) (funext fun a => ?_)
    unfold GatherDims.siIdx
    match a with
    | ⟨0, _⟩ => exact (dif_neg (show ¬ (0 : ℕ) = 2 by decide)).trans rfl
    | ⟨1, _⟩ => exact (dif_neg (show ¬ (1 : ℕ) = 2 by decide)).trans rfl
    | ⟨2, _⟩ => exact (dif_pos (show (2 : ℕ) = 2 from rfl)).trans rfl

theorem gather_apply (x : FVec Ideal S16x8191 .f32) (y : IVec S16x8191x1 32) (r : Fin 16) (n : Fin 8191) (k : Fin 8191)
    (hy : y (ix3 r n 0) = BitVec.ofNat 32 k.val) :
    Host.gather gather_S16x8191_S16x8191x1_S16x8191_n_1_0_0_1_2_11 x y (ix2 r n) = x (ix2 r k) := by
  have h := k.isLt
  obtain ⟨⟨hb, hs⟩, hc⟩ := gather_row y r n
  unfold Host.gather
  refine congrArg x (funext fun a => Fin.ext ?_)
  match a with
  | ⟨0, _⟩ =>
    show gather_S16x8191_S16x8191x1_S16x8191_n_1_0_0_1_2_11.start (ix2 r n) y 0
      + gather_S16x8191_S16x8191x1_S16x8191_n_1_0_0_1_2_11.batchCoord (ix2 r n) 0
      + gather_S16x8191_S16x8191x1_S16x8191_n_1_0_0_1_2_11.offCoord (ix2 r n) 0 = r.val
    rw [hb, hs, GatherDims.offCoord_eq_zero _ _ _ (by decide)]
    omega
  | ⟨1, _⟩ =>
    show gather_S16x8191_S16x8191x1_S16x8191_n_1_0_0_1_2_11.start (ix2 r n) y 1
      + gather_S16x8191_S16x8191x1_S16x8191_n_1_0_0_1_2_11.batchCoord (ix2 r n) 1
      + gather_S16x8191_S16x8191x1_S16x8191_n_1_0_0_1_2_11.offCoord (ix2 r n) 1 = k.val
    rw [hc, GatherDims.batchCoord_eq_zero _ _ _ (by decide), GatherDims.offCoord_eq_zero _ _ _ (by decide), hy,
      word_toInt (by omega)]
    show min k.val 8190 + 0 + 0 = k.val
    omega

theorem taken_apply (x : FVec Ideal S16x8191 .f32) (i : IVec S16x8191 32) (K : Fin 16 → Fin 8191 → Fin 8191)
    (hi : ∀ r n, i (ix2 r n) = BitVec.ofNat 32 (K r n).val) (r : Fin 16) (n : Fin 8191) :
    taken x i (ix2 r n) = x (ix2 r (K r n)) := by
  have hm : Host.reduce IntOp.andi (andi (cmpi .sge (starts i) (broadcastInDim S16x8191x1 ![] bcast_S_S16x8191x1 (constantI S_ 32 0#32)))
      (cmpi .sle (starts i) (broadcastInDim S16x8191x1 ![0, 1, 2] bcast_S1x1x1_S16x8191x1_0_1_2
        (broadcastInDim S1x1x1 ![2] bcast_S1_S1x1x1_2 (constantI S1 32 8190#32))))) (constantI S_ 1 1#1)
      reducesTo_S16x8191x1_S16x8191_d2 h_S_ (ix2 r n) = 1#1 := by
    refine Host.reduce_andi_one _ _ _ _ _ rfl fun q => ?_
    show IntOp.andi (IntOp.cmpi .sge (starts i q) 0#32) (IntOp.cmpi .sle (starts i q) 8190#32) = 1#1
    have h := (K (q 0) (q 1)).isLt
    rw [starts_apply i K hi, word_sge (by omega), word_sle (M := 8190) (by omega) (by omega)]
    rfl
  have hg := gather_apply x (starts i) r n (K r n) (starts_apply i K hi _)
  unfold taken
  exact (congrArg₂ (fun c v => Scalar.select c v _) hm hg).trans rfl

theorem starts'_apply (i : IVec S16x8190 32) (K : Fin 16 → Fin 8190 → Fin 4095)
    (hi : ∀ r n, i (ix2 r n) = BitVec.ofNat 32 (K r n).val) (q : S16x8190x1.Idx) :
    starts' i q = BitVec.ofNat 32 (K (q 0) (q 1)).val := by
  have key : ∀ (r : Fin 16) (n : Fin 8190), Scalar.select (IntOp.cmpi .slt (i (ix2 r n)) 0#32)
      (addi i (broadcastInDim S16x8190 ![] bcast_S_S16x8190 (constantI S_ 32 4095#32)) (ix2 r n)) (i (ix2 r n))
        = BitVec.ofNat 32 (K r n).val := fun r n => by
    have h := (K r n).isLt
    rw [hi, word_slt (by omega)]
    rfl
  unfold starts'
  refine (shapeCast_apply _ _ q (ix2 (q 0) (q 1)) ?_).trans (key (q 0) (q 1))
  rw [Shape.rowMajor_val_three]
  refine (Shape.rowMajor_val_two _).trans ?_
  have h2 : (q 2).val < 1 := (q 2).isLt
  show (q 0).val * 8190 + (q 1).val = ((q 0).val * 8190 + (q 1).val) * 1 + (q 2).val
  omega

theorem gather'_row (x : IVec S16x8190x1 32) (r : Fin 16) (n : Fin 8190) :
    (gather_S16x4095_S16x8190x1_S16x8190_n_1_0_0_1_2_11.batchCoord (ix2 r n) 0 = r.val
      ∧ gather_S16x4095_S16x8190x1_S16x8190_n_1_0_0_1_2_11.start (ix2 r n) x 0 = 0)
    ∧ gather_S16x4095_S16x8190x1_S16x8190_n_1_0_0_1_2_11.start (ix2 r n) x 1
      = min (x (ix3 r n 0)).toInt.toNat 4094 := by
  refine ⟨⟨?_, ?_⟩, ?_⟩
  · unfold GatherDims.batchCoord
    rw [dif_pos (by decide)]
    rfl
  · unfold GatherDims.start
    rw [dif_neg (by decide)]
  · unfold GatherDims.start
    rw [dif_pos (by decide)]
    refine congrArg (fun j => min (x j).toInt.toNat 4094) (funext fun a => ?_)
    unfold GatherDims.siIdx
    match a with
    | ⟨0, _⟩ => exact (dif_neg (show ¬ (0 : ℕ) = 2 by decide)).trans rfl
    | ⟨1, _⟩ => exact (dif_neg (show ¬ (1 : ℕ) = 2 by decide)).trans rfl
    | ⟨2, _⟩ => exact (dif_pos (show (2 : ℕ) = 2 from rfl)).trans rfl

theorem gather'_apply (x : FVec Ideal S16x4095 .f32) (y : IVec S16x8190x1 32) (r : Fin 16) (n : Fin 8190) (k : Fin 4095)
    (hy : y (ix3 r n 0) = BitVec.ofNat 32 k.val) :
    Host.gather gather_S16x4095_S16x8190x1_S16x8190_n_1_0_0_1_2_11 x y (ix2 r n) = x (ix2 r k) := by
  have h := k.isLt
  obtain ⟨⟨hb, hs⟩, hc⟩ := gather'_row y r n
  unfold Host.gather
  refine congrArg x (funext fun a => Fin.ext ?_)
  match a with
  | ⟨0, _⟩ =>
    show gather_S16x4095_S16x8190x1_S16x8190_n_1_0_0_1_2_11.start (ix2 r n) y 0
      + gather_S16x4095_S16x8190x1_S16x8190_n_1_0_0_1_2_11.batchCoord (ix2 r n) 0
      + gather_S16x4095_S16x8190x1_S16x8190_n_1_0_0_1_2_11.offCoord (ix2 r n) 0 = r.val
    rw [hb, hs, GatherDims.offCoord_eq_zero _ _ _ (by decide)]
    omega
  | ⟨1, _⟩ =>
    show gather_S16x4095_S16x8190x1_S16x8190_n_1_0_0_1_2_11.start (ix2 r n) y 1
      + gather_S16x4095_S16x8190x1_S16x8190_n_1_0_0_1_2_11.batchCoord (ix2 r n) 1
      + gather_S16x4095_S16x8190x1_S16x8190_n_1_0_0_1_2_11.offCoord (ix2 r n) 1 = k.val
    rw [hc, GatherDims.batchCoord_eq_zero _ _ _ (by decide), GatherDims.offCoord_eq_zero _ _ _ (by decide), hy,
      word_toInt (by omega)]
    show min k.val 4094 + 0 + 0 = k.val
    omega

theorem taken'_apply (x : FVec Ideal S16x4095 .f32) (i : IVec S16x8190 32) (K : Fin 16 → Fin 8190 → Fin 4095)
    (hi : ∀ r n, i (ix2 r n) = BitVec.ofNat 32 (K r n).val) (r : Fin 16) (n : Fin 8190) :
    taken' x i (ix2 r n) = x (ix2 r (K r n)) := by
  have hm : Host.reduce IntOp.andi (andi (cmpi .sge (starts' i) (broadcastInDim S16x8190x1 ![] bcast_S_S16x8190x1 (constantI S_ 32 0#32)))
      (cmpi .sle (starts' i) (broadcastInDim S16x8190x1 ![0, 1, 2] bcast_S1x1x1_S16x8190x1_0_1_2
        (broadcastInDim S1x1x1 ![2] bcast_S1_S1x1x1_2 (constantI S1 32 4094#32))))) (constantI S_ 1 1#1)
      reducesTo_S16x8190x1_S16x8190_d2 h_S_ (ix2 r n) = 1#1 := by
    refine Host.reduce_andi_one _ _ _ _ _ rfl fun q => ?_
    show IntOp.andi (IntOp.cmpi .sge (starts' i q) 0#32) (IntOp.cmpi .sle (starts' i q) 4094#32) = 1#1
    have h := (K (q 0) (q 1)).isLt
    rw [starts'_apply i K hi, word_sge (by omega), word_sle (M := 4094) (by omega) (by omega)]
    rfl
  have hg := gather'_apply x (starts' i) r n (K r n) (starts'_apply i K hi _)
  unfold taken'
  exact (congrArg₂ (fun c v => Scalar.select c v _) hm hg).trans rfl

/-! ## Running sums -/

theorem foldl_add {ι α : Type} [AddCommMonoid α] (l : List ι) (g : ι → α) (v : α) :
    l.foldl (fun r a => r + g a) v = v + (l.map g).sum := by
  induction l generalizing v with
  | nil => simp
  | cons a l ih => rw [List.foldl_cons, ih, List.map_cons, List.sum_cons, add_assoc]

/-- The window at place `j`, over a row padded low, holds the entries up to `j`. -/
theorem window_sum {α : Type} [AddCommMonoid α] (f : ℕ → α) (M j : ℕ) (hj : j ≤ M) :
    ∑ n ∈ Finset.range (M + 1), (if M ≤ j + n then f (j + n - M) else 0) = ∑ n ∈ Finset.range (j + 1), f n := by
  obtain ⟨d, rfl⟩ : ∃ d, M = j + d := ⟨M - j, by omega⟩
  rw [show j + d + 1 = d + (j + 1) by omega, Finset.sum_range_add]
  rw [Finset.sum_eq_zero fun n hn => if_neg (by have := Finset.mem_range.1 hn; omega), zero_add]
  refine Finset.sum_congr rfl fun n _ => ?_
  rw [if_pos (by omega)]
  exact congrArg f (by omega)

theorem window_apply {α : Type} [AddCommMonoid α] (x : S16x8190.Idx → α) (init : S_.Idx → α) (hz : init (Shape.Idx.first h_S_) = 0) (r : Fin 16) (f : ℕ → α)
    (hx : ∀ n : Fin 8190, x (ix2 r n) = f n.val) (j : Fin 8190) :
    Host.reduceWindow (· + ·) ![1, 8190] ![1, 1] ![0, 8189] ![0, 0] x init
      reduceWindows_S16x8190_S16x8190_w1s1p0_0_w8190s1p8189_0 h_S_ (ix2 r j) = ∑ n ∈ Finset.range (j.val + 1), f n := by
  have hj := j.isLt
  unfold Host.reduceWindow
  refine (foldl_add _ _ _).trans ?_
  rw [hz, zero_add]
  refine Eq.trans (congrArg List.sum (List.map_congr_left (g := fun n => if 8189 ≤ j.val + n.val then f (j.val + n.val - 8189) else 0) fun n _ => ?_)) ?_
  · have hw0 : ((Routing.shape2 1 8190).rowMajor.symm n 0).val = 0 := by rw [Routing.symm2]; rfl
    have hw : ((Routing.shape2 1 8190).rowMajor.symm n 1).val = n.val := by rw [Routing.symm2]; rfl
    have hn : n.val < 8190 := (n.cast (Routing.numel2 _)).isLt
    split
    · next hin =>
      have h1 := hin 1
      change 8189 ≤ j.val * 1 + ((Routing.shape2 1 8190).rowMajor.symm n 1).val
        ∧ j.val * 1 + ((Routing.shape2 1 8190).rowMajor.symm n 1).val - 8189 < 8190 at h1
      rw [hw] at h1
      rw [if_pos (by omega)]
      refine (congrArg x (funext fun a => Fin.ext ?_)).trans (hx ⟨j.val + n.val - 8189, by omega⟩)
      match a with
      | ⟨0, _⟩ =>
        show r.val * 1 + ((Routing.shape2 1 8190).rowMajor.symm n 0).val - 0 = r.val
        rw [hw0]; omega
      | ⟨1, _⟩ =>
        show j.val * 1 + ((Routing.shape2 1 8190).rowMajor.symm n 1).val - 8189 = j.val + n.val - 8189
        rw [hw, Nat.mul_one]
    · next hin =>
      rw [if_neg fun hle => hin fun a => by
        match a with
        | ⟨0, _⟩ =>
          show 0 ≤ r.val * 1 + ((Routing.shape2 1 8190).rowMajor.symm n 0).val ∧ r.val * 1 + ((Routing.shape2 1 8190).rowMajor.symm n 0).val - 0 < 16
          have := r.isLt
          rw [hw0]
          omega
        | ⟨1, _⟩ =>
          show 8189 ≤ j.val * 1 + ((Routing.shape2 1 8190).rowMajor.symm n 1).val
            ∧ j.val * 1 + ((Routing.shape2 1 8190).rowMajor.symm n 1).val - 8189 < 8190
          rw [hw]
          omega]
  · rw [Routing.map_finRange_val _ (fun w => if 8189 ≤ j.val + w then f (j.val + w - 8189) else 0)]
    refine Eq.trans (congrArg (fun M => ((List.range M).map fun w => if 8189 ≤ j.val + w then f (j.val + w - 8189) else 0).sum)
      (Routing.numel2 8190)) ?_
    refine Eq.trans ?_ (window_sum f 8189 j.val (by omega))
    rfl

theorem running_apply (x : FVec Ideal S16x8190 .f32) (r : Fin 16) (f : ℕ → EReal) (hx : ∀ n : Fin 8190, x (ix2 r n) = f n.val)
    (j : Fin 8190) : running x (ix2 r j) = ∑ n ∈ Finset.range (j.val + 1), f n := by
  have hz : Ideal.ofBits .f32 0#32 = 0 := by simp [Ideal.ofBits, Ideal.ieee]
  have h := window_apply (α := EReal) x (fun _ => Ideal.ofBits .f32 0#32) hz r f hx j
  unfold running Host.reduceWindowAdd
  rw [Ideal.hostReduceWindowAdd_def]
  unfold Ideal.hostReduceWindowAdd
  exact h

theorem runningI_apply (x : IVec S16x8190 32) (r : Fin 16) (f : ℕ → BitVec 32) (hx : ∀ n : Fin 8190, x (ix2 r n) = f n.val)
    (j : Fin 8190) : runningI x (ix2 r j) = ∑ n ∈ Finset.range (j.val + 1), f n :=
  window_apply (α := BitVec 32) x (fun _ => 0#32) rfl r f hx j

/-! ## Row sums -/

theorem total_apply (x : FVec Ideal S16x8190 .f32) (r : Fin 16) (f : ℕ → EReal) (hx : ∀ n : Fin 8190, x (ix2 r n) = f n.val) :
    total x (ix1 r) = ∑ n ∈ Finset.range 8190, f n := by
  have h : S16x8190.Reduces [1] S16 := by decide
  have hz : Ideal.ofBits .f32 0#32 = 0 := by simp [Ideal.ofBits, Ideal.ieee]
  refine (Ideal.hostReduceAdd_single reducesTo_S16x8190_S16_d1 h x _ (ix1 r)).trans ?_
  rw [Finset.sum_range]
  show Ideal.ofBits .f32 0#32 + _ = _
  rw [hz, zero_add]
  refine Finset.sum_congr rfl fun k _ => (congrArg x (funext fun a => ?_)).trans (hx k)
  match a with
  | ⟨0, _⟩ => rfl
  | ⟨1, _⟩ => rfl

theorem rough_sum (x : FVec Ideal S16x4094 .f32) (r : Fin 16) (f : ℕ → EReal) (hx : ∀ n : Fin 4094, x (ix2 r n) = f n.val) :
    Host.reduceAdd x (constant S_ .f32 0x00000000#32) reducesTo_S16x4094_S16_d1 h_S_ (ix1 r) = ∑ n ∈ Finset.range 4094, f n := by
  have h : S16x4094.Reduces [1] S16 := by decide
  have hz : Ideal.ofBits .f32 0#32 = 0 := by simp [Ideal.ofBits, Ideal.ieee]
  refine (Ideal.hostReduceAdd_single reducesTo_S16x4094_S16_d1 h x _ (ix1 r)).trans ?_
  rw [Finset.sum_range]
  show Ideal.ofBits .f32 0#32 + _ = _
  rw [hz, zero_add]
  refine Finset.sum_congr rfl fun k _ => (congrArg x (funext fun a => ?_)).trans (hx k)
  match a with
  | ⟨0, _⟩ => rfl
  | ⟨1, _⟩ => rfl

end Cert.Proof.Reads

end
-- ==== Proof.Order.lean ====
/-
  The order of a row's heights: float words in the stated range stand for positive reals in the words' own order, so the
  kernel's sort of the words and a descending sort of the reals put the same heights in the same places.
-/
module

public import proofs.«01_k».proof.Proof.Parts
public import Idealize.ShloMosaic.Lib.IdealHost

@[expose] public section

noncomputable section

namespace Cert.Proof.Order

open Cert.KernelIdeal Cert.KernelIdeal.Gen
open Cert.Proof.CountSort Cert.Proof.Loops Cert.Proof.Parts

open Idealize.ShloMosaic
open scoped BigOperators

/-! ## Words as reals -/

/-- The magnitude of the word `n`, in units of the least normal one's last place. -/
def mag (n : ℕ) : ℕ := (2 ^ 23 + n % 2 ^ 23) * 2 ^ (n / 2 ^ 23)

theorem mag_lt_succ (n : ℕ) : mag n < mag (n + 1) := by
  unfold mag
  by_cases h : (n + 1) % 2 ^ 23 = 0
  · have h1 : (n + 1) / 2 ^ 23 = n / 2 ^ 23 + 1 := by omega
    have h2 : n % 2 ^ 23 < 2 ^ 23 := Nat.mod_lt _ (by norm_num)
    rw [h, h1, pow_succ]
    have h3 : 0 < 2 ^ (n / 2 ^ 23) := Nat.pow_pos (by norm_num)
    have h4 := Nat.mul_lt_mul_of_pos_right (show 2 ^ 23 + n % 2 ^ 23 < 2 ^ 24 by omega) h3
    refine h4.trans_le (le_of_eq ?_)
    ring_nf
  · have h1 : (n + 1) / 2 ^ 23 = n / 2 ^ 23 := by omega
    have h2 : (n + 1) % 2 ^ 23 = n % 2 ^ 23 + 1 := by omega
    rw [h1, h2]
    exact Nat.mul_lt_mul_of_pos_right (by omega) (Nat.pow_pos (by norm_num))

theorem mag_mono : StrictMono mag := strictMono_nat_of_lt_succ mag_lt_succ

/-- The real that a word stands for. -/
def wr (n : ℕ) : ℝ := (mag n : ℝ) * 2 ^ (-150 : ℤ)

theorem wr_mono : StrictMono wr := fun a b h => by
  unfold wr
  have : (mag a : ℝ) < mag b := by exact_mod_cast mag_mono h
  exact mul_lt_mul_of_pos_right this (by positivity)

theorem wr_pos (n : ℕ) : 0 < wr n := by
  unfold wr mag
  have : (0 : ℝ) < (((2 ^ 23 + n % 2 ^ 23) * 2 ^ (n / 2 ^ 23) : ℕ) : ℝ) := by
    exact_mod_cast Nat.mul_pos (by positivity) (Nat.pow_pos (by norm_num))
  positivity

theorem word_val (w : BitVec 32) (h1 : 2 ^ 23 ≤ w.toNat) (h2 : w.toNat < 255 * 2 ^ 23) : Ideal.ofBits .f32 w = ((wr w.toNat : ℝ) : EReal) := by
  have e1 : (w.extractLsb' 23 8).toNat = w.toNat / 2 ^ 23 := by
    rw [BitVec.extractLsb'_toNat, Nat.shiftRight_eq_div_pow]; omega
  have e2 : (w.extractLsb' 0 23).toNat = w.toNat % 2 ^ 23 := by
    rw [BitVec.extractLsb'_toNat, Nat.shiftRight_eq_div_pow]; simp
  have e3 : (w.extractLsb' 31 1 == 1#1) = false := by
    rw [beq_eq_false_iff_ne]
    intro h
    have := congrArg BitVec.toNat h
    rw [BitVec.extractLsb'_toNat, Nat.shiftRight_eq_div_pow] at this
    simp at this; omega
  show Ideal.ieee 8 23 w = _
  unfold Ideal.ieee
  rw [show (8 + 23 : ℕ) = 31 from rfl, e1, e2, e3]
  dsimp only
  rw [if_neg (by omega), if_neg (by omega)]
  unfold wr mag
  congr 1
  rw [if_neg (by decide), one_mul, Nat.cast_mul, mul_assoc]
  congr 1
  push_cast
  rw [← zpow_natCast, ← zpow_add₀ (by norm_num)]
  congr 1
  push_cast
  ring

/-! ## The keys -/

theorem key_val (w : BitVec 32) (h1 : 1031798784 ≤ w.toNat) (h2 : w.toNat < 1166016512) : (key w).toNat = w.toNat - 1031798784 := by
  have e : (w - 1031798784#32).toNat = w.toNat - 1031798784 := by
    rw [BitVec.toNat_sub, BitVec.toNat_ofNat]; omega
  unfold key IntOp.maxsi IntOp.minsi
  generalize w - 1031798784#32 = z at e
  have hz : z.toInt = (w.toNat - 1031798784 : ℕ) := by
    rw [BitVec.toInt_eq_toNat_of_lt (by omega), e]
  have h3 : (134217727#32).toInt = 134217727 := by decide
  have h4 : (0#32).toInt = 0 := by decide
  simp only [BitVec.slt, decide_eq_true_eq]
  split_ifs <;> first | omega | (simp only [BitVec.toNat_ofNat]; omega)

theorem key_zero : key 0#32 = 0#32 := by decide

theorem height_key (w : BitVec 32) (h1 : 1031798784 ≤ w.toNat) (h2 : w.toNat < 1166016512) :
    height (F := Ideal) (key w) = ((wr w.toNat : ℝ) : EReal) := by
  show Ideal.ofBits .f32 (key w + 1031798784#32) = _
  have e : key w + 1031798784#32 = w := by
    apply BitVec.eq_of_toNat_eq
    rw [BitVec.toNat_add, key_val w h1 h2, BitVec.toNat_ofNat]; omega
  rw [e, word_val w (by omega) (by omega)]

theorem height_real (w : BitVec 32) (h : w.toNat < 2 ^ 27) : height (F := Ideal) w = ((wr (w.toNat + 1031798784) : ℝ) : EReal) := by
  show Ideal.ofBits .f32 (w + 1031798784#32) = _
  have e : (w + 1031798784#32).toNat = w.toNat + 1031798784 := by
    rw [BitVec.toNat_add, BitVec.toNat_ofNat]; omega
  rw [word_val _ (by omega) (by omega), e]

/-! ## Two rising arrangements of the same numbers -/

theorem rises_le {n : ℕ} {f : Fin n → ℕ} {t s : Equiv.Perm (Fin n)} (ht : Monotone (f ∘ t)) (hs : Monotone (f ∘ s)) (i : Fin n) :
    f (s i) ≤ f (t i) := by
  by_contra h
  have h : f (t i) < f (s i) := by omega
  have hcard : (Finset.Iic i).card ≤ (Finset.Iio i).card :=
    Finset.card_le_card_of_injOn (fun j => s.symm (t j)) (fun j hj => by
      simp only [Finset.coe_Iic, Finset.coe_Iio, Set.mem_Iic, Set.mem_Iio] at hj ⊢
      by_contra hge
      have h1 : f (s i) ≤ f (s (s.symm (t j))) := hs (not_lt.mp hge)
      have h2 : f (t j) ≤ f (t i) := ht hj
      rw [Equiv.apply_symm_apply] at h1
      omega) ((s.symm.injective.comp t.injective).injOn)
  rw [Fin.card_Iic, Fin.card_Iio] at hcard
  omega

theorem rises_unique {n : ℕ} {f : Fin n → ℕ} {t s : Equiv.Perm (Fin n)} (ht : Monotone (f ∘ t)) (hs : Monotone (f ∘ s)) : f ∘ t = f ∘ s :=
  funext fun i => le_antisymm (rises_le hs ht i) (rises_le ht hs i)

/-! ## One row -/

section Row

variable (w : Fin 8191 → BitVec 32)
variable (hc : ∀ n, n.val < 4095 → 1031798784 ≤ (w n).toNat ∧ (w n).toNat < 1166016512) (ht : ∀ n, 4095 ≤ n.val → w n = 0#32)

/-- The row's heights as extended reals. -/
abbrev val (n : Fin 8191) : Ideal .f32 := Ideal.ofBits .f32 (w n)

include hc in
theorem val_coal (n : Fin 8191) (h : n.val < 4095) : val w n = ((wr (w n).toNat : ℝ) : EReal) :=
  word_val _ (by have := hc n h; omega) (by have := hc n h; omega)

include ht in
theorem val_tip (n : Fin 8191) (h : 4095 ≤ n.val) : val w n = ((0 : ℝ) : EReal) := by
  unfold val; rw [ht n h]; simp [Ideal.ofBits, Ideal.ieee]

variable (π : Fin 8191 → Fin 8191) (hπ : Function.Injective π) (hd : ∀ n m : Fin 8191, n < m → val w (π m) ≤ val w (π n))

include hc ht hπ hd in
/-- In descending order the positive heights come first. -/
theorem coal_first (n : Fin 8191) (h : n.val < 4095) : (π n).val < 4095 := by
  by_contra hn
  have hn : 4095 ≤ (π n).val := by omega
  have h0 := val_tip w ht _ hn
  have hm : ∀ m : Fin 8191, n ≤ m → 4095 ≤ (π m).val := by
    intro m hm
    rcases eq_or_lt_of_le hm with rfl | hlt
    · exact hn
    · by_contra hc'
      have := hd n m hlt
      rw [h0, val_coal w hc _ (by omega), EReal.coe_le_coe_iff] at this
      exact absurd (wr_pos _) (by linarith)
  have hcard : (Finset.Ici n).card ≤ (Finset.Ici (⟨4095, by norm_num⟩ : Fin 8191)).card :=
    Finset.card_le_card_of_injOn π (fun m hm' => by
      simp only [Finset.coe_Ici, Set.mem_Ici] at hm' ⊢
      exact Fin.le_def.mpr (hm m hm')) (hπ.injOn)
  rw [Fin.card_Ici, Fin.card_Ici] at hcard
  simp only at hcard
  omega

include hc ht hπ hd in
theorem tip_last (n : Fin 8191) (h : 4095 ≤ n.val) : 4095 ≤ (π n).val := by
  by_contra hn
  have hn : (π n).val < 4095 := by omega
  have h0 := val_coal w hc _ hn
  have hm : ∀ m : Fin 8191, m ≤ n → (π m).val < 4095 := by
    intro m hm
    rcases eq_or_lt_of_le hm with rfl | hlt
    · exact hn
    · by_contra hc'
      have := hd m n hlt
      rw [h0, val_tip w ht _ (by omega), EReal.coe_le_coe_iff] at this
      exact absurd (wr_pos _) (by linarith)
  have hcard : (Finset.Iic n).card ≤ (Finset.Iio (⟨4095, by norm_num⟩ : Fin 8191)).card :=
    Finset.card_le_card_of_injOn π (fun m hm' => by
      simp only [Finset.coe_Iic, Finset.coe_Iio, Set.mem_Iic, Set.mem_Iio] at hm' ⊢
      exact Fin.lt_def.mpr (hm m hm')) (hπ.injOn)
  rw [Fin.card_Iic, Fin.card_Iio] at hcard
  simp only at hcard
  omega

/-- The words that the row's tile sorts. -/
def keys : I → BitVec 32 := fun y => key (w ⟨(y 0).val, by have : (y 0).val < 4096 := (y 0).isLt; omega⟩)

/-- The keys as numbers, by position. -/
def kn (i : Fin 4096) : ℕ := (keys w (ix i.val i.isLt)).toNat

theorem kn_lt (i : Fin 4096) : kn w i < 2 ^ 27 := key_lt _

include hc in
theorem kn_coal (i : Fin 4096) (h : i.val < 4095) : kn w i = (w ⟨i.val, by omega⟩).toNat - 1031798784 := by
  have := hc ⟨i.val, by omega⟩ h
  exact key_val _ this.1 this.2

include ht in
theorem kn_tip (i : Fin 4096) (h : 4095 ≤ i.val) : kn w i = 0 := by
  have e : w ⟨i.val, by omega⟩ = 0#32 := ht _ h
  show (key (w ⟨i.val, _⟩)).toNat = 0
  rw [e, key_zero]; rfl

/-- The descending order of the row's first 4096 heights, ascending: the tip's place first. -/
def asc (i : Fin 4096) : Fin 4096 :=
  if h : i.val = 0 then ⟨4095, by norm_num⟩ else
    if h' : (π ⟨4095 - i.val, by omega⟩).val < 4096 then ⟨(π ⟨4095 - i.val, by omega⟩).val, h'⟩ else ⟨0, by norm_num⟩

include hc ht hπ hd in
theorem asc_pos (i : Fin 4096) (h : i.val ≠ 0) : (asc π i).val = (π ⟨4095 - i.val, by omega⟩).val := by
  have := coal_first w hc ht π hπ hd ⟨4095 - i.val, by omega⟩ (by show 4095 - i.val < 4095; omega)
  unfold asc
  rw [dif_neg h, dif_pos (by omega)]

include hc ht hπ hd in
theorem asc_inj : Function.Injective (asc π) := by
  intro i j hij
  have e0 : ∀ i : Fin 4096, i.val = 0 → (asc π i).val = 4095 := fun i h => by unfold asc; rw [dif_pos h]
  have hlt : ∀ i : Fin 4096, i.val ≠ 0 → (asc π i).val < 4095 := fun i h => by
    rw [asc_pos w hc ht π hπ hd i h]
    exact coal_first w hc ht π hπ hd _ (by show 4095 - i.val < 4095; omega)
  have hv := congrArg Fin.val hij
  by_cases hi : i.val = 0 <;> by_cases hj : j.val = 0
  · exact Fin.ext (by omega)
  · have := e0 i hi; have := hlt j hj; omega
  · have := e0 j hj; have := hlt i hi; omega
  · rw [asc_pos w hc ht π hπ hd i hi, asc_pos w hc ht π hπ hd j hj] at hv
    have := congrArg Fin.val (hπ (Fin.ext hv))
    simp only at this
    exact Fin.ext (by omega)

include hc ht hπ hd in
theorem asc_mono : Monotone (kn w ∘ asc π) := by
  intro i j hij
  have hij' : i.val ≤ j.val := hij
  show kn w (asc π i) ≤ kn w (asc π j)
  by_cases hi : i.val = 0
  · have : (asc π i).val = 4095 := by unfold asc; rw [dif_pos hi]
    rw [kn_tip w ht _ (by omega)]; exact Nat.zero_le _
  · have hj : j.val ≠ 0 := by omega
    have ci := coal_first w hc ht π hπ hd ⟨4095 - i.val, by omega⟩ (by show 4095 - i.val < 4095; omega)
    have cj := coal_first w hc ht π hπ hd ⟨4095 - j.val, by omega⟩ (by show 4095 - j.val < 4095; omega)
    have ei := asc_pos w hc ht π hπ hd i hi
    have ej := asc_pos w hc ht π hπ hd j hj
    rw [kn_coal w hc _ (by omega), kn_coal w hc _ (by omega)]
    rcases eq_or_lt_of_le hij' with h | h
    · have : i = j := Fin.ext h
      subst this; exact le_rfl
    · have := hd ⟨4095 - j.val, by omega⟩ ⟨4095 - i.val, by omega⟩ (by show 4095 - j.val < 4095 - i.val; omega)
      rw [val_coal w hc _ ci, val_coal w hc _ cj, EReal.coe_le_coe_iff, wr_mono.le_iff_le] at this
      have e1 : (⟨(asc π i).val, by omega⟩ : Fin 8191) = π ⟨4095 - i.val, by omega⟩ := Fin.ext ei
      have e2 : (⟨(asc π j).val, by omega⟩ : Fin 8191) = π ⟨4095 - j.val, by omega⟩ := Fin.ext ej
      rw [e1, e2]
      omega

/-- Positions as indices. -/
def posE : Fin 4096 ≃ I := ⟨fun k => ix k.val k.isLt, fun x => x 0, fun k => rfl, fun x => idx_ext (N := 4096) rfl⟩

include hc ht hπ hd in
/-- The kernel's sort and the descending order agree. -/
theorem sorted_agree (n : ℕ) (hn : n < 4095) : (S3 (keys w) (ix (4095 - n) (by omega))).toNat = (w (π ⟨n, by omega⟩)).toNat - 1031798784 := by
  obtain ⟨τ, h1, h2⟩ := sorted_S3 (keys w)
  let t : Equiv.Perm (Fin 4096) := (posE.trans τ).trans posE.symm
  let s : Equiv.Perm (Fin 4096) := Equiv.ofBijective (asc π) (Finite.injective_iff_bijective.mp (asc_inj w hc ht π hπ hd))
  have hS : ∀ i : Fin 4096, (S3 (keys w) (ix i.val i.isLt)).toNat = kn w (t i) := fun i => by
    rw [h1]
    show _ = (keys w (posE (posE.symm (τ (posE i))))).toNat
    rw [Equiv.apply_symm_apply]; rfl
  have hlt : ∀ i : Fin 4096, (S3 (keys w) (ix i.val i.isLt)).toNat < 2 ^ 27 := fun i => by rw [hS]; exact kn_lt w _
  have hmt : Monotone (kn w ∘ t) := by
    intro i j hij
    show kn w (t i) ≤ kn w (t j)
    rcases eq_or_lt_of_le hij with rfl | h
    · exact le_rfl
    · have := h2 (ix i.val i.isLt) (ix j.val j.isLt) h
      rw [Nat.mod_eq_of_lt (hlt i), Nat.mod_eq_of_lt (hlt j)] at this
      rwa [← hS, ← hS]
  have hms : Monotone (kn w ∘ s) := asc_mono w hc ht π hπ hd
  have he := congrFun (rises_unique hmt hms) ⟨4095 - n, by omega⟩
  have hc' := coal_first w hc ht π hπ hd ⟨n, by omega⟩ hn
  rw [hS ⟨4095 - n, by omega⟩]
  refine he.trans ?_
  show kn w (asc π ⟨4095 - n, by omega⟩) = _
  have ea := asc_pos w hc ht π hπ hd ⟨4095 - n, by omega⟩ (by show 4095 - n ≠ 0; omega)
  have eb : (⟨4095 - (4095 - n), by omega⟩ : Fin 8191) = ⟨n, by omega⟩ := Fin.ext (by show 4095 - (4095 - n) = n; omega)
  have ea' : (asc π ⟨4095 - n, by omega⟩).val = (π ⟨n, by omega⟩).val := ea.trans (congrArg (fun z => (π z).val) eb)
  rw [kn_coal w hc _ (by omega)]
  congr 3
  exact Fin.ext ea'

include hc ht hπ hd in
/-- The heights in the kernel's buffer are those in descending order. -/
theorem hts_agree (n : ℕ) (hn : n < 4095) : hts (F := Ideal) (S3 (keys w)) (4103 - n) = val w (π ⟨n, by omega⟩) := by
  unfold hts
  rw [dif_pos (by omega)]
  have h := sorted_agree w hc ht π hπ hd n hn
  have hc' := coal_first w hc ht π hπ hd ⟨n, by omega⟩ hn
  have hb := hc _ hc'
  have e : 4103 - n - 8 = 4095 - n := by omega
  have e' : (ix (4103 - n - 8) (by omega) : I) = ix (4095 - n) (by omega) :=
    idx_ext (N := 4096) (by rw [ix_val, ix_val]; exact e)
  rw [e', height_real _ (by omega), val_coal w hc _ hc', h]
  congr 2
  omega

/-- Every entry of the kernel's buffer of heights is a real number. -/
theorem hts_real (n : ℕ) : hts (F := Ideal) (S3 (keys w)) n = (((hts (F := Ideal) (S3 (keys w)) n).toReal : ℝ) : EReal) := by
  unfold hts
  split_ifs with h
  · rw [height_real _ ((sorted_S3 (keys w)).mem (p := fun v => v.toNat < 2 ^ 27) (fun y => key_lt _) _)]
    rw [EReal.toReal_coe]
  · have : Ideal.ofBits .f32 0x00000000#32 = ((0 : ℝ) : EReal) := by simp [Ideal.ofBits, Ideal.ieee]
    show Ideal.ofBits .f32 0x00000000#32 = (((Ideal.ofBits .f32 0x00000000#32).toReal : ℝ) : EReal)
    rw [this, EReal.toReal_coe]

end Row

end Cert.Proof.Order

end
-- ==== Proof.RowValue.lean ====
/-
  A row's result over the extended reals: where the heights and the log sizes are real numbers, the value that a row's
  tile stages is one real expression in them.
-/
module

public import proofs.«01_k».proof.Proof.Parts
public import Idealize.ShloMosaic.Lib.IdealHost

@[expose] public section

noncomputable section

namespace Cert.Proof.RowValue

open Cert.KernelIdeal Cert.KernelIdeal.Gen
open Cert.Proof.CountSort Cert.Proof.Parts

open Idealize.ShloMosaic
open scoped BigOperators

/-! ## The constants -/

theorem two_f32 : Ideal.ofBits .f32 0x40000000#32 = ((2 : ℝ) : EReal) := by
  simp [Ideal.ofBits, Ideal.ieee, -EReal.coe_mul]; norm_num

theorem half_f32 : Ideal.ofBits .f32 0x3F000000#32 = ((1 / 2 : ℝ) : EReal) := by
  simp [Ideal.ofBits, Ideal.ieee, -EReal.coe_mul]; norm_num

theorem one_f32 : Ideal.ofBits .f32 0x3F800000#32 = ((1 : ℝ) : EReal) := by
  simp [Ideal.ofBits, Ideal.ieee, -EReal.coe_mul]; norm_num

theorem zero_f32 : Ideal.ofBits .f32 0x00000000#32 = ((0 : ℝ) : EReal) := by
  simp [Ideal.ofBits, Ideal.ieee]

/-- The rate, 0.001 to the nearest float. -/
def cB : ℝ := 8589935 * 2 ^ (-33 : ℤ)
/-- The number of log sizes halved and the shape added, 2047.001 to the nearest float. -/
def cA : ℝ := 16769032 * 2 ^ (-13 : ℤ)
/-- The additive constant of the result. -/
def cC : ℝ := 10022565 * 2 ^ (-10 : ℤ)

theorem cB_pos : 0 < cB := by unfold cB; positivity

theorem cB_f32 : Ideal.ofBits .f32 0x3A83126F#32 = (cB : EReal) := by
  unfold cB
  simp [Ideal.ofBits, Ideal.ieee, -EReal.coe_mul]

theorem cA_f32 : Ideal.ofBits .f32 0x44FFE008#32 = (cA : EReal) := by
  unfold cA
  simp [Ideal.ofBits, Ideal.ieee, -EReal.coe_mul]

theorem cC_f32 : Ideal.ofBits .f32 0x4618EEA5#32 = (cC : EReal) := by
  unfold cC
  simp [Ideal.ofBits, Ideal.ieee, -EReal.coe_mul]

/-! ## The three sums, lane by lane -/

variable (x y : ℕ → ℝ)

/-- One term of the weighted intervals' sum. -/
def gT (j : ℕ) : ℝ := (Real.exp (0 - y j) * (if j ≤ 4094 then ((j : ℝ) + 1) * ((j : ℝ) + 2) * (1 / 2) else 0)) * (x (4103 - j) - x (4102 - j))
/-- One term of the squared differences' sum. -/
def gS (j : ℕ) : ℝ := (if j ≤ 4093 then y (j + 1) - y j else 0) * (if j ≤ 4093 then y (j + 1) - y j else 0)

theorem pay7_val (t : Fin k0_t11_loop.trips) (k : S16.Idx) : k0_pay7 io 0#32 1#32 t k = BitVec.ofNat 32 (16 * t.val + (k 0).val) := by
  show Scf.iv 0#32 1#32 t * 16#32 + io k = _
  rw [iv11, io_val]
  apply BitVec.eq_of_toNat_eq
  have ht : t.val < 256 := trips11 ▸ t.isLt
  have hk : (k 0).val < 16 := (k 0).isLt
  simp only [BitVec.toNat_add, BitVec.toNat_mul, BitVec.toNat_ofNat]
  omega

theorem toInt_small {n : ℕ} (h : n < 4096) : (BitVec.ofNat 32 n).toInt = n := by
  rw [BitVec.toInt_eq_toNat_of_lt (by rw [BitVec.toNat_ofNat]; omega), BitVec.toNat_ofNat]
  congr 1; omega

theorem sle_small {n b : ℕ} (h : n < 4096) (hb : b < 4096) : IntOp.cmpi .sle (BitVec.ofNat 32 n) (BitVec.ofNat 32 b) = if n ≤ b then 1#1 else 0#1 := by
  show BitVec.ofBool ((BitVec.ofNat 32 n).sle (BitVec.ofNat 32 b)) = _
  unfold BitVec.sle
  rw [toInt_small h, toInt_small hb]
  by_cases e : n ≤ b
  · rw [if_pos e, decide_eq_true (by exact_mod_cast e)]; rfl
  · rw [if_neg e, decide_eq_false (by exact_mod_cast e)]; rfl

variable (X Y : ℕ → Ideal .f32) (hX : ∀ n, X n = ((x n : ℝ) : EReal)) (hY : ∀ n, Y n = ((y n : ℝ) : EReal))

include hX hY in
theorem step_T (t : Fin k0_t11_loop.trips) (a : Acc Ideal) (k : S16.Idx) (r : ℝ) (hr : a.1 k = (r : EReal)) :
    (sumStep X Y t a).1 k = ((r + gT x y (16 * t.val + (k 0).val) : ℝ) : EReal) := by
  have ht : t.val < 256 := trips11 ▸ t.isLt
  have hk : (k 0).val < 16 := (k 0).isLt
  have hj : 16 * t.val + (k 0).val < 4096 := by omega
  show a.1 k + (Ideal.exp (Ideal.ofBits .f32 0x00000000#32 - Y (16 * t.val + (k 0).val))
      * (if IntOp.cmpi .sle (k0_pay7 io 0#32 1#32 t k) 4094#32 = 1#1 then
          ((((k0_pay7 io 0#32 1#32 t k).toInt : ℝ) : EReal) + Ideal.ofBits .f32 0x3F800000#32)
            * ((((k0_pay7 io 0#32 1#32 t k).toInt : ℝ) : EReal) + Ideal.ofBits .f32 0x40000000#32) * Ideal.ofBits .f32 0x3F000000#32
        else Ideal.ofBits .f32 0x00000000#32))
      * (X (4103 - 16 * t.val - (k 0).val) - X (4102 - 16 * t.val - (k 0).val)) = _
  rw [pay7_val, sle_small hj (by norm_num), toInt_small hj, hr, hX, hX, hY, zero_f32, one_f32, two_f32, half_f32]
  rw [Nat.sub_sub, Nat.sub_sub]
  unfold gT
  by_cases e : 16 * t.val + (k 0).val ≤ 4094
  · rw [if_pos e, if_pos rfl, if_pos e]
    rw [← EReal.coe_sub]
    show _ + (((Real.exp _ : ℝ) : EReal) * _) * _ = _
    norm_cast
  · rw [if_neg e, if_neg (by decide), if_neg e]
    rw [← EReal.coe_sub]
    show _ + (((Real.exp _ : ℝ) : EReal) * _) * _ = _
    norm_cast

include hY in
theorem step_L (t : Fin k0_t11_loop.trips) (a : Acc Ideal) (k : S16.Idx) (r : ℝ) (hr : a.2.1 k = (r : EReal)) :
    (sumStep X Y t a).2.1 k = ((r + y (16 * t.val + (k 0).val) : ℝ) : EReal) := by
  show a.2.1 k + Y (16 * t.val + (k 0).val) = _
  rw [hr, hY]; norm_cast

include hY in
theorem step_S (t : Fin k0_t11_loop.trips) (a : Acc Ideal) (k : S16.Idx) (r : ℝ) (hr : a.2.2 k = (r : EReal)) :
    (sumStep X Y t a).2.2 k = ((r + gS y (16 * t.val + (k 0).val) : ℝ) : EReal) := by
  have ht : t.val < 256 := trips11 ▸ t.isLt
  have hk : (k 0).val < 16 := (k 0).isLt
  have hj : 16 * t.val + (k 0).val < 4096 := by omega
  show a.2.2 k + (if IntOp.cmpi .sle (k0_pay7 io 0#32 1#32 t k) 4093#32 = 1#1 then Y (16 * t.val + 1 + (k 0).val) - Y (16 * t.val + (k 0).val)
        else Ideal.ofBits .f32 0x00000000#32)
      * (if IntOp.cmpi .sle (k0_pay7 io 0#32 1#32 t k) 4093#32 = 1#1 then Y (16 * t.val + 1 + (k 0).val) - Y (16 * t.val + (k 0).val)
        else Ideal.ofBits .f32 0x00000000#32) = _
  rw [pay7_val, sle_small hj (by norm_num), hr, hY, hY, zero_f32, show 16 * t.val + 1 + (k 0).val = 16 * t.val + (k 0).val + 1 by omega]
  unfold gS
  by_cases e : 16 * t.val + (k 0).val ≤ 4093
  · rw [if_pos e, if_pos rfl, if_pos e]; norm_cast
  · rw [if_neg e, if_neg (by decide), if_neg e]; norm_cast

include hX hY in
theorem sums_val (n : ℕ) (hn : n ≤ 256) (k : S16.Idx) :
    (sums X Y n).1 k = ((∑ t ∈ Finset.range n, gT x y (16 * t + (k 0).val) : ℝ) : EReal)
    ∧ (sums X Y n).2.1 k = ((∑ t ∈ Finset.range n, y (16 * t + (k 0).val) : ℝ) : EReal)
    ∧ (sums X Y n).2.2 k = ((∑ t ∈ Finset.range n, gS y (16 * t + (k 0).val) : ℝ) : EReal) := by
  induction n with
  | zero =>
    have h0 : (k0_pay14 (F := Ideal)) k = ((0 : ℝ) : EReal) := zero_f32
    simp only [Finset.range_zero, Finset.sum_empty]
    exact ⟨h0, h0, h0⟩
  | succ n ih =>
    obtain ⟨h1, h2, h3⟩ := ih (by omega)
    have hlt : n < k0_t11_loop.trips := by rw [trips11]; omega
    have e : sums X Y (n + 1) = sumStep X Y ⟨n, hlt⟩ (sums X Y n) := dif_pos hlt
    rw [e, Finset.sum_range_succ, Finset.sum_range_succ, Finset.sum_range_succ]
    exact ⟨step_T x y X Y hX hY _ _ _ _ h1, step_L y X Y hY _ _ _ _ h2, step_S y X Y hY _ _ _ _ h3⟩

/-! ## The sums' lanes together, and the logarithm -/

/-- Sixteen lanes' sums over the trips are the whole sum. -/
theorem lanes (g : ℕ → ℝ) : ∑ k : Fin 16, ∑ t ∈ Finset.range 256, g (16 * t + k.val) = ∑ j ∈ Finset.range 4096, g j := by
  rw [Finset.sum_comm]
  have : ∀ n, ∑ t ∈ Finset.range n, ∑ k : Fin 16, g (16 * t + k.val) = ∑ j ∈ Finset.range (16 * n), g j := by
    intro n
    induction n with
    | zero => simp
    | succ n ih =>
      rw [Finset.sum_range_succ, ih, show 16 * (n + 1) = 16 * n + 16 by ring, Finset.sum_range_add, Finset.sum_range (n := 16)]
  exact this 256

theorem newton {v : ℝ} (hv : 0 < v) : Real.log v + v * Real.exp (0 - Real.log v) - 1 = Real.log v := by
  rw [zero_sub, Real.exp_neg, Real.exp_log hv, mul_inv_cancel₀ hv.ne']; ring

/-- The row's result as a real number. -/
def rowReal : ℝ :=
  ((0 - ∑ j ∈ Finset.range 4096, y j) - ∑ j ∈ Finset.range 4096, gT x y j) + cC
    - cA * Real.log (cB + 1 / 2 * ∑ j ∈ Finset.range 4096, gS y j)

theorem log_pos_coe {v : ℝ} (hv : 0 < v) : Ideal.log (v : EReal) = (Real.log v : EReal) := by
  show (if v ≤ 0 then (⊥ : EReal) else _) = _
  rw [if_neg (by linarith)]

theorem exp_coe (v : ℝ) : Ideal.exp (v : EReal) = (Real.exp v : EReal) := rfl

theorem extract_lane (n : ℕ) (a : FVec Ideal S16 .f32) (h : S16.Slices ![n] S1) (p : ∀ q, (![0] : Fin S1.rank → Nat) q < S1.size q) (hn : n < 16) :
    extractAt ![0] (extractStridedSlice S1 ![n] a h) p = a (lane ⟨n, hn⟩) := by
  unfold extractAt extractStridedSlice
  congr 1
  funext i
  match i with
  | 0 => rfl

theorem sum16 (u : Fin 16 → ℝ) : (((u 0 : ℝ) : EReal) + ((u 1 : ℝ) : EReal) + ((u 2 : ℝ) : EReal) + ((u 3 : ℝ) : EReal) + ((u 4 : ℝ) : EReal) + ((u 5 : ℝ) : EReal) + ((u 6 : ℝ) : EReal) + ((u 7 : ℝ) : EReal) + ((u 8 : ℝ) : EReal) + ((u 9 : ℝ) : EReal) + ((u 10 : ℝ) : EReal) + ((u 11 : ℝ) : EReal) + ((u 12 : ℝ) : EReal) + ((u 13 : ℝ) : EReal) + ((u 14 : ℝ) : EReal) + ((u 15 : ℝ) : EReal) : EReal) = ((∑ k, u k : ℝ) : EReal) := by
  norm_cast
  simp only [Fin.sum_univ_succ]; simp; ring_nf

section Tail

variable (a b c : FVec Ideal S16 .f32) (u v w : Fin 16 → ℝ)
variable (ha : ∀ k, a (lane k) = ((u k : ℝ) : EReal)) (hb : ∀ k, b (lane k) = ((v k : ℝ) : EReal)) (hc : ∀ k, c (lane k) = ((w k : ℝ) : EReal))

include ha hb in
theorem pay51_val : k0_pay51 a (k0_pay48 b) (k0_pay49 b) (k0_pay50 b) = (((0 - ∑ k, v k) - ∑ k, u k : ℝ) : EReal) := by
  unfold k0_pay51 k0_pay48 k0_pay49 k0_pay50
  dsimp only
  rw [extract_lane 0 a _ _ (by decide), extract_lane 1 a _ _ (by decide), extract_lane 2 a _ _ (by decide), extract_lane 3 a _ _ (by decide), extract_lane 4 a _ _ (by decide), extract_lane 5 a _ _ (by decide), extract_lane 6 a _ _ (by decide), extract_lane 7 a _ _ (by decide), extract_lane 8 a _ _ (by decide), extract_lane 9 a _ _ (by decide), extract_lane 10 a _ _ (by decide), extract_lane 11 a _ _ (by decide), extract_lane 12 a _ _ (by decide), extract_lane 13 a _ _ (by decide), extract_lane 14 a _ _ (by decide), extract_lane 15 a _ _ (by decide),
    extract_lane 0 b _ _ (by decide), extract_lane 1 b _ _ (by decide), extract_lane 2 b _ _ (by decide), extract_lane 3 b _ _ (by decide), extract_lane 4 b _ _ (by decide), extract_lane 5 b _ _ (by decide), extract_lane 6 b _ _ (by decide), extract_lane 7 b _ _ (by decide), extract_lane 8 b _ _ (by decide), extract_lane 9 b _ _ (by decide), extract_lane 10 b _ _ (by decide), extract_lane 11 b _ _ (by decide), extract_lane 12 b _ _ (by decide), extract_lane 13 b _ _ (by decide), extract_lane 14 b _ _ (by decide), extract_lane 15 b _ _ (by decide)]
  simp only [ha, hb]
  show Ideal.ofBits .f32 0x00000000#32 - (_ + _ + _ + _ + _ + _ + _ + _ + _ + _ + _ + _ + _ + _ + _ + _ : EReal)
    - (_ + _ + _ + _ + _ + _ + _ + _ + _ + _ + _ + _ + _ + _ + _ + _ : EReal) = _
  have hu := sum16 u
  have hv := sum16 v
  refine Eq.trans (congrArg₂ (· - ·) (congrArg (_ - ·) hv) hu) ?_
  rw [zero_f32]
  norm_cast

include hc in
theorem pay56_val (k : S16.Idx) : k0_pay56 c (k0_pay52 c) (k0_pay53 c) (k0_pay54 c) (k0_pay55 c) k = ((cB + 1 / 2 * ∑ k, w k : ℝ) : EReal) := by
  unfold k0_pay56 k0_pay52 k0_pay53 k0_pay54 k0_pay55
  dsimp only
  rw [extract_lane 0 c _ _ (by decide), extract_lane 1 c _ _ (by decide), extract_lane 2 c _ _ (by decide), extract_lane 3 c _ _ (by decide), extract_lane 4 c _ _ (by decide), extract_lane 5 c _ _ (by decide), extract_lane 6 c _ _ (by decide), extract_lane 7 c _ _ (by decide), extract_lane 8 c _ _ (by decide), extract_lane 9 c _ _ (by decide), extract_lane 10 c _ _ (by decide), extract_lane 11 c _ _ (by decide), extract_lane 12 c _ _ (by decide), extract_lane 13 c _ _ (by decide), extract_lane 14 c _ _ (by decide), extract_lane 15 c _ _ (by decide)]
  simp only [hc]
  show Ideal.ofBits .f32 0x00000000#32 + (Ideal.ofBits .f32 0x3A83126F#32 + Ideal.ofBits .f32 0x3F000000#32 * (_ + _ + _ + _ + _ + _ + _ + _ + _ + _ + _ + _ + _ + _ + _ + _ : EReal)) = _
  refine Eq.trans (congrArg (fun z => _ + (_ + _ * z)) (sum16 w)) ?_
  rw [zero_f32, half_f32, cB_f32]
  norm_cast
  ring_nf

include ha hb hc in
theorem tail_val (hw : ∀ k, 0 ≤ w k) (k : S16.Idx) :
    k0_pay1 (k0_pay51 a (k0_pay48 b) (k0_pay49 b) (k0_pay50 b))
      (k0_pay56 c (k0_pay52 c) (k0_pay53 c) (k0_pay54 c) (k0_pay55 c))
      (k0_pay57 c (k0_pay52 c) (k0_pay53 c) (k0_pay54 c) (k0_pay55 c))
      (k0_pay58 c (k0_pay52 c) (k0_pay53 c) (k0_pay54 c) (k0_pay55 c)) k
    = (((0 - ∑ k, v k) - ∑ k, u k + cC - cA * Real.log (cB + 1 / 2 * ∑ k, w k) : ℝ) : EReal) := by
  have h1 := pay51_val a b u v ha hb
  have h56 := pay56_val c w hc k
  have hpos : 0 < cB + 1 / 2 * ∑ k, w k := by
    have := cB_pos
    have := Finset.sum_nonneg fun k (_ : k ∈ Finset.univ) => hw k
    positivity
  generalize k0_pay51 a (k0_pay48 b) (k0_pay49 b) (k0_pay50 b) = p51 at h1 ⊢
  have h57 : k0_pay57 c (k0_pay52 c) (k0_pay53 c) (k0_pay54 c) (k0_pay55 c) k = ((Real.log (cB + 1 / 2 * ∑ k, w k) : ℝ) : EReal) := by
    show Ideal.log (k0_pay56 c (k0_pay52 c) (k0_pay53 c) (k0_pay54 c) (k0_pay55 c) k)
      + k0_pay56 c (k0_pay52 c) (k0_pay53 c) (k0_pay54 c) (k0_pay55 c) k
        * Ideal.exp (Ideal.ofBits .f32 0x00000000#32 - Ideal.log (k0_pay56 c (k0_pay52 c) (k0_pay53 c) (k0_pay54 c) (k0_pay55 c) k))
      - Ideal.ofBits .f32 0x3F800000#32 = _
    rw [h56, log_pos_coe hpos, zero_f32, one_f32, ← EReal.coe_sub, exp_coe]
    norm_cast
    exact newton hpos
  have h58 : k0_pay58 c (k0_pay52 c) (k0_pay53 c) (k0_pay54 c) (k0_pay55 c) k = ((0 - Real.log (cB + 1 / 2 * ∑ k, w k) : ℝ) : EReal) := by
    show Ideal.ofBits .f32 0x00000000#32 - k0_pay57 c (k0_pay52 c) (k0_pay53 c) (k0_pay54 c) (k0_pay55 c) k = _
    rw [h57, zero_f32]; norm_cast
  show (p51 + Ideal.ofBits .f32 0x4618EEA5#32)
    - Ideal.ofBits .f32 0x44FFE008#32 * (k0_pay57 c (k0_pay52 c) (k0_pay53 c) (k0_pay54 c) (k0_pay55 c) k
      + k0_pay56 c (k0_pay52 c) (k0_pay53 c) (k0_pay54 c) (k0_pay55 c) k * Ideal.exp (k0_pay58 c (k0_pay52 c) (k0_pay53 c) (k0_pay54 c) (k0_pay55 c) k)
      - Ideal.ofBits .f32 0x3F800000#32) = _
  rw [h56, h57, h58, h1, cA_f32, cC_f32, one_f32, exp_coe]
  have h := newton hpos
  norm_cast
  rw [h]

end Tail

include hX hY in
/-- Every lane of the staged vector holds the row's result. -/
theorem rowOut_val (k : S16.Idx) : rowOut X Y k = ((rowReal x y : ℝ) : EReal) := by
  have hs := fun k : Fin 16 => sums_val x y X Y hX hY 256 le_rfl (lane k)
  unfold rowOut rowReal
  rw [trips11]
  rw [tail_val _ _ _ (fun k => ∑ t ∈ Finset.range 256, gT x y (16 * t + k.val)) (fun k => ∑ t ∈ Finset.range 256, y (16 * t + k.val))
    (fun k => ∑ t ∈ Finset.range 256, gS y (16 * t + k.val)) (fun k => (hs k).1) (fun k => (hs k).2.1) (fun k => (hs k).2.2)
    (fun k => Finset.sum_nonneg fun t _ => mul_self_nonneg _), lanes, lanes, lanes]

end Cert.Proof.RowValue

end
-- ==== Proof.RefValue.lean ====
/-
  The reference's result, row by row, as a real: the sums over a row in descending order of height, of which only the
  first 4095 places count.
-/
module

public import proofs.«01_k».proof.Proof.Reads
public import proofs.«01_k».proof.Proof.Order
public import proofs.«01_k».proof.Proof.RowValue

@[expose] public section

noncomputable section

namespace Cert.Proof.RefValue

open Cert.ReferenceIdeal Cert.ReferenceIdeal.Gen Cert.Proof.Stages Cert.Proof.Reads Cert.Proof.RowValue
open Cert.Proof.Order (val)
open Idealize.ShloMosaic Idealize.ShloMosaic.TcCoe Idealize.ShloMosaic.ValueIdx
open scoped BigOperators

/-! ## The order -/

/-- A row's words. -/
abbrev words (w : IVec S16x8191 32) (r : Fin 16) : Fin 8191 → BitVec 32 := fun n => w (ix2 r n)

/-- Which of two entries of a row comes first: the higher. -/
def before (w : IVec S16x8191 32) (r : Fin 16) (k k' : Fin 8191) : Bool := decide (val (words w r) k' < val (words w r) k)

/-- Which entry of a row stands at each place in descending order. -/
def perm (w : IVec S16x8191 32) (r : Fin 16) : Fin 8191 → Fin 8191 := sortedFrom (before w r)

theorem perm_inj (w : IVec S16x8191 32) (r : Fin 16) : Function.Injective (perm w r) := sortedFrom_injective _

theorem perm_desc (w : IVec S16x8191 32) (r : Fin 16) (n m : Fin 8191) (h : n < m) :
    val (words w r) (perm w r m) ≤ val (words w r) (perm w r n) := by
  have := sortedFrom_noInversion (before w r) (before w r)
    (fun a b e => by
      have := of_decide_eq_true e
      exact decide_eq_false (not_lt.mpr this.le))
    (fun _ _ e => e)
    (fun a b c e e' => by
      have h1 := not_lt.mp (of_decide_eq_false e)
      have h2 := not_lt.mp (of_decide_eq_false e')
      exact decide_eq_false (not_lt.mpr (h1.trans h2))) n m h
  exact not_lt.mp (of_decide_eq_false this)

theorem canon (x : EReal) :
    Scalar.select (FloatOps.cmpf (F := Ideal) (φ := .f32) .une x x) (Ideal.ofBits .f32 0x7FC00000#32)
      (Scalar.select (FloatOps.cmpf (F := Ideal) (φ := .f32) .oeq x (Ideal.ofBits .f32 0x00000000#32)) (Ideal.ofBits .f32 0x00000000#32) x) = x := by
  have h1 : FloatOps.cmpf (F := Ideal) (φ := .f32) .une x x = 0#1 := by
    show BitVec.ofBool (decide (x ≠ x)) = 0#1
    simp
  rw [h1]
  show Scalar.select _ _ x = x
  by_cases h : x = Ideal.ofBits .f32 0x00000000#32
  · rw [← h]
    unfold Scalar.select
    split <;> rfl
  · have h2 : FloatOps.cmpf (F := Ideal) (φ := .f32) .oeq x (Ideal.ofBits .f32 0x00000000#32) = 0#1 := by
      show BitVec.ofBool (decide (x = Ideal.ofBits .f32 0x00000000#32)) = 0#1
      rw [decide_eq_false h]; rfl
    rw [h2]
    rfl

theorem compare_eq (x y : EReal) (a b : BitVec 32) :
    (comparator_f32_i32_d1 (F := Ideal) (-x, a) (-y, b) == 1#1) = decide (y < x) := by
  have h : comparator_f32_i32_d1 (F := Ideal) (-x, a) (-y, b) = BitVec.ofBool (decide (-x < -y)) := by
    exact congrArg₂ (fun p q => BitVec.ofBool (decide (p < q))) (canon (-x)) (canon (-y))
  rw [h]
  by_cases e : y < x
  · rw [decide_eq_true e, decide_eq_true (EReal.neg_lt_neg_iff.mpr e)]; rfl
  · rw [decide_eq_false e, decide_eq_false (fun h => e (EReal.neg_lt_neg_iff.mp h))]; rfl

theorem order_apply (w : IVec S16x8191 32) (r : Fin 16) (n : Fin 8191) : order w (ix2 r n) = BitVec.ofNat 32 (perm w r n).val := by
  have e : ∀ k : Fin 8191, (ix2 r n : S16x8191.Idx).along 1 k = ix2 r k := fun k => funext fun a => by
    match a with
    | ⟨0, _⟩ => rfl
    | ⟨1, _⟩ => rfl
  have hb : (fun k k' : Fin 8191 => comparator_f32_i32_d1 (F := Ideal)
      (Host.negf (heights w) ((ix2 r n : S16x8191.Idx).along 1 k), iotaInDim S16x8191 32 1 ((ix2 r n : S16x8191.Idx).along 1 k))
      (Host.negf (heights w) ((ix2 r n : S16x8191.Idx).along 1 k'), iotaInDim S16x8191 32 1 ((ix2 r n : S16x8191.Idx).along 1 k')) == 1#1)
      = before w r := by
    funext k k'
    rw [e, e]
    exact compare_eq _ _ _ _
  refine Eq.trans (congrArg (fun b => iotaInDim S16x8191 32 1 ((ix2 r n : S16x8191.Idx).along 1 (sortedFrom b n))) hb) ?_
  show iotaInDim S16x8191 32 1 ((ix2 r n : S16x8191.Idx).along 1 (perm w r n)) = _
  rw [e]
  rfl

theorem front_apply (x : FVec Ideal S16x8191 .f32) (r : Fin 16) (n : Fin 8190) : front x (ix2 r n) = x (ix2 r ⟨n.val, by omega⟩) :=
  congrArg x (funext fun a => Fin.ext (by
    match a with
    | ⟨0, _⟩ => exact Nat.zero_add _
    | ⟨1, _⟩ => exact Nat.zero_add _))

theorem back_apply (x : FVec Ideal S16x8191 .f32) (r : Fin 16) (n : Fin 8190) : back x (ix2 r n) = x (ix2 r ⟨n.val + 1, by omega⟩) :=
  congrArg x (funext fun a => Fin.ext (by
    match a with
    | ⟨0, _⟩ => exact Nat.zero_add _
    | ⟨1, _⟩ => exact Nat.add_comm _ _))

/-! ## A row's values -/

section Row

variable (lp : FVec Ideal S16x4095 .f32) (w : IVec S16x8191 32) (ev : FVec Ideal S16x8191 .f32) (r : Fin 16)
variable (hc : ∀ (r : Fin 16) (n : Fin 8191), n.val < 4095 → 1031798784 ≤ (w (ix2 r n)).toNat ∧ (w (ix2 r n)).toNat < 1166016512)
variable (ht : ∀ (r : Fin 16) (n : Fin 8191), 4095 ≤ n.val → w (ix2 r n) = 0#32)
variable (hec : ∀ (r : Fin 16) (n : Fin 8191), n.val < 4095 → ev (ix2 r n) = ((1 : ℝ) : EReal))
variable (het : ∀ (r : Fin 16) (n : Fin 8191), 4095 ≤ n.val → ev (ix2 r n) = ((-1 : ℝ) : EReal))
variable (l : Fin 16 → ℕ → ℝ) (hl : ∀ (r : Fin 16) (n : Fin 4095), lp (ix2 r n) = ((l r n.val : ℝ) : EReal))

theorem coe_sum (f : ℕ → ℝ) (N : ℕ) : ∑ n ∈ Finset.range N, ((f n : ℝ) : EReal) = ((∑ n ∈ Finset.range N, f n : ℝ) : EReal) := by
  induction N with
  | zero => simp
  | succ N ih => rw [Finset.sum_range_succ, Finset.sum_range_succ, ih, EReal.coe_add]

/-- A row's heights in descending order, as reals. -/
def H (n : ℕ) : ℝ := if h : n < 8191 then (val (words w r) (perm w r ⟨n, h⟩)).toReal else 0

include hc ht in
theorem H_val (n : Fin 8191) : val (words w r) (perm w r n) = ((H w r n.val : ℝ) : EReal) := by
  unfold H
  rw [dif_pos n.isLt]
  by_cases h : (perm w r n).val < 4095
  · rw [Order.val_coal (words w r) (hc r) _ h, EReal.toReal_coe]
  · rw [Order.val_tip (words w r) (ht r) _ (by omega), EReal.toReal_coe]

include hc ht in
theorem H_tip (n : ℕ) (h : 4095 ≤ n) : H w r n = 0 := by
  unfold H
  split
  · next hn =>
    rw [Order.val_tip (words w r) (ht r) _ (Order.tip_last (words w r) (hc r) (ht r) _ (perm_inj w r) (perm_desc w r) ⟨n, hn⟩ h), EReal.toReal_coe]
  · rfl

include hc ht in
theorem heights_apply (n : Fin 8191) : taken (heights w) (order w) (ix2 r n) = ((H w r n.val : ℝ) : EReal) :=
  (taken_apply (heights w) (order w) (perm w) (order_apply w) r n).trans (H_val w r hc ht n)

include hc ht hec het in
theorem events_apply (n : Fin 8190) :
    front (taken ev (order w)) (ix2 r n) = (((if n.val < 4095 then 1 else -1 : ℝ) : ℝ) : EReal) := by
  have hn := n.isLt
  rw [front_apply, taken_apply ev (order w) (perm w) (order_apply w)]
  by_cases h : n.val < 4095
  · rw [if_pos h, hec r _ (Order.coal_first (words w r) (hc r) (ht r) _ (perm_inj w r) (perm_desc w r) _ h)]
  · rw [if_neg h, het r _ (Order.tip_last (words w r) (hc r) (ht r) _ (perm_inj w r) (perm_desc w r) _ (by show 4095 ≤ n.val; omega))]

variable (e : FVec Ideal S16x8190 .f32) (he : ∀ (r : Fin 16) (n : Fin 8190), e (ix2 r n) = (((if n.val < 4095 then 1 else -1 : ℝ) : ℝ) : EReal))

/-- The lineages at a place. -/
def lin (j : ℕ) : ℝ := 1 + ∑ n ∈ Finset.range (j + 1), (if n < 4095 then 1 else -1 : ℝ)

theorem lin_coal (j : ℕ) (h : j < 4095) : lin j = (j : ℝ) + 2 := by
  unfold lin
  rw [Finset.sum_congr rfl fun n hn => if_pos (by have := Finset.mem_range.1 hn; omega)]
  simp; ring

include he in
theorem pairs_apply (n : Fin 8190) :
    pairs e (ix2 r n) = ((lin n.val * (lin n.val - 1) * (1 / 2) : ℝ) : EReal) := by
  have h1 : lineages e (ix2 r n) = ((lin n.val : ℝ) : EReal) := by
    show Ideal.ofBits .f32 0x3F800000#32 + running e (ix2 r n) = _
    rw [running_apply _ r (fun n => (((if n < 4095 then 1 else -1 : ℝ) : ℝ) : EReal)) (he r) n, coe_sum, one_f32]
    rw [← EReal.coe_add]; rfl
  show Ideal.div (lineages e (ix2 r n) * (lineages e (ix2 r n) - Ideal.ofBits .f32 0x3F800000#32))
    (Ideal.ofBits .f32 0x40000000#32) = _
  rw [h1, one_f32, two_f32, ← EReal.coe_sub, ← EReal.coe_mul]
  unfold Ideal.div
  rw [if_neg (by norm_cast), ← EReal.coe_inv, ← EReal.coe_mul]
  norm_num

include he in
theorem isCoal_apply (n : Fin 8190) : isCoal e (ix2 r n) = if n.val < 4095 then 1#1 else 0#1 := by
  show BitVec.ofBool (decide (e (ix2 r n) = Ideal.ofBits .f32 0x3F800000#32)) = _
  rw [he r, one_f32]
  by_cases h : n.val < 4095
  · rw [if_pos h, if_pos h]; simp
  · rw [if_neg h, if_neg h]
    rw [decide_eq_false (by rw [EReal.coe_eq_coe_iff]; norm_num)]; rfl

theorem count_eq (m : ℕ) : ∑ n ∈ Finset.range m, (if n < 4095 then 1#32 else 0#32) = BitVec.ofNat 32 (min m 4095) := by
  induction m with
  | zero => rfl
  | succ m ih =>
    rw [Finset.sum_range_succ, ih]
    split
    · rw [min_eq_left (by omega), min_eq_left (by omega), BitVec.ofNat_add]
    · rw [min_eq_right (by omega), min_eq_right (by omega), BitVec.add_zero]

include he in
theorem which_apply (n : Fin 8190) : which e (ix2 r n) = BitVec.ofNat 32 (min n.val 4094) := by
  have h : runningI (extui 32 (isCoal e) natLt_1_32) (ix2 r n) = BitVec.ofNat 32 (min (n.val + 1) 4095) := by
    rw [runningI_apply _ r (fun n => if n < 4095 then 1#32 else 0#32) (fun n => ?_) n, count_eq]
    show (isCoal e (ix2 r n)).setWidth 32 = _
    rw [isCoal_apply r e he]
    split <;> rfl
  show runningI (extui 32 (isCoal e) natLt_1_32) (ix2 r n) - 1#32 = _
  rw [h, show min (n.val + 1) 4095 = min n.val 4094 + 1 by omega, BitVec.ofNat_add, BitVec.add_sub_cancel]

include he hl in
theorem sizes_apply (n : Fin 8190) :
    taken' lp (which e) (ix2 r n) = ((l r (min n.val 4094) : ℝ) : EReal) := by
  rw [taken'_apply lp (which e) (fun _ n => ⟨min n.val 4094, by omega⟩) (fun r n => which_apply r e he n), hl]

include hl in
theorem rough_apply : rough lp (ix1 r) = ((∑ n ∈ Finset.range 4094, (l r (n + 1) - l r n) * (l r (n + 1) - l r n) : ℝ) : EReal) := by
  unfold rough
  rw [rough_sum _ r (fun n => (((l r (n + 1) - l r n) * (l r (n + 1) - l r n) : ℝ) : EReal)) (fun n => ?_), coe_sum]
  have hn := n.isLt
  have h : steps lp (ix2 r n) = ((l r (n.val + 1) - l r n.val : ℝ) : EReal) := by
    have e1 : extractStridedSlice S16x4094 ![0, 1] lp slices_S16x4095_S16x4094_0_1 (ix2 r n) = lp (ix2 r ⟨n.val + 1, by omega⟩) :=
      congrArg lp (funext fun a => Fin.ext (by
        match a with
        | ⟨0, _⟩ => exact Nat.zero_add _
        | ⟨1, _⟩ => exact Nat.add_comm _ _))
    have e0 : extractStridedSlice S16x4094 ![0, 0] lp slices_S16x4095_S16x4094_0_0 (ix2 r n) = lp (ix2 r ⟨n.val, by omega⟩) :=
      congrArg lp (funext fun a => Fin.ext (by
        match a with
        | ⟨0, _⟩ => exact Nat.zero_add _
        | ⟨1, _⟩ => exact Nat.zero_add _))
    show extractStridedSlice S16x4094 ![0, 1] lp slices_S16x4095_S16x4094_0_1 (ix2 r n)
      - extractStridedSlice S16x4094 ![0, 0] lp slices_S16x4095_S16x4094_0_0 (ix2 r n) = _
    rw [e1, e0, hl, hl, ← EReal.coe_sub]
  show steps lp (ix2 r n) * steps lp (ix2 r n) = _
  rw [h, ← EReal.coe_mul]

/-- The reference's result of a row, over the reals. -/
def refReal : ℝ :=
  ((∑ n ∈ Finset.range 8190, if n < 4095 then -l r (min n 4094) else 0)
      - ∑ n ∈ Finset.range 8190, Real.exp (-l r (min n 4094)) * (H w r n - H w r (n + 1)) * (lin n * (lin n - 1) * (1 / 2)))
    + (cC - cA * Real.log (cB + 1 / 2 * ∑ n ∈ Finset.range 4094, (l r (n + 1) - l r n) * (l r (n + 1) - l r n)))

include he hl in
theorem density_val (h : FVec Ideal S16x8191 .f32) (hh : ∀ n : Fin 8191, h (ix2 r n) = ((H w r n.val : ℝ) : EReal))
    (p : FVec Ideal S16x8190 .f32) (hp : ∀ n : Fin 8190, p (ix2 r n) = ((l r (min n.val 4094) : ℝ) : EReal)) :
    density h e p lp (ix1 r) = ((refReal w r l : ℝ) : EReal) := by
  have h1 : total (select (isCoal e) (Host.negf p)
      (broadcastInDim S16x8190 ![] bcast_S_S16x8190 (id (constant S_ .f32 0x00000000#32)))) (ix1 r)
      = ((∑ n ∈ Finset.range 8190, (if n < 4095 then -l r (min n 4094) else 0) : ℝ) : EReal) := by
    rw [total_apply _ r (fun n => (((if n < 4095 then -l r (min n 4094) else 0 : ℝ) : ℝ) : EReal)) (fun n => ?_), coe_sum]
    show Scalar.select (isCoal e (ix2 r n)) (-(p (ix2 r n)))
      (Ideal.ofBits .f32 0x00000000#32) = _
    rw [isCoal_apply r e he, hp, zero_f32]
    by_cases h' : n.val < 4095
    · rw [if_pos h', if_pos h']; rfl
    · rw [if_neg h', if_neg h']; rfl
  have h2 : total (mulf (mulf (Host.exp (Host.negf p))
        (subf (front h) (back h))) (pairs e)) (ix1 r)
      = ((∑ n ∈ Finset.range 8190, Real.exp (-l r (min n 4094)) * (H w r n - H w r (n + 1)) * (lin n * (lin n - 1) * (1 / 2)) : ℝ) : EReal) := by
    rw [total_apply _ r (fun n => ((Real.exp (-l r (min n 4094)) * (H w r n - H w r (n + 1)) * (lin n * (lin n - 1) * (1 / 2)) : ℝ) : EReal))
      (fun n => ?_), coe_sum]
    have hn := n.isLt
    show (Ideal.exp (-(p (ix2 r n)))
      * (front h (ix2 r n) - back h (ix2 r n)))
      * pairs e (ix2 r n) = _
    rw [hp, front_apply, back_apply, hh, hh,
      pairs_apply r e he, ← EReal.coe_neg, exp_coe, ← EReal.coe_sub, ← EReal.coe_mul, ← EReal.coe_mul]
  have hs : 0 ≤ ∑ n ∈ Finset.range 4094, (l r (n + 1) - l r n) * (l r (n + 1) - l r n) :=
    Finset.sum_nonneg fun n _ => mul_self_nonneg _
  have hpos : 0 < cB + 1 / 2 * ∑ n ∈ Finset.range 4094, (l r (n + 1) - l r n) * (l r (n + 1) - l r n) := by
    have := cB_pos; linarith
  unfold density
  show (total _ (ix1 r) - total _ (ix1 r)) + (Ideal.ofBits .f32 0x4618EEA5#32 - Ideal.ofBits .f32 0x44FFE008#32
    * Ideal.log (Ideal.ofBits .f32 0x3A83126F#32 + Ideal.ofBits .f32 0x3F000000#32 * rough lp (ix1 r))) = _
  rw [h1, h2, rough_apply lp r l hl, cC_f32, cA_f32, cB_f32, half_f32, ← EReal.coe_mul, ← EReal.coe_add, log_pos_coe hpos,
    ← EReal.coe_mul, ← EReal.coe_sub, ← EReal.coe_sub, ← EReal.coe_add]
  rfl

include hc ht hec het hl in
theorem result_val : result lp w ev (ix1 r) = ((refReal w r l : ℝ) : EReal) := by
  have he := fun r => events_apply w ev r hc ht hec het
  exact density_val lp w r l hl _ he _ (heights_apply w r hc ht) _ (sizes_apply lp r l hl _ he)

/-- The same real as the kernel's. -/
theorem refReal_eq (x y : ℕ → ℝ) (hx : ∀ n, n < 4095 → x (4103 - n) = H w r n) (h8 : x 8 = 0)
    (h0 : ∀ n, 4095 ≤ n → H w r n = 0) (hy : ∀ n, n < 4095 → y n = l r n) (hy' : y 4095 = 0) : refReal w r l = rowReal x y := by
  have e1 : (∑ n ∈ Finset.range 8190, if n < 4095 then -l r (min n 4094) else 0) = 0 - ∑ j ∈ Finset.range 4096, y j := by
    rw [show 8190 = 4095 + 4095 by rfl, Finset.sum_range_add, show 4096 = 4095 + 1 by rfl, Finset.sum_range_succ y, hy', add_zero, zero_sub,
      ← Finset.sum_neg_distrib, Finset.sum_eq_zero (s := Finset.range 4095) (f := fun n => if 4095 + n < 4095 then _ else _)
        (fun n _ => if_neg (by omega)), add_zero]
    refine Finset.sum_congr rfl fun n hn => ?_
    have hn := Finset.mem_range.1 hn
    rw [if_pos hn, min_eq_left (by omega), hy n hn]
  have e2 : ∑ n ∈ Finset.range 8190, Real.exp (-l r (min n 4094)) * (H w r n - H w r (n + 1)) * (lin n * (lin n - 1) * (1 / 2))
      = ∑ j ∈ Finset.range 4096, gT x y j := by
    rw [show 8190 = 4095 + 4095 by rfl, Finset.sum_range_add, show 4096 = 4095 + 1 by rfl, Finset.sum_range_succ (gT x y)]
    rw [Finset.sum_eq_zero (s := Finset.range 4095) (f := fun n => Real.exp (-l r (min (4095 + n) 4094)) * (H w r (4095 + n) - H w r (4095 + n + 1))
        * (lin (4095 + n) * (lin (4095 + n) - 1) * (1 / 2))) (fun n _ => by rw [h0 _ (by omega), h0 _ (by omega)]; ring)]
    have : gT x y 4095 = 0 := by unfold gT; rw [if_neg (by norm_num)]; ring
    rw [this]
    rw [add_zero, add_zero]
    refine Finset.sum_congr rfl fun n hn => ?_
    have hn := Finset.mem_range.1 hn
    have hx' : x (4102 - n) = H w r (n + 1) := by
      by_cases h : n + 1 < 4095
      · rw [← hx (n + 1) h]; exact congrArg x (by omega)
      · rw [h0 _ (by omega), show 4102 - n = 8 by omega, h8]
    unfold gT
    rw [if_pos (by omega), hx n hn, hx', hy n hn, lin_coal n hn, min_eq_left (by omega), zero_sub]
    ring
  have e3 : ∑ n ∈ Finset.range 4094, (l r (n + 1) - l r n) * (l r (n + 1) - l r n) = ∑ j ∈ Finset.range 4096, gS y j := by
    rw [show 4096 = 4094 + 1 + 1 by rfl, Finset.sum_range_succ (gS y), Finset.sum_range_succ (gS y)]
    have a : gS y 4094 = 0 := by unfold gS; rw [if_neg (by norm_num)]; ring
    have b : gS y (4094 + 1) = 0 := by unfold gS; rw [if_neg (by norm_num)]; ring
    rw [a, b, add_zero, add_zero]
    refine Finset.sum_congr rfl fun n hn => ?_
    have hn := Finset.mem_range.1 hn
    unfold gS
    rw [if_pos (by omega), hy n (by omega), hy (n + 1) (by omega)]
  unfold refReal rowReal
  rw [e1, e2, e3]
  ring

end Row

end Cert.Proof.RefValue

end
-- ==== Proof.Valid.lean ====
/-
  What the precondition says of each entry: the log populations are finite, the heights of the coalescences lie in the
  stated range and those of the tips are zero, and the events are the coalescences' and the tips'.
-/
module

public import proofs.«01_k».proof.Pre_valid
public import Idealize.ShloMosaic.Lib.IdealHost
public import Idealize.ShloMosaic.Lib.ReduceAll
public import Idealize.ShloMosaic.Lib.ValueIdx

@[expose] public section

noncomputable section

namespace Cert.Proof.Valid

open Cert.Pre_valid
open Idealize.ShloMosaic Idealize.ShloMosaic.ValueIdx

theorem and_one : ∀ a b : BitVec 1, IntOp.andi a b = 1#1 → a = 1#1 ∧ b = 1#1 := by decide

theorem of_bool {b : Bool} (h : BitVec.ofBool b = 1#1) : b = true := by
  cases b
  · exact absurd h (by decide)
  · rfl

theorem one_f32 : Ideal.ofBits .f32 0x3F800000#32 = ((1 : ℝ) : EReal) := by
  simp [Ideal.ofBits, Ideal.ieee, -EReal.coe_mul]; norm_num

theorem neg_one_f32 : Ideal.ofBits .f32 0xBF800000#32 = ((-1 : ℝ) : EReal) := by
  simp [Ideal.ofBits, Ideal.ieee, -EReal.coe_mul]; norm_num

theorem top_f32 : Ideal.ofBits .f32 0x7F800000#32 = ⊤ := by simp [Ideal.ofBits, Ideal.ieee]

theorem finite_of_abs {x : EReal} (h : max x (-x) < ⊤) : x = ((x.toReal : ℝ) : EReal) := by
  induction x with
  | bot => simp at h
  | top => simp at h
  | coe r => rw [EReal.toReal_coe]

variable [Cert.Pre_valid.Facts]

theorem of_valid (lp : FVec Ideal S16x4095 .f32) (w : IVec S16x8191 32) (ev : FVec Ideal S16x8191 .f32)
    (h : Cert.Pre_valid.fn (F := Ideal) lp w ev = fun _ => 1#1) :
    (∀ (r : Fin 16) (n : Fin 4095), lp (ix2 r n) = (((lp (ix2 r n)).toReal : ℝ) : EReal))
    ∧ (∀ (r : Fin 16) (n : Fin 8191), n.val < 4095 → 1031798784 ≤ (w (ix2 r n)).toNat ∧ (w (ix2 r n)).toNat < 1166016512)
    ∧ (∀ (r : Fin 16) (n : Fin 8191), 4095 ≤ n.val → w (ix2 r n) = 0#32)
    ∧ (∀ (r : Fin 16) (n : Fin 8191), n.val < 4095 → ev (ix2 r n) = ((1 : ℝ) : EReal))
    ∧ (∀ (r : Fin 16) (n : Fin 8191), 4095 ≤ n.val → ev (ix2 r n) = ((-1 : ℝ) : EReal)) := by
  haveI : Subsingleton S_.Idx := ⟨fun a b => funext fun i => i.elim0⟩
  have h0 := congrFun h ix0
  unfold Cert.Pre_valid.fn Cert.Pre_valid.fn_part1 at h0
  obtain ⟨h0, h26⟩ := and_one _ _ h0
  obtain ⟨h0, h21⟩ := and_one _ _ h0
  obtain ⟨h0, h16⟩ := and_one _ _ h0
  obtain ⟨h0, h12⟩ := and_one _ _ h0
  obtain ⟨h5, h8⟩ := and_one _ _ h0
  have e0 : ∀ {α : Type} (x : S16x8191.Idx → α) (hs : S16x8191.Slices ![0, 0] S16x4095) (r : Fin 16) (n : Fin 8191) (hn : n.val < 4095),
      extractStridedSlice S16x4095 ![0, 0] x hs (ix2 r ⟨n.val, hn⟩) = x (ix2 r n) := fun x hs r n hn =>
    congrArg x (funext fun a => Fin.ext (by
      match a with
      | ⟨0, _⟩ => exact Nat.zero_add _
      | ⟨1, _⟩ => exact Nat.zero_add _))
  have e1 : ∀ {α : Type} (x : S16x8191.Idx → α) (hs : S16x8191.Slices ![0, 4095] S16x4096) (r : Fin 16) (n : Fin 8191) (hn : 4095 ≤ n.val),
      extractStridedSlice S16x4096 ![0, 4095] x hs (ix2 r ⟨n.val - 4095, by omega⟩) = x (ix2 r n) := fun x hs r n hn =>
    congrArg x (funext fun a => Fin.ext (by
      match a with
      | ⟨0, _⟩ => exact Nat.zero_add _
      | ⟨1, _⟩ => exact Nat.add_sub_cancel' hn))
  refine ⟨fun r n => ?_, fun r n hn => ⟨?_, ?_⟩, fun r n hn => ?_, fun r n hn => ?_, fun r n hn => ?_⟩
  · have := of_decide_eq_true (of_bool (Host.reduce_andi_all _ _ _ _ _ h5 (ix2 r n)))
    have h' : max (lp (ix2 r n)) (-(lp (ix2 r n))) < Ideal.ofBits .f32 0x7F800000#32 := this
    rw [top_f32] at h'
    exact finite_of_abs h'
  · have := of_bool (Host.reduce_andi_all _ _ _ _ _ h8 (ix2 r ⟨n.val, hn⟩))
    have h' : (1031798784#32 : BitVec 32).sle (extractStridedSlice S16x4095 ![0, 0] w _ (ix2 r ⟨n.val, hn⟩)) = true := this
    rw [e0, BitVec.sle, decide_eq_true_eq, BitVec.toInt_eq_toNat_cond, BitVec.toInt_eq_toNat_cond] at h'
    have := (w (ix2 r n)).isLt
    simp only [BitVec.toNat_ofNat] at h'
    split_ifs at h' <;> omega
  · have := of_bool (Host.reduce_andi_all _ _ _ _ _ h8 (ix2 r ⟨n.val, hn⟩))
    have h' : (1031798784#32 : BitVec 32).sle (extractStridedSlice S16x4095 ![0, 0] w _ (ix2 r ⟨n.val, hn⟩)) = true := this
    have := of_bool (Host.reduce_andi_all _ _ _ _ _ h12 (ix2 r ⟨n.val, hn⟩))
    have h'' : (extractStridedSlice S16x4095 ![0, 0] w _ (ix2 r ⟨n.val, hn⟩)).slt (1166016512#32 : BitVec 32) = true := this
    rw [e0, BitVec.sle, decide_eq_true_eq, BitVec.toInt_eq_toNat_cond, BitVec.toInt_eq_toNat_cond] at h'
    rw [e0, BitVec.slt, decide_eq_true_eq, BitVec.toInt_eq_toNat_cond, BitVec.toInt_eq_toNat_cond] at h''
    have := (w (ix2 r n)).isLt
    simp only [BitVec.toNat_ofNat] at h' h''
    split_ifs at h' h'' <;> omega
  · have := of_bool (Host.reduce_andi_all _ _ _ _ _ h16 (ix2 r ⟨n.val - 4095, by omega⟩))
    have h' : (extractStridedSlice S16x4096 ![0, 4095] w _ (ix2 r ⟨n.val - 4095, by omega⟩) == 0#32) = true := this
    rw [e1 _ _ _ _ hn] at h'
    exact eq_of_beq h'
  · have := of_decide_eq_true (of_bool (Host.reduce_andi_all _ _ _ _ _ h21 (ix2 r ⟨n.val, hn⟩)))
    have h' : extractStridedSlice S16x4095 ![0, 0] ev _ (ix2 r ⟨n.val, hn⟩) = Ideal.ofBits .f32 0x3F800000#32 := this
    rw [e0, one_f32] at h'
    exact h'
  · have := of_decide_eq_true (of_bool (Host.reduce_andi_all _ _ _ _ _ h26 (ix2 r ⟨n.val - 4095, by omega⟩)))
    have h' : extractStridedSlice S16x4096 ![0, 4095] ev _ (ix2 r ⟨n.val - 4095, by omega⟩) = Ideal.ofBits .f32 0xBF800000#32 := this
    rw [e1 _ _ _ _ hn, neg_one_f32] at h'
    exact h'

end Cert.Proof.Valid

end
-- ==== Proof.Algebra.lean ====
/-
  The kernel's results and the reference's are the same reals.
-/
module

public import proofs.«01_k».proof.Proof.Frames
public import proofs.«01_k».proof.Proof.RefValue
public import proofs.«01_k».proof.Proof.Valid
public import proofs.«01_k».proof.Proof.Gen.Pre_valid

@[expose] public section

noncomputable section

namespace Cert.Proof.Algebra

open Cert.KernelIdeal Cert.KernelIdeal.Gen
open Cert.Proof.CountSort Cert.Proof.Loops Cert.Proof.Parts Cert.Proof.Tile Cert.Proof.Barrier Cert.Proof.Launch
open Cert.Proof.RefValue Cert.Proof.RowValue
open Idealize.ShloMosaic Idealize.ShloMosaic.TcCoe Idealize.ShloMosaic.ValueIdx Idealize.SL.Sem

variable (m : (ℓ : Loc nD τ sig) → Buf (Elt Ideal) ℓ) (d : Dev nD)

/-- The log populations at launch. -/
def lp0 : FVec Ideal S16x4095 .f32 := m ((d.tc : Thread nD τ).loc main_arg0)
/-- The heights' words at launch. -/
def w0 : IVec S16x8191 32 := m ((d.tc : Thread nD τ).loc main_arg1)
/-- The events at launch. -/
def ev0 : FVec Ideal S16x8191 .f32 := m ((d.tc : Thread nD τ).loc main_arg2)

/-- A row's log populations as reals. -/
def lr (r : Fin 16) (n : ℕ) : ℝ := if h : n < 4095 then (lp0 m d (ix2 r ⟨n, h⟩)).toReal else 0

/-- The kernel's keys are the words' keys. -/
theorem keys_eq (r : Fin 16) : (fun y => key (wRow d (VW0 m d) r y)) = Order.keys (words (w0 m d) r) := by
  funext y
  have hy : (y 0).val < 4096 := (y 0).isLt
  refine congrArg key ?_
  exact congrArg (w0 m d) (funext fun a => Fin.ext (by
    match a with
    | ⟨0, _⟩ => exact Nat.zero_add _
    | ⟨1, _⟩ => exact Nat.zero_add _))

theorem zero_bits : Ideal.ofBits .f32 0x00000000#32 = ((0 : ℝ) : EReal) := zero_f32

/-- The kernel's log populations, as their rows are laid out. -/
theorem pick (r : Fin 16) (n : ℕ) (h : n < 4096) : lRow d (VL0 m d) r (ix n h) =
    concatenate S16x4096 1 [⟨S16x4095, lp0 m d⟩, ⟨S16x1, broadcastInDim S16x1 ![] bcast_S_S16x1 (constant (F := Ideal) S_ .f32 0x00000000#32)⟩]
      concatenates_S16x4095_S16x1_S16x4096_d1 (ValueIdx.ix2 r (⟨n, h⟩ : Fin 4096)) :=
  congrArg (concatenate S16x4096 1 [⟨S16x4095, lp0 m d⟩, ⟨S16x1, broadcastInDim S16x1 ![] bcast_S_S16x1 (constant (F := Ideal) S_ .f32 0x00000000#32)⟩]
    concatenates_S16x4095_S16x1_S16x4096_d1) (funext fun a => by
      match a with
      | ⟨0, _⟩ => rfl
      | ⟨1, _⟩ => rfl)

/-- The kernel's log populations are the arguments', with a zero after. -/
theorem sizes_eq (hl : ∀ (r : Fin 16) (n : Fin 4095), lp0 m d (ix2 r n) = (((lp0 m d (ix2 r n)).toReal : ℝ) : EReal)) (r : Fin 16) (n : ℕ) :
    sizes (lRow d (VL0 m d) r) n = ((lr m d r n : ℝ) : EReal) := by
  unfold sizes lr
  by_cases h : n < 4095
  · rw [dif_pos (by omega), dif_pos h, ← hl]
    refine (pick m d r n (by omega)).trans ?_
    exact concatenate_pair_apply_left (t := S16x4096) (s₁ := S16x4095) (s₂ := S16x1) 1 (lp0 m d) _ concatenates_S16x4095_S16x1_S16x4096_d1
      (ValueIdx.ix2 r (⟨n, by omega⟩ : Fin 4096)) rfl (ix2 r ⟨n, h⟩) (fun b => by
        match b with
        | ⟨0, _⟩ => rfl
        | ⟨1, _⟩ => rfl)
  · rw [dif_neg h]
    split
    · next h' =>
      refine (pick m d r n h').trans (Eq.trans ?_ zero_bits)
      exact concatenate_pair_apply_right (t := S16x4096) (s₁ := S16x4095) (s₂ := S16x1) 1 (lp0 m d)
        (broadcastInDim S16x1 ![] bcast_S_S16x1 (constant (F := Ideal) S_ .f32 0x00000000#32)) concatenates_S16x4095_S16x1_S16x4096_d1
        (ValueIdx.ix2 r (⟨n, by omega⟩ : Fin 4096)) rfl rfl (ix2 r 0) (fun b hb => by
          match b with
          | ⟨0, _⟩ => rfl
          | ⟨1, _⟩ => exact absurd rfl hb) (by show 0 + 4095 = n; omega)
    · exact zero_bits

/-- The kernel's results are the reference's. -/
theorem values_eq (hv : Cert.Pre_valid.fn (F := Ideal) (lp0 m d) (w0 m d) (ev0 m d) = fun _ => 1#1) :
    OUT (VW0 m) (VL0 m) d = Stages.result (lp0 m d) (w0 m d) (ev0 m d) := by
  obtain ⟨hl, hc, ht, hec, het⟩ := Valid.of_valid (lp0 m d) (w0 m d) (ev0 m d) hv
  have hl' : ∀ (r : Fin 16) (n : Fin 4095), lp0 m d (ix2 r n) = ((lr m d r n.val : ℝ) : EReal) := fun r n => by
    unfold lr
    rw [dif_pos n.isLt]
    exact hl r n
  funext x
  have hx : ∀ r : Fin 16, rowVal (VW0 m) (VL0 m) d r (lane ⟨r.val % 8, by omega⟩) = Stages.result (lp0 m d) (w0 m d) (ev0 m d) (ix1 r) := fun r => by
    rw [result_val (lp0 m d) (w0 m d) (ev0 m d) r hc ht hec het (lr m d) hl']
    have hX : ∀ n, rowHts (VW0 m) d r n = (((hts (F := Ideal) (S3 (Order.keys (words (w0 m d) r))) n).toReal : ℝ) : EReal) := fun n => by
      unfold rowHts
      rw [keys_eq]
      exact Order.hts_real (words (w0 m d) r) n
    have hY := sizes_eq m d hl r
    refine (rowOut_val _ _ _ _ hX hY _).trans ?_
    have h1 : ∀ n, n < 4095 → (hts (F := Ideal) (S3 (Order.keys (words (w0 m d) r))) (4103 - n)).toReal = H (w0 m d) r n := fun n hn => by
      rw [Order.hts_agree (words (w0 m d) r) (hc r) (ht r) (perm (w0 m d) r) (perm_inj _ r) (perm_desc _ r) n hn]
      unfold H
      rw [dif_pos (by omega)]
    have h8 : (hts (F := Ideal) (S3 (Order.keys (words (w0 m d) r))) 8).toReal = 0 := by
      unfold hts
      rw [dif_neg (by omega)]
      show (Ideal.ofBits .f32 0x00000000#32).toReal = 0
      rw [zero_bits, EReal.toReal_coe]
    have h0 : lr m d r 4095 = 0 := by
      unfold lr
      rw [dif_neg (by omega)]
    exact congrArg (fun v : ℝ => (v : EReal)) (refReal_eq (w0 m d) r (lr m d)
      (fun n => (hts (F := Ideal) (S3 (Order.keys (words (w0 m d) r))) n).toReal) (lr m d r)
      h1 h8 (H_tip (w0 m d) r hc ht) (fun n _ => rfl) h0).symm
  exact (hx (x 0)).trans (congrArg (Stages.result (lp0 m d) (w0 m d) (ev0 m d)) (funext fun a => by
    match a with
    | ⟨0, _⟩ => rfl))

theorem algebraic : Cert.algebraic_KernelIdeal_ReferenceIdeal_pre_valid (hKernelIdeal := Cert.KernelIdeal.Gen.facts)
    (hReferenceIdeal := Cert.ReferenceIdeal.Gen.facts) (hPre_valid := Cert.Pre_valid.Gen.facts) := by
  intro m g m' g' hv hm
  refine ⟨fun c => OUT (VW0 m) (VL0 m) c, ?_, ?_⟩
  · exact (θ_run Cert.KernelIdeal.defs _ _).mono (fun _ h c => ⟨(h.1 c).2.2.2, (h.1 c).1, (h.1 c).2.1, (h.1 c).2.2.1⟩)
      (Launch.run_main (F := Ideal) m g)
  · refine (θ_run Cert.ReferenceIdeal.defs _ _).mono (fun r h c => ⟨?_, (h c).2⟩) (Cert.ReferenceIdeal.Value.run (F := Ideal) m' g')
    refine (h c).1.trans ((Stages.res_eq m' c).trans ?_)
    obtain ⟨h0, h1, h2⟩ := hm c
    refine Eq.trans ?_ (values_eq m c (hv c)).symm
    exact congr (congrArg₂ Stages.result h0 h1) h2

end Cert.Proof.Algebra

end
-- ==== Proof.lean ====
/-
  The claims assembled: the frames of the kernel at both readings and of the reference, that the kernel's idealization
  rewrites nothing, and that over the reals the kernel's results are the reference's.
-/
module

public import proofs.«01_k».proof.Defs
public import proofs.«01_k».proof.Proof.Algebra

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_valid.Gen.facts,
    Frames.frame_kernel, Frames.frame_kernelIdeal, fun m g _ => Frames.frame_kernelIdeal m g trivial,
    Frames.frame_referenceIdeal, fun m g _ => Frames.frame_referenceIdeal m g trivial, trivial, Algebra.algebraic⟩

end Cert.Proof

end
